-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_selected [hPre_selected : Cert.Pre_selected.Facts] (m : (ℓ : Loc Cert.KernelIdeal.nD Cert.KernelIdeal.τ Cert.KernelIdeal.sig) → Buf (Elt Ideal) ℓ) : Prop :=
  ∀ c : Dev Cert.KernelIdeal.nD,
    (Cert.Pre_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_selected [hPre_selected : Cert.Pre_selected.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_selected.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_selected [hKernelIdeal : Cert.KernelIdeal.Facts] [hPre_selected : Cert.Pre_selected.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_selected m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_selected [hReferenceIdeal : Cert.ReferenceIdeal.Facts] [hPre_selected : Cert.Pre_selected.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_selected m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "scale" .f32 0x3E38AA3B#32 (((8 * (Real.log 2))⁻¹ : ℝ) : EReal)
  ∧ IdealRules.named_const.Statement Cert.KernelIdeal.κ "masked" .f32 0xF1800000#32 ⊥
  ∧ IdealRules.named_const.Statement Cert.KernelIdeal.κ "unmask" .f32 0x71800000#32 ⊤

def algebraic_KernelIdeal_ReferenceIdeal_pre_selected [hKernelIdeal : Cert.KernelIdeal.Facts] [hReferenceIdeal : Cert.ReferenceIdeal.Facts] [hPre_selected : Cert.Pre_selected.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_selected m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)) (v2 : (c : Dev Cert.Kernel4Ideal.nD) → Buf (Elt Ideal) ((c.tc : Thread Cert.Kernel4Ideal.nD Cert.Kernel4Ideal.τ).loc Cert.Kernel4Ideal.main_v11_2)) (v3 : (c : Dev Cert.Kernel4Ideal.nD) → Buf (Elt Ideal) ((c.tc : Thread Cert.Kernel4Ideal.nD Cert.Kernel4Ideal.τ).loc Cert.Kernel4Ideal.main_v11_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_v11_2) = v2 c
          ∧ r.2.mem ((c.tc : Thread Cert.Kernel4Ideal.nD Cert.Kernel4Ideal.τ).loc Cert.Kernel4Ideal.main_v11_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v95) = v0 c
          ∧ r.2.mem ((c.tc : Thread Cert.Reference4Ideal.nD Cert.Reference4Ideal.τ).loc Cert.Reference4Ideal.main_v96) = v1 c
          ∧ r.2.mem ((c.tc : Thread Cert.Reference4Ideal.nD Cert.Reference4Ideal.τ).loc Cert.Reference4Ideal.main_v97) = v2 c
          ∧ r.2.mem ((c.tc : Thread Cert.Reference4Ideal.nD Cert.Reference4Ideal.τ).loc Cert.Reference4Ideal.main_v98) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_selected : Cert.Pre_selected.Facts),
    quiescent_Kernel (hKernel := hKernel)
    ∧ quiescent_KernelIdeal (hKernelIdeal := hKernelIdeal)
    ∧ quiescent_KernelIdeal_pre_selected (hKernelIdeal := hKernelIdeal) (hPre_selected := hPre_selected)
    ∧ quiescent_ReferenceIdeal (hReferenceIdeal := hReferenceIdeal)
    ∧ quiescent_ReferenceIdeal_pre_selected (hReferenceIdeal := hReferenceIdeal) (hPre_selected := hPre_selected)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_selected (hKernelIdeal := hKernelIdeal) (hReferenceIdeal := hReferenceIdeal) (hPre_selected := hPre_selected)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_selected.lean ====
abbrev S8x4096x1024 : Shape := ⟨3, ![8, 4096, 1024]⟩
abbrev S8x4096x256 : Shape := ⟨3, ![8, 4096, 256]⟩
abbrev S8x4096x4096 : Shape := ⟨3, ![8, 4096, 4096]⟩
abbrev S16x64x256 : Shape := ⟨3, ![16, 64, 256]⟩
abbrev S16x256x64 : Shape := ⟨3, ![16, 256, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S1x4096x4096 : Shape := ⟨3, ![1, 4096, 4096]⟩
abbrev S8x4096 : Shape := ⟨2, ![8, 4096]⟩

class Facts : Prop where
  natLt_8_32 : 8 < 32
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S8x4096x4096 : S_.BroadcastsInDim S8x4096x4096 (![] : Fin 0 → Fin S8x4096x4096.rank)
  bcast_S4096x4096_S1x4096x4096_1_2 : S4096x4096.BroadcastsInDim S1x4096x4096 (![1, 2] : Fin 2 → Fin S1x4096x4096.rank)
  bcast_S1x4096x4096_S8x4096x4096_0_1_2 : S1x4096x4096.BroadcastsInDim S8x4096x4096 (![0, 1, 2] : Fin 3 → Fin S8x4096x4096.rank)
  reducesTo_S8x4096x4096_S_d0_1_2 : S8x4096x4096.ReducesTo [0, 1, 2] S_
  h_S_ : 0 < S_.numel
  reducesTo_S8x4096x4096_S8x4096_d2 : S8x4096x4096.ReducesTo [2] S8x4096
  reducesTo_S8x4096_S_d0_1 : S8x4096.ReducesTo [0, 1] S_
  bitsLt_bf16_f32 : FTy.bits .bf16 < FTy.bits .f32
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x4096x256 : S_.BroadcastsInDim S8x4096x256 (![] : Fin 0 → Fin S8x4096x256.rank)
  reducesTo_S8x4096x256_S_d0_1_2 : S8x4096x256.ReducesTo [0, 1, 2] S_
  bcast_S_S16x64x256 : S_.BroadcastsInDim S16x64x256 (![] : Fin 0 → Fin S16x64x256.rank)
  reducesTo_S16x64x256_S_d0_1_2 : S16x64x256.ReducesTo [0, 1, 2] S_

variable [Facts]

def fn_part2 {F : FTy → Type} [FloatOps F] (main_v33 : IVec S_ 1) (main_v36 : IVec S16x64x256 1) : IVec S_ 1 :=
  let main_c_9 : IVec S_ 1 := constantI S_ 1 1#1
  let main_v37 : IVec S_ 1 := (fun x v => Host.reduce IntOp.andi x v reducesTo_S16x64x256_S_d0_1_2 h_S_) main_v36 main_c_9
  let main_v38 : IVec S_ 1 := andi main_v33 main_v37
  main_v38

def fn_part1 {F : FTy → Type} [FloatOps F] (main_arg0 : FVec F S8x4096x1024 .bf16) (main_arg1 : FVec F S8x4096x256 .bf16) (main_arg3 : FVec F S16x64x256 .f32) (main_v16 : IVec S_ 1) (main_v18 : IVec S8x4096x4096 1) (main_c_3 : IVec S_ 1) : IVec S_ 1 :=
  let main_v19 : IVec S8x4096 1 := (fun x v => Host.reduce IntOp.ori x v reducesTo_S8x4096x4096_S8x4096_d2 h_S_) main_v18 main_c_3
  let main_c_4 : IVec S_ 1 := constantI S_ 1 1#1
  let main_v20 : IVec S_ 1 := (fun x v => Host.reduce IntOp.andi x v reducesTo_S8x4096_S_d0_1 h_S_) main_v19 main_c_4
  let main_v21 : IVec S_ 1 := andi main_v16 main_v20
  let main_v22 : FVec F S8x4096x1024 .f32 := (extf .f32 · bitsLt_bf16_f32) main_arg0
  let main_v23 : FVec F S8x4096x1024 .f32 := Host.absf main_v22
  let main_cst : FVec F S_ .f32 := constant S_ .f32 0x7F800000#32
  let main_v24 : FVec F S8x4096x1024 .f32 := broadcastInDim S8x4096x1024 ![] bcast_S_S8x4096x1024 main_cst
  let main_v25 : IVec S8x4096x1024 1 := cmpf .olt main_v23 main_v24
  let main_c_5 : IVec S_ 1 := constantI S_ 1 1#1
  let main_v26 : IVec S_ 1 := (fun x v => Host.reduce IntOp.andi x v reducesTo_S8x4096x1024_S_d0_1_2 h_S_) main_v25 main_c_5
  let main_v27 : IVec S_ 1 := andi main_v21 main_v26
  let main_v28 : FVec F S8x4096x256 .f32 := (extf .f32 · bitsLt_bf16_f32) main_arg1
  let main_v29 : FVec F S8x4096x256 .f32 := Host.absf main_v28
  let main_cst_6 : FVec F S_ .f32 := constant S_ .f32 0x7F800000#32
  let main_v30 : FVec F S8x4096x256 .f32 := broadcastInDim S8x4096x256 ![] bcast_S_S8x4096x256 main_cst_6
  let main_v31 : IVec S8x4096x256 1 := cmpf .olt main_v29 main_v30
  let main_c_7 : IVec S_ 1 := constantI S_ 1 1#1
  let main_v32 : IVec S_ 1 := (fun x v => Host.reduce IntOp.andi x v reducesTo_S8x4096x256_S_d0_1_2 h_S_) main_v31 main_c_7
  let main_v33 : IVec S_ 1 := andi main_v27 main_v32
  let main_v34 : FVec F S16x64x256 .f32 := Host.absf main_arg3
  let main_cst_8 : FVec F S_ .f32 := constant S_ .f32 0x7F800000#32
  let main_v35 : FVec F S16x64x256 .f32 := broadcastInDim S16x64x256 ![] bcast_S_S16x64x256 main_cst_8
  let main_v36 : IVec S16x64x256 1 := cmpf .olt main_v34 main_v35
  fn_part2 (F := F) main_v33 main_v36

def fn {F : FTy → Type} [FloatOps F] (main_arg0 : FVec F S8x4096x1024 .bf16) (main_arg1 : FVec F S8x4096x256 .bf16) (main_arg2 : IVec S8x4096x4096 8) (main_arg3 : FVec F S16x64x256 .f32) (main_arg4 : FVec F S16x256x64 .f32) : IVec S_ 1 :=
  let main_v0 : IVec S8x4096x4096 32 := (extsi 32 · natLt_8_32) main_arg2
  let main_v1 : IVec S4096 32 := iotaInDim S4096 32 0
  let main_v2 : IVec S1x4096 32 := broadcastInDim S1x4096 ![1] bcast_S4096_S1x4096_1 main_v1
  let main_v3 : IVec S4096 32 := iotaInDim S4096 32 0
  let main_v4 : IVec S4096x1 32 := broadcastInDim S4096x1 ![0] bcast_S4096_S4096x1_0 main_v3
  let main_v5 : IVec S4096x4096 32 := broadcastInDim S4096x4096 ![0, 1] bcast_S1x4096_S4096x4096_0_1 main_v2
  let main_v6 : IVec S4096x4096 32 := broadcastInDim S4096x4096 ![0, 1] bcast_S4096x1_S4096x4096_0_1 main_v4
  let main_v7 : IVec S4096x4096 1 := cmpi .sle main_v5 main_v6
  let main_c : IVec S_ 32 := constantI S_ 32 0#32
  let main_v8 : IVec S8x4096x4096 32 := broadcastInDim S8x4096x4096 ![] bcast_S_S8x4096x4096 main_c
  let main_v9 : IVec S8x4096x4096 1 := cmpi .eq main_v0 main_v8
  let main_c_0 : IVec S_ 32 := constantI S_ 32 1#32
  let main_v10 : IVec S8x4096x4096 32 := broadcastInDim S8x4096x4096 ![] bcast_S_S8x4096x4096 main_c_0
  let main_v11 : IVec S8x4096x4096 1 := cmpi .eq main_v0 main_v10
  let main_v12 : IVec S1x4096x4096 1 := broadcastInDim S1x4096x4096 ![1, 2] bcast_S4096x4096_S1x4096x4096_1_2 main_v7
  let main_v13 : IVec S8x4096x4096 1 := broadcastInDim S8x4096x4096 ![0, 1, 2] bcast_S1x4096x4096_S8x4096x4096_0_1_2 main_v12
  let main_v14 : IVec S8x4096x4096 1 := andi main_v11 main_v13
  let main_v15 : IVec S8x4096x4096 1 := ori main_v9 main_v14
  let main_c_1 : IVec S_ 1 := constantI S_ 1 1#1
  let main_v16 : IVec S_ 1 := (fun x v => Host.reduce IntOp.andi x v reducesTo_S8x4096x4096_S_d0_1_2 h_S_) main_v15 main_c_1
  let main_c_2 : IVec S_ 32 := constantI S_ 32 1#32
  let main_v17 : IVec S8x4096x4096 32 := broadcastInDim S8x4096x4096 ![] bcast_S_S8x4096x4096 main_c_2
  let main_v18 : IVec S8x4096x4096 1 := cmpi .eq main_v0 main_v17
  let main_c_3 : IVec S_ 1 := constantI S_ 1 0#1
  fn_part1 (F := F) main_arg0 main_arg1 main_arg3 main_v16 main_v18 main_c_3
-- ==== Kernel.lean ====
abbrev S8x4096x1024 : Shape := ⟨3, ![8, 4096, 1024]⟩
abbrev S8x4096x256 : Shape := ⟨3, ![8, 4096, 256]⟩
abbrev S8x4096x4096 : Shape := ⟨3, ![8, 4096, 4096]⟩
abbrev S16x64x256 : Shape := ⟨3, ![16, 64, 256]⟩
abbrev S16x256x64 : Shape := ⟨3, ![16, 256, 64]⟩
abbrev S1x128x1024 : Shape := ⟨3, ![1, 128, 1024]⟩
abbrev S1x4096x256 : Shape := ⟨3, ![1, 4096, 256]⟩
abbrev S1x128x4096 : Shape := ⟨3, ![1, 128, 4096]⟩
abbrev S2048x256 : Shape := ⟨2, ![2048, 256]⟩
abbrev S2048x128 : Shape := ⟨2, ![2048, 128]⟩
abbrev S128x1024 : Shape := ⟨2, ![128, 1024]⟩
abbrev S128x64 : Shape := ⟨2, ![128, 64]⟩
abbrev S1x64x256 : Shape := ⟨3, ![1, 64, 256]⟩
abbrev S64x256 : Shape := ⟨2, ![64, 256]⟩
abbrev S128x256 : Shape := ⟨2, ![128, 256]⟩
abbrev S1x512x256 : Shape := ⟨3, ![1, 512, 256]⟩
abbrev S512x256 : Shape := ⟨2, ![512, 256]⟩
abbrev S1x128x512 : Shape := ⟨3, ![1, 128, 512]⟩
abbrev S128x512 : Shape := ⟨2, ![128, 512]⟩
abbrev S256x256 : Shape := ⟨2, ![256, 256]⟩
abbrev S256x512 : Shape := ⟨2, ![256, 512]⟩
abbrev S2x128x512 : Shape := ⟨3, ![2, 128, 512]⟩
abbrev S256x128 : Shape := ⟨2, ![256, 128]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S1x256x64 : Shape := ⟨3, ![1, 256, 64]⟩
abbrev S256x64 : Shape := ⟨2, ![256, 64]⟩
abbrev S128x1 : Shape := ⟨2, ![128, 1]⟩
abbrev S1x128x64 : Shape := ⟨3, ![1, 128, 64]⟩

abbrev nBuf : Space → Nat
  | .hbm => 8
  | .vmem => 14
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x256, .bf16⟩
  | .hbm, ⟨2, _⟩ => ⟨S8x4096x4096, .i8⟩
  | .hbm, ⟨3, _⟩ => ⟨S16x64x256, .f32⟩
  | .hbm, ⟨4, _⟩ => ⟨S16x256x64, .f32⟩
  | .hbm, ⟨5, _⟩ => ⟨S16x64x256, .bf16⟩
  | .hbm, ⟨6, _⟩ => ⟨S16x256x64, .bf16⟩
  | .hbm, ⟨7, _⟩ => ⟨S8x4096x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x128x4096, .i8⟩
  | .local _ .vmem, ⟨5, _⟩ => ⟨S1x128x4096, .i8⟩
  | .local _ .vmem, ⟨6, _⟩ => ⟨S16x64x256, .bf16⟩
  | .local _ .vmem, ⟨7, _⟩ => ⟨S16x256x64, .bf16⟩
  | .local _ .vmem, ⟨8, _⟩ => ⟨S1x128x1024, .bf16⟩
  | .local _ .vmem, ⟨9, _⟩ => ⟨S1x128x1024, .bf16⟩
  | .local _ .vmem, ⟨10, _⟩ => ⟨S2048x256, .bf16⟩
  | .local _ .vmem, ⟨11, _⟩ => ⟨S2048x128, .f32⟩
  | .local _ .vmem, ⟨12, _⟩ => ⟨S2048x128, .f32⟩
  | .local _ .vmem, ⟨13, _⟩ => ⟨S2048x256, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 32], ![false, false]⟩

@[reducible] def k0_t1_loop (i : grid0.Coords) : Scf.Loop 32 :=
  let c0_i32_106 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_99 : BitVec 32 := 0#32
  let v196 : BitVec 1 := Scalar.cmpi .sgt v20 c0_i32_99
  let v197 : BitVec 32 := Scalar.extui v196
  let c0_i32_100 : BitVec 32 := 0#32
  let v198 : BitVec 1 := Scalar.cmpi .slt v20 c0_i32_100
  let v199 : BitVec 32 := Scalar.extui v198
  let v200 : BitVec 32 := Scalar.subi v197 v199
  let c2_i32 : BitVec 32 := 2#32
  let c0_i32_101 : BitVec 32 := 0#32
  let v201 : BitVec 1 := Scalar.cmpi .sgt c2_i32 c0_i32_101
  let v202 : BitVec 32 := Scalar.extui v201
  let c0_i32_102 : BitVec 32 := 0#32
  let v203 : BitVec 1 := Scalar.cmpi .slt c2_i32 c0_i32_102
  let v204 : BitVec 32 := Scalar.extui v203
  let v205 : BitVec 32 := Scalar.subi v202 v204
  let v206 : BitVec 1 := Scalar.cmpi .ne v200 v205
  let v207 : BitVec 32 := Scalar.remsi v20 c2_i32
  let c0_i32_103 : BitVec 32 := 0#32
  let v208 : BitVec 1 := Scalar.cmpi .ne v207 c0_i32_103
  let v209 : BitVec 1 := Scalar.andi v206 v208
  let v195 : BitVec 32 := Scalar.divsi v20 c2_i32
  let c1_i32_104 : BitVec 32 := 1#32
  let v210 : BitVec 32 := Scalar.subi v195 c1_i32_104
  let v211 : BitVec 32 := Scalar.select v209 v210 v195
  let v212 : BitVec 32 := Scalar.subi v211 c0_i32_106
  let c1_i32_107 : BitVec 32 := 1#32
  let v214 : BitVec 32 := Scalar.divsi v212 c1_i32_107
  let v215 : BitVec 32 := Scalar.muli v214 c1_i32_107
  let v216 : BitVec 32 := Scalar.addi c0_i32_106 v215
  let c1_i32_108 : BitVec 32 := 1#32
  ⟨c0_i32_106, v216, c1_i32_108⟩
def k0_mult1 (i : grid0.Coords) (k0_t1 : Fin (k0_t1_loop i).trips) : BitVec 32 :=
  let c2_i32_260 : BitVec 32 := 2#32
  let c0_i32_106 : BitVec 32 := 0#32
  let c1_i32_108 : BitVec 32 := 1#32
  let arg12 : BitVec 32 := Scf.iv c0_i32_106 c1_i32_108 k0_t1
  let v429 : BitVec 32 := Scalar.muli c2_i32_260 arg12
  let c512_i32_261 : BitVec 32 := 512#32
  let v430 : BitVec 32 := Scalar.muli v429 c512_i32_261
  v430
def k0_off1 (i : grid0.Coords) (k0_t1 : Fin (k0_t1_loop i).trips) : Fin 3 → Nat :=
  let c0_262 : Index := 0#32
  let c2_i32_260 : BitVec 32 := 2#32
  let c0_i32_106 : BitVec 32 := 0#32
  let c1_i32_108 : BitVec 32 := 1#32
  let arg12 : BitVec 32 := Scf.iv c0_i32_106 c1_i32_108 k0_t1
  let v429 : BitVec 32 := Scalar.muli c2_i32_260 arg12
  let c512_i32_261 : BitVec 32 := 512#32
  let v430 : BitVec 32 := Scalar.muli v429 c512_i32_261
  let v431 : BitVec 32 := v430
  let v432 : Index := Scalar.indexCast v431
  let c0_263 : Index := 0#32
  ![0, v432.toNat, 0]
def k0_off2 (i : grid0.Coords) (k0_t1 : Fin (k0_t1_loop i).trips) : Fin 3 → Nat :=
  let c0_264 : Index := 0#32
  let c0_265 : Index := 0#32
  let c2_i32_260 : BitVec 32 := 2#32
  let c0_i32_106 : BitVec 32 := 0#32
  let c1_i32_108 : BitVec 32 := 1#32
  let arg12 : BitVec 32 := Scf.iv c0_i32_106 c1_i32_108 k0_t1
  let v429 : BitVec 32 := Scalar.muli c2_i32_260 arg12
  let c512_i32_261 : BitVec 32 := 512#32
  let v430 : BitVec 32 := Scalar.muli v429 c512_i32_261
  let v431 : BitVec 32 := v430
  let v435 : Index := Scalar.indexCast v431
  ![0, 0, v435.toNat]
def k0_mult2 (i : grid0.Coords) (k0_t1 : Fin (k0_t1_loop i).trips) : BitVec 32 :=
  let c2_i32_258 : BitVec 32 := 2#32
  let c0_i32_106 : BitVec 32 := 0#32
  let c1_i32_108 : BitVec 32 := 1#32
  let arg12 : BitVec 32 := Scf.iv c0_i32_106 c1_i32_108 k0_t1
  let v427 : BitVec 32 := Scalar.muli c2_i32_258 arg12
  let c1_i32_259 : BitVec 32 := 1#32
  let v428 : BitVec 32 := Scalar.addi v427 c1_i32_259
  let c512_i32_404 : BitVec 32 := 512#32
  let v860 : BitVec 32 := Scalar.muli v428 c512_i32_404
  v860
def k0_off3 (i : grid0.Coords) (k0_t1 : Fin (k0_t1_loop i).trips) : Fin 3 → Nat :=
  let c0_405 : Index := 0#32
  let c2_i32_258 : BitVec 32 := 2#32
  let c0_i32_106 : BitVec 32 := 0#32
  let c1_i32_108 : BitVec 32 := 1#32
  let arg12 : BitVec 32 := Scf.iv c0_i32_106 c1_i32_108 k0_t1
  let v427 : BitVec 32 := Scalar.muli c2_i32_258 arg12
  let c1_i32_259 : BitVec 32 := 1#32
  let v428 : BitVec 32 := Scalar.addi v427 c1_i32_259
  let c512_i32_404 : BitVec 32 := 512#32
  let v860 : BitVec 32 := Scalar.muli v428 c512_i32_404
  let v861 : BitVec 32 := v860
  let v862 : Index := Scalar.indexCast v861
  let c0_406 : Index := 0#32
  ![0, v862.toNat, 0]
def k0_off4 (i : grid0.Coords) (k0_t1 : Fin (k0_t1_loop i).trips) : Fin 3 → Nat :=
  let c0_407 : Index := 0#32
  let c0_408 : Index := 0#32
  let c2_i32_258 : BitVec 32 := 2#32
  let c0_i32_106 : BitVec 32 := 0#32
  let c1_i32_108 : BitVec 32 := 1#32
  let arg12 : BitVec 32 := Scf.iv c0_i32_106 c1_i32_108 k0_t1
  let v427 : BitVec 32 := Scalar.muli c2_i32_258 arg12
  let c1_i32_259 : BitVec 32 := 1#32
  let v428 : BitVec 32 := Scalar.addi v427 c1_i32_259
  let c512_i32_404 : BitVec 32 := 512#32
  let v860 : BitVec 32 := Scalar.muli v428 c512_i32_404
  let v861 : BitVec 32 := v860
  let v865 : Index := Scalar.indexCast v861
  ![0, 0, v865.toNat]
@[reducible] def k0_t2_loop (i : grid0.Coords) : Scf.Loop 32 :=
  let c0_i32_106 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_99 : BitVec 32 := 0#32
  let v196 : BitVec 1 := Scalar.cmpi .sgt v20 c0_i32_99
  let v197 : BitVec 32 := Scalar.extui v196
  let c0_i32_100 : BitVec 32 := 0#32
  let v198 : BitVec 1 := Scalar.cmpi .slt v20 c0_i32_100
  let v199 : BitVec 32 := Scalar.extui v198
  let v200 : BitVec 32 := Scalar.subi v197 v199
  let c2_i32 : BitVec 32 := 2#32
  let c0_i32_101 : BitVec 32 := 0#32
  let v201 : BitVec 1 := Scalar.cmpi .sgt c2_i32 c0_i32_101
  let v202 : BitVec 32 := Scalar.extui v201
  let c0_i32_102 : BitVec 32 := 0#32
  let v203 : BitVec 1 := Scalar.cmpi .slt c2_i32 c0_i32_102
  let v204 : BitVec 32 := Scalar.extui v203
  let v205 : BitVec 32 := Scalar.subi v202 v204
  let v206 : BitVec 1 := Scalar.cmpi .ne v200 v205
  let v207 : BitVec 32 := Scalar.remsi v20 c2_i32
  let c0_i32_103 : BitVec 32 := 0#32
  let v208 : BitVec 1 := Scalar.cmpi .ne v207 c0_i32_103
  let v209 : BitVec 1 := Scalar.andi v206 v208
  let v195 : BitVec 32 := Scalar.divsi v20 c2_i32
  let c1_i32_104 : BitVec 32 := 1#32
  let v210 : BitVec 32 := Scalar.subi v195 c1_i32_104
  let v211 : BitVec 32 := Scalar.select v209 v210 v195
  let v212 : BitVec 32 := Scalar.subi v211 c0_i32_106
  let c1_i32_107 : BitVec 32 := 1#32
  let v214 : BitVec 32 := Scalar.divsi v212 c1_i32_107
  let v215 : BitVec 32 := Scalar.muli v214 c1_i32_107
  let v216 : BitVec 32 := Scalar.addi c0_i32_106 v215
  let v213 : BitVec 32 := Scalar.addi c0_i32_106 v212
  let c1_i32_109 : BitVec 32 := 1#32
  ⟨v216, v213, c1_i32_109⟩
def k0_mult3 (i : grid0.Coords) (k0_t2 : Fin (k0_t2_loop i).trips) : BitVec 32 :=
  let c2_i32_260 : BitVec 32 := 2#32
  let c0_i32_106 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_99 : BitVec 32 := 0#32
  let v196 : BitVec 1 := Scalar.cmpi .sgt v20 c0_i32_99
  let v197 : BitVec 32 := Scalar.extui v196
  let c0_i32_100 : BitVec 32 := 0#32
  let v198 : BitVec 1 := Scalar.cmpi .slt v20 c0_i32_100
  let v199 : BitVec 32 := Scalar.extui v198
  let v200 : BitVec 32 := Scalar.subi v197 v199
  let c2_i32 : BitVec 32 := 2#32
  let c0_i32_101 : BitVec 32 := 0#32
  let v201 : BitVec 1 := Scalar.cmpi .sgt c2_i32 c0_i32_101
  let v202 : BitVec 32 := Scalar.extui v201
  let c0_i32_102 : BitVec 32 := 0#32
  let v203 : BitVec 1 := Scalar.cmpi .slt c2_i32 c0_i32_102
  let v204 : BitVec 32 := Scalar.extui v203
  let v205 : BitVec 32 := Scalar.subi v202 v204
  let v206 : BitVec 1 := Scalar.cmpi .ne v200 v205
  let v207 : BitVec 32 := Scalar.remsi v20 c2_i32
  let c0_i32_103 : BitVec 32 := 0#32
  let v208 : BitVec 1 := Scalar.cmpi .ne v207 c0_i32_103
  let v209 : BitVec 1 := Scalar.andi v206 v208
  let v195 : BitVec 32 := Scalar.divsi v20 c2_i32
  let c1_i32_104 : BitVec 32 := 1#32
  let v210 : BitVec 32 := Scalar.subi v195 c1_i32_104
  let v211 : BitVec 32 := Scalar.select v209 v210 v195
  let v212 : BitVec 32 := Scalar.subi v211 c0_i32_106
  let c1_i32_107 : BitVec 32 := 1#32
  let v214 : BitVec 32 := Scalar.divsi v212 c1_i32_107
  let v215 : BitVec 32 := Scalar.muli v214 c1_i32_107
  let v216 : BitVec 32 := Scalar.addi c0_i32_106 v215
  let c1_i32_109 : BitVec 32 := 1#32
  let arg12 : BitVec 32 := Scf.iv v216 c1_i32_109 k0_t2
  let v429 : BitVec 32 := Scalar.muli c2_i32_260 arg12
  let c512_i32_261 : BitVec 32 := 512#32
  let v430 : BitVec 32 := Scalar.muli v429 c512_i32_261
  v430
def k0_off5 (i : grid0.Coords) (k0_t2 : Fin (k0_t2_loop i).trips) : Fin 3 → Nat :=
  let c0_262 : Index := 0#32
  let c2_i32_260 : BitVec 32 := 2#32
  let c0_i32_106 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_99 : BitVec 32 := 0#32
  let v196 : BitVec 1 := Scalar.cmpi .sgt v20 c0_i32_99
  let v197 : BitVec 32 := Scalar.extui v196
  let c0_i32_100 : BitVec 32 := 0#32
  let v198 : BitVec 1 := Scalar.cmpi .slt v20 c0_i32_100
  let v199 : BitVec 32 := Scalar.extui v198
  let v200 : BitVec 32 := Scalar.subi v197 v199
  let c2_i32 : BitVec 32 := 2#32
  let c0_i32_101 : BitVec 32 := 0#32
  let v201 : BitVec 1 := Scalar.cmpi .sgt c2_i32 c0_i32_101
  let v202 : BitVec 32 := Scalar.extui v201
  let c0_i32_102 : BitVec 32 := 0#32
  let v203 : BitVec 1 := Scalar.cmpi .slt c2_i32 c0_i32_102
  let v204 : BitVec 32 := Scalar.extui v203
  let v205 : BitVec 32 := Scalar.subi v202 v204
  let v206 : BitVec 1 := Scalar.cmpi .ne v200 v205
  let v207 : BitVec 32 := Scalar.remsi v20 c2_i32
  let c0_i32_103 : BitVec 32 := 0#32
  let v208 : BitVec 1 := Scalar.cmpi .ne v207 c0_i32_103
  let v209 : BitVec 1 := Scalar.andi v206 v208
  let v195 : BitVec 32 := Scalar.divsi v20 c2_i32
  let c1_i32_104 : BitVec 32 := 1#32
  let v210 : BitVec 32 := Scalar.subi v195 c1_i32_104
  let v211 : BitVec 32 := Scalar.select v209 v210 v195
  let v212 : BitVec 32 := Scalar.subi v211 c0_i32_106
  let c1_i32_107 : BitVec 32 := 1#32
  let v214 : BitVec 32 := Scalar.divsi v212 c1_i32_107
  let v215 : BitVec 32 := Scalar.muli v214 c1_i32_107
  let v216 : BitVec 32 := Scalar.addi c0_i32_106 v215
  let c1_i32_109 : BitVec 32 := 1#32
  let arg12 : BitVec 32 := Scf.iv v216 c1_i32_109 k0_t2
  let v429 : BitVec 32 := Scalar.muli c2_i32_260 arg12
  let c512_i32_261 : BitVec 32 := 512#32
  let v430 : BitVec 32 := Scalar.muli v429 c512_i32_261
  let v431 : BitVec 32 := v430
  let v432 : Index := Scalar.indexCast v431
  let c0_263 : Index := 0#32
  ![0, v432.toNat, 0]
def k0_off6 (i : grid0.Coords) (k0_t2 : Fin (k0_t2_loop i).trips) : Fin 3 → Nat :=
  let c0_264 : Index := 0#32
  let c0_265 : Index := 0#32
  let c2_i32_260 : BitVec 32 := 2#32
  let c0_i32_106 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_99 : BitVec 32 := 0#32
  let v196 : BitVec 1 := Scalar.cmpi .sgt v20 c0_i32_99
  let v197 : BitVec 32 := Scalar.extui v196
  let c0_i32_100 : BitVec 32 := 0#32
  let v198 : BitVec 1 := Scalar.cmpi .slt v20 c0_i32_100
  let v199 : BitVec 32 := Scalar.extui v198
  let v200 : BitVec 32 := Scalar.subi v197 v199
  let c2_i32 : BitVec 32 := 2#32
  let c0_i32_101 : BitVec 32 := 0#32
  let v201 : BitVec 1 := Scalar.cmpi .sgt c2_i32 c0_i32_101
  let v202 : BitVec 32 := Scalar.extui v201
  let c0_i32_102 : BitVec 32 := 0#32
  let v203 : BitVec 1 := Scalar.cmpi .slt c2_i32 c0_i32_102
  let v204 : BitVec 32 := Scalar.extui v203
  let v205 : BitVec 32 := Scalar.subi v202 v204
  let v206 : BitVec 1 := Scalar.cmpi .ne v200 v205
  let v207 : BitVec 32 := Scalar.remsi v20 c2_i32
  let c0_i32_103 : BitVec 32 := 0#32
  let v208 : BitVec 1 := Scalar.cmpi .ne v207 c0_i32_103
  let v209 : BitVec 1 := Scalar.andi v206 v208
  let v195 : BitVec 32 := Scalar.divsi v20 c2_i32
  let c1_i32_104 : BitVec 32 := 1#32
  let v210 : BitVec 32 := Scalar.subi v195 c1_i32_104
  let v211 : BitVec 32 := Scalar.select v209 v210 v195
  let v212 : BitVec 32 := Scalar.subi v211 c0_i32_106
  let c1_i32_107 : BitVec 32 := 1#32
  let v214 : BitVec 32 := Scalar.divsi v212 c1_i32_107
  let v215 : BitVec 32 := Scalar.muli v214 c1_i32_107
  let v216 : BitVec 32 := Scalar.addi c0_i32_106 v215
  let c1_i32_109 : BitVec 32 := 1#32
  let arg12 : BitVec 32 := Scf.iv v216 c1_i32_109 k0_t2
  let v429 : BitVec 32 := Scalar.muli c2_i32_260 arg12
  let c512_i32_261 : BitVec 32 := 512#32
  let v430 : BitVec 32 := Scalar.muli v429 c512_i32_261
  let v431 : BitVec 32 := v430
  let v435 : Index := Scalar.indexCast v431
  ![0, 0, v435.toNat]
def k0_mult4 (i : grid0.Coords) (k0_t2 : Fin (k0_t2_loop i).trips) : BitVec 32 :=
  let c2_i32_258 : BitVec 32 := 2#32
  let c0_i32_106 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_99 : BitVec 32 := 0#32
  let v196 : BitVec 1 := Scalar.cmpi .sgt v20 c0_i32_99
  let v197 : BitVec 32 := Scalar.extui v196
  let c0_i32_100 : BitVec 32 := 0#32
  let v198 : BitVec 1 := Scalar.cmpi .slt v20 c0_i32_100
  let v199 : BitVec 32 := Scalar.extui v198
  let v200 : BitVec 32 := Scalar.subi v197 v199
  let c2_i32 : BitVec 32 := 2#32
  let c0_i32_101 : BitVec 32 := 0#32
  let v201 : BitVec 1 := Scalar.cmpi .sgt c2_i32 c0_i32_101
  let v202 : BitVec 32 := Scalar.extui v201
  let c0_i32_102 : BitVec 32 := 0#32
  let v203 : BitVec 1 := Scalar.cmpi .slt c2_i32 c0_i32_102
  let v204 : BitVec 32 := Scalar.extui v203
  let v205 : BitVec 32 := Scalar.subi v202 v204
  let v206 : BitVec 1 := Scalar.cmpi .ne v200 v205
  let v207 : BitVec 32 := Scalar.remsi v20 c2_i32
  let c0_i32_103 : BitVec 32 := 0#32
  let v208 : BitVec 1 := Scalar.cmpi .ne v207 c0_i32_103
  let v209 : BitVec 1 := Scalar.andi v206 v208
  let v195 : BitVec 32 := Scalar.divsi v20 c2_i32
  let c1_i32_104 : BitVec 32 := 1#32
  let v210 : BitVec 32 := Scalar.subi v195 c1_i32_104
  let v211 : BitVec 32 := Scalar.select v209 v210 v195
  let v212 : BitVec 32 := Scalar.subi v211 c0_i32_106
  let c1_i32_107 : BitVec 32 := 1#32
  let v214 : BitVec 32 := Scalar.divsi v212 c1_i32_107
  let v215 : BitVec 32 := Scalar.muli v214 c1_i32_107
  let v216 : BitVec 32 := Scalar.addi c0_i32_106 v215
  let c1_i32_109 : BitVec 32 := 1#32
  let arg12 : BitVec 32 := Scf.iv v216 c1_i32_109 k0_t2
  let v427 : BitVec 32 := Scalar.muli c2_i32_258 arg12
  let c1_i32_259 : BitVec 32 := 1#32
  let v428 : BitVec 32 := Scalar.addi v427 c1_i32_259
  let c512_i32_404 : BitVec 32 := 512#32
  let v860 : BitVec 32 := Scalar.muli v428 c512_i32_404
  v860
def k0_off7 (i : grid0.Coords) (k0_t2 : Fin (k0_t2_loop i).trips) : Fin 3 → Nat :=
  let c0_405 : Index := 0#32
  let c2_i32_258 : BitVec 32 := 2#32
  let c0_i32_106 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_99 : BitVec 32 := 0#32
  let v196 : BitVec 1 := Scalar.cmpi .sgt v20 c0_i32_99
  let v197 : BitVec 32 := Scalar.extui v196
  let c0_i32_100 : BitVec 32 := 0#32
  let v198 : BitVec 1 := Scalar.cmpi .slt v20 c0_i32_100
  let v199 : BitVec 32 := Scalar.extui v198
  let v200 : BitVec 32 := Scalar.subi v197 v199
  let c2_i32 : BitVec 32 := 2#32
  let c0_i32_101 : BitVec 32 := 0#32
  let v201 : BitVec 1 := Scalar.cmpi .sgt c2_i32 c0_i32_101
  let v202 : BitVec 32 := Scalar.extui v201
  let c0_i32_102 : BitVec 32 := 0#32
  let v203 : BitVec 1 := Scalar.cmpi .slt c2_i32 c0_i32_102
  let v204 : BitVec 32 := Scalar.extui v203
  let v205 : BitVec 32 := Scalar.subi v202 v204
  let v206 : BitVec 1 := Scalar.cmpi .ne v200 v205
  let v207 : BitVec 32 := Scalar.remsi v20 c2_i32
  let c0_i32_103 : BitVec 32 := 0#32
  let v208 : BitVec 1 := Scalar.cmpi .ne v207 c0_i32_103
  let v209 : BitVec 1 := Scalar.andi v206 v208
  let v195 : BitVec 32 := Scalar.divsi v20 c2_i32
  let c1_i32_104 : BitVec 32 := 1#32
  let v210 : BitVec 32 := Scalar.subi v195 c1_i32_104
  let v211 : BitVec 32 := Scalar.select v209 v210 v195
  let v212 : BitVec 32 := Scalar.subi v211 c0_i32_106
  let c1_i32_107 : BitVec 32 := 1#32
  let v214 : BitVec 32 := Scalar.divsi v212 c1_i32_107
  let v215 : BitVec 32 := Scalar.muli v214 c1_i32_107
  let v216 : BitVec 32 := Scalar.addi c0_i32_106 v215
  let c1_i32_109 : BitVec 32 := 1#32
  let arg12 : BitVec 32 := Scf.iv v216 c1_i32_109 k0_t2
  let v427 : BitVec 32 := Scalar.muli c2_i32_258 arg12
  let c1_i32_259 : BitVec 32 := 1#32
  let v428 : BitVec 32 := Scalar.addi v427 c1_i32_259
  let c512_i32_404 : BitVec 32 := 512#32
  let v860 : BitVec 32 := Scalar.muli v428 c512_i32_404
  let v861 : BitVec 32 := v860
  let v862 : Index := Scalar.indexCast v861
  let c0_406 : Index := 0#32
  ![0, v862.toNat, 0]
def k0_off8 (i : grid0.Coords) (k0_t2 : Fin (k0_t2_loop i).trips) : Fin 3 → Nat :=
  let c0_407 : Index := 0#32
  let c0_408 : Index := 0#32
  let c2_i32_258 : BitVec 32 := 2#32
  let c0_i32_106 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_99 : BitVec 32 := 0#32
  let v196 : BitVec 1 := Scalar.cmpi .sgt v20 c0_i32_99
  let v197 : BitVec 32 := Scalar.extui v196
  let c0_i32_100 : BitVec 32 := 0#32
  let v198 : BitVec 1 := Scalar.cmpi .slt v20 c0_i32_100
  let v199 : BitVec 32 := Scalar.extui v198
  let v200 : BitVec 32 := Scalar.subi v197 v199
  let c2_i32 : BitVec 32 := 2#32
  let c0_i32_101 : BitVec 32 := 0#32
  let v201 : BitVec 1 := Scalar.cmpi .sgt c2_i32 c0_i32_101
  let v202 : BitVec 32 := Scalar.extui v201
  let c0_i32_102 : BitVec 32 := 0#32
  let v203 : BitVec 1 := Scalar.cmpi .slt c2_i32 c0_i32_102
  let v204 : BitVec 32 := Scalar.extui v203
  let v205 : BitVec 32 := Scalar.subi v202 v204
  let v206 : BitVec 1 := Scalar.cmpi .ne v200 v205
  let v207 : BitVec 32 := Scalar.remsi v20 c2_i32
  let c0_i32_103 : BitVec 32 := 0#32
  let v208 : BitVec 1 := Scalar.cmpi .ne v207 c0_i32_103
  let v209 : BitVec 1 := Scalar.andi v206 v208
  let v195 : BitVec 32 := Scalar.divsi v20 c2_i32
  let c1_i32_104 : BitVec 32 := 1#32
  let v210 : BitVec 32 := Scalar.subi v195 c1_i32_104
  let v211 : BitVec 32 := Scalar.select v209 v210 v195
  let v212 : BitVec 32 := Scalar.subi v211 c0_i32_106
  let c1_i32_107 : BitVec 32 := 1#32
  let v214 : BitVec 32 := Scalar.divsi v212 c1_i32_107
  let v215 : BitVec 32 := Scalar.muli v214 c1_i32_107
  let v216 : BitVec 32 := Scalar.addi c0_i32_106 v215
  let c1_i32_109 : BitVec 32 := 1#32
  let arg12 : BitVec 32 := Scf.iv v216 c1_i32_109 k0_t2
  let v427 : BitVec 32 := Scalar.muli c2_i32_258 arg12
  let c1_i32_259 : BitVec 32 := 1#32
  let v428 : BitVec 32 := Scalar.addi v427 c1_i32_259
  let c512_i32_404 : BitVec 32 := 512#32
  let v860 : BitVec 32 := Scalar.muli v428 c512_i32_404
  let v861 : BitVec 32 := v860
  let v865 : Index := Scalar.indexCast v861
  ![0, 0, v865.toNat]
def k0_cond1 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_110 : BitVec 32 := 2#32
  let c0_i32_111 : BitVec 32 := 0#32
  let v217 : BitVec 1 := Scalar.cmpi .eq c2_i32_110 c0_i32_111
  let c1_i32_112 : BitVec 32 := 1#32
  let v218 : BitVec 32 := Scalar.select v217 c1_i32_112 c2_i32_110
  let v219 : BitVec 32 := Scalar.remsi v20 v218
  let c0_i32_114 : BitVec 32 := 0#32
  let v221 : BitVec 1 := Scalar.cmpi .slt v219 c0_i32_114
  let c0_i32_115 : BitVec 32 := 0#32
  let v222 : BitVec 1 := Scalar.cmpi .slt v218 c0_i32_115
  let v223 : BitVec 1 := Scalar.xori v221 v222
  let c0_i32_113 : BitVec 32 := 0#32
  let v220 : BitVec 1 := Scalar.cmpi .ne v219 c0_i32_113
  let v224 : BitVec 1 := Scalar.andi v223 v220
  let v225 : BitVec 32 := Scalar.addi v219 v218
  let v226 : BitVec 32 := Scalar.select v224 v225 v219
  let c1_i32_116 : BitVec 32 := 1#32
  let v227 : BitVec 1 := Scalar.cmpi .eq v226 c1_i32_116
  let v228 : BitVec 32 := Scalar.extui v227
  let c0_i32_117 : BitVec 32 := 0#32
  let v229 : BitVec 1 := Scalar.cmpi .ne v228 c0_i32_117
  v229

def k0_mult5 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_258 : BitVec 32 := 1#32
  let v427 : BitVec 32 := Scalar.subi v20 c1_i32_258
  let c512_i32_259 : BitVec 32 := 512#32
  let v428 : BitVec 32 := Scalar.muli v427 c512_i32_259
  v428
def k0_off9 (i : grid0.Coords) : Fin 3 → Nat :=
  let c0_260 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_258 : BitVec 32 := 1#32
  let v427 : BitVec 32 := Scalar.subi v20 c1_i32_258
  let c512_i32_259 : BitVec 32 := 512#32
  let v428 : BitVec 32 := Scalar.muli v427 c512_i32_259
  let v429 : BitVec 32 := v428
  let v430 : Index := Scalar.indexCast v429
  let c0_261 : Index := 0#32
  ![0, v430.toNat, 0]
def k0_off10 (i : grid0.Coords) : Fin 3 → Nat :=
  let c0_262 : Index := 0#32
  let c0_263 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_258 : BitVec 32 := 1#32
  let v427 : BitVec 32 := Scalar.subi v20 c1_i32_258
  let c512_i32_259 : BitVec 32 := 512#32
  let v428 : BitVec 32 := Scalar.muli v427 c512_i32_259
  let v429 : BitVec 32 := v428
  let v433 : Index := Scalar.indexCast v429
  ![0, 0, v433.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "masked" => some ⊥
  | "scale" => some (((8 * (Real.log 2))⁻¹ : ℝ) : EReal)
  | "unmask" => some ⊤
  | _ => none
-- ==== ReferenceIdeal.lean ====
abbrev S8x4096x1024 : Shape := ⟨3, ![8, 4096, 1024]⟩
abbrev S8x4096x256 : Shape := ⟨3, ![8, 4096, 256]⟩
abbrev S8x4096x4096 : Shape := ⟨3, ![8, 4096, 4096]⟩
abbrev S16x64x256 : Shape := ⟨3, ![16, 64, 256]⟩
abbrev S16x256x64 : Shape := ⟨3, ![16, 256, 64]⟩
abbrev S8x4096x16x64 : Shape := ⟨4, ![8, 4096, 16, 64]⟩
abbrev S16x256x8x4096 : Shape := ⟨4, ![16, 256, 8, 4096]⟩
abbrev S8x4096x16x256 : Shape := ⟨4, ![8, 4096, 16, 256]⟩
abbrev S8x4096x16x4096 : Shape := ⟨4, ![8, 4096, 16, 4096]⟩
abbrev S_ : Shape := ⟨0, ![]⟩
abbrev S8x4096x1x4096 : Shape := ⟨4, ![8, 4096, 1, 4096]⟩
abbrev S8x4096x16 : Shape := ⟨3, ![8, 4096, 16]⟩
abbrev S8x4096x16x1 : Shape := ⟨4, ![8, 4096, 16, 1]⟩
abbrev S16x64x8x4096 : Shape := ⟨4, ![16, 64, 8, 4096]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x256, .bf16⟩
  | .hbm, ⟨2, _⟩ => ⟨S8x4096x4096, .i8⟩
  | .hbm, ⟨3, _⟩ => ⟨S16x64x256, .f32⟩
  | .hbm, ⟨4, _⟩ => ⟨S16x256x64, .f32⟩
  | .hbm, ⟨5, _⟩ => ⟨S8x4096x1024, .f32⟩
  | .hbm, ⟨6, _⟩ => ⟨S8x4096x16x64, .f32⟩
  | .hbm, ⟨7, _⟩ => ⟨S8x4096x256, .f32⟩
  | .hbm, ⟨8, _⟩ => ⟨S16x256x8x4096, .f32⟩
  | .hbm, ⟨9, _⟩ => ⟨S8x4096x16x256, .f32⟩
  | .hbm, ⟨10, _⟩ => ⟨S8x4096x16x4096, .f32⟩
  | .hbm, ⟨11, _⟩ => ⟨S_, .f32⟩
  | .hbm, ⟨12, _⟩ => ⟨S8x4096x16x4096, .f32⟩
  | .hbm, ⟨13, _⟩ => ⟨S8x4096x16x4096, .f32⟩
  | .hbm, ⟨14, _⟩ => ⟨S8x4096x1x4096, .i8⟩
  | .hbm, ⟨15, _⟩ => ⟨S_, .i8⟩
  | .hbm, ⟨16, _⟩ => ⟨S8x4096x1x4096, .i8⟩
  | .hbm, ⟨17, _⟩ => ⟨S8x4096x1x4096, .i1⟩
  | .hbm, ⟨18, _⟩ => ⟨S_, .f32⟩
  | .hbm, ⟨19, _⟩ => ⟨S_, .f32⟩
  | .hbm, ⟨20, _⟩ => ⟨S8x4096x16x4096, .i1⟩
  | .hbm, ⟨21, _⟩ => ⟨S8x4096x16x4096, .f32⟩
  | .hbm, ⟨22, _⟩ => ⟨S8x4096x16x4096, .f32⟩
  | .hbm, ⟨23, _⟩ => ⟨S_, .f32⟩
  | .hbm, ⟨24, _⟩ => ⟨S8x4096x16, .f32⟩
  | .hbm, ⟨25, _⟩ => ⟨S_, .f32⟩
  | .hbm, ⟨26, _⟩ => ⟨S8x4096x16, .f32⟩
  | .hbm, ⟨27, _⟩ => ⟨S8x4096x16, .f32⟩
  | .hbm, ⟨28, _⟩ => ⟨S8x4096x16x1, .f32⟩
  | .hbm, ⟨29, _⟩ => ⟨S8x4096x16x4096, .f32⟩
  | .hbm, ⟨30, _⟩ => ⟨S8x4096x16x4096, .f32⟩
  | .hbm, ⟨31, _⟩ => ⟨S8x4096x16x4096, .f32⟩
  | .hbm, ⟨32, _⟩ => ⟨S_, .f32⟩
  | .hbm, ⟨33, _⟩ => ⟨S8x4096x16, .f32⟩
  | .hbm, ⟨34, _⟩ => ⟨S8x4096x16x1, .f32⟩
  | .hbm, ⟨35, _⟩ => ⟨S8x4096x16x4096, .f32⟩
  | .hbm, ⟨36, _⟩ => ⟨S8x4096x16x4096, .f32⟩
  | .hbm, ⟨37, _⟩ => ⟨S8x4096x16x256, .f32⟩
  | .hbm, ⟨38, _⟩ => ⟨S16x64x8x4096, .f32⟩
  | .hbm, ⟨39, _⟩ => ⟨S8x4096x16x64, .f32⟩
  | .hbm, ⟨40, _⟩ => ⟨S8x4096x1024, .f32⟩
  | .hbm, ⟨41, _⟩ => ⟨S8x4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x6144 : Shape := ⟨2, ![8, 6144]⟩
abbrev S4x1024 : Shape := ⟨2, ![4, 1024]⟩
abbrev S1024x1024 : Shape := ⟨2, ![1024, 1024]⟩
abbrev S1024x5632 : Shape := ⟨2, ![1024, 5632]⟩
abbrev S2816x1024 : Shape := ⟨2, ![2816, 1024]⟩
abbrev S8x6x1024 : Shape := ⟨3, ![8, 6, 1024]⟩
abbrev S1x512x1024 : Shape := ⟨3, ![1, 512, 1024]⟩
abbrev S1x6x1024 : Shape := ⟨3, ![1, 6, 1024]⟩
abbrev S512x1024 : Shape := ⟨2, ![512, 1024]⟩
abbrev S6x1024 : Shape := ⟨2, ![6, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 15
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S8x6144, .f32⟩
  | .hbm, ⟨3, _⟩ => ⟨S4x1024, .f32⟩
  | .hbm, ⟨4, _⟩ => ⟨S1024x1024, .f32⟩
  | .hbm, ⟨5, _⟩ => ⟨S1024x5632, .f32⟩
  | .hbm, ⟨6, _⟩ => ⟨S2816x1024, .f32⟩
  | .hbm, ⟨7, _⟩ => ⟨S8x6x1024, .f32⟩
  | .hbm, ⟨8, _⟩ => ⟨S1024x1024, .bf16⟩
  | .hbm, ⟨9, _⟩ => ⟨S1024x5632, .bf16⟩
  | .hbm, ⟨10, _⟩ => ⟨S2816x1024, .bf16⟩
  | .hbm, ⟨11, _⟩ => ⟨S8x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x6x1024, .f32⟩
  | .local _ .vmem, ⟨5, _⟩ => ⟨S1x6x1024, .f32⟩
  | .local _ .vmem, ⟨6, _⟩ => ⟨S4x1024, .f32⟩
  | .local _ .vmem, ⟨7, _⟩ => ⟨S1024x1024, .bf16⟩
  | .local _ .vmem, ⟨8, _⟩ => ⟨S1024x5632, .bf16⟩
  | .local _ .vmem, ⟨9, _⟩ => ⟨S2816x1024, .bf16⟩
  | .local _ .vmem, ⟨10, _⟩ => ⟨S1x512x1024, .f32⟩
  | .local _ .vmem, ⟨11, _⟩ => ⟨S1x512x1024, .f32⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8x4096x1024 : Shape := ⟨3, ![8, 4096, 1024]⟩
abbrev S8x6144 : Shape := ⟨2, ![8, 6144]⟩
abbrev S4x1024 : Shape := ⟨2, ![4, 1024]⟩
abbrev S1024x1024 : Shape := ⟨2, ![1024, 1024]⟩
abbrev S1024x5632 : Shape := ⟨2, ![1024, 5632]⟩
abbrev S2816x1024 : Shape := ⟨2, ![2816, 1024]⟩
abbrev S8x1024 : Shape := ⟨2, ![8, 1024]⟩
abbrev S8x1x1024 : Shape := ⟨3, ![8, 1, 1024]⟩
abbrev S_ : Shape := ⟨0, ![]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩

abbrev nBuf : Space → Nat
  | .hbm => 108
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S8x6144, .f32⟩
  | .hbm, ⟨3, _⟩ => ⟨S4x1024, .f32⟩
  | .hbm, ⟨4, _⟩ => ⟨S1024x1024, .f32⟩
  | .hbm, ⟨5, _⟩ => ⟨S1024x5632, .f32⟩
  | .hbm, ⟨6, _⟩ => ⟨S2816x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S1x1024, .f32⟩
  | .hbm, ⟨25, _⟩ => ⟨S1024, .f32⟩
  | .hbm, ⟨26, _⟩ => ⟨S8x4096x1024, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S1x1024, .f32⟩
  | .hbm, ⟨46, _⟩ => ⟨S1024, .f32⟩
  | .hbm, ⟨47, _⟩ => ⟨S8x4096x1024, .f32⟩
  | .hbm, ⟨48, _⟩ => ⟨S_, .f32⟩
  | .hbm, ⟨49, _⟩ => ⟨S8x4096, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S8x4096x1, .f32⟩
  | .hbm, ⟨58, _⟩ => ⟨S8x4096x1024, .f32⟩
  | .hbm, ⟨59, _⟩ => ⟨S8x4096x1024, .f32⟩
  | .hbm, ⟨60, _⟩ => ⟨S1x1x1024, .f32⟩
  | .hbm, ⟨61, _⟩ => ⟨S8x4096x1024, .f32⟩
  | .hbm, ⟨62, _⟩ => ⟨S8x4096x1024, .f32⟩
  | .hbm, ⟨63, _⟩ => ⟨S_, .f32⟩
  | .hbm, ⟨64, _⟩ => ⟨S8x1x1024, .f32⟩
  | .hbm, ⟨65, _⟩ => ⟨S8x1x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x5632, .f32⟩
  | .hbm, ⟨71, _⟩ => ⟨S8x4096x2816, .f32⟩
  | .hbm, ⟨72, _⟩ => ⟨S8x4096x2816, .f32⟩
  | .hbm, ⟨73, _⟩ => ⟨S8x4096x2816, .f32⟩
  | .hbm, ⟨74, _⟩ => ⟨S8x4096x2816, .f32⟩
  | .hbm, ⟨75, _⟩ => ⟨S_, .f32⟩
  | .hbm, ⟨76, _⟩ => ⟨S8x4096x2816, .f32⟩
  | .hbm, ⟨77, _⟩ => ⟨S8x4096x2816, .f32⟩
  | .hbm, ⟨78, _⟩ => ⟨S_, .f32⟩
  | .hbm, ⟨79, _⟩ => ⟨S8x4096x2816, .f32⟩
  | .hbm, ⟨80, _⟩ => ⟨S8x4096x2816, .f32⟩
  | .hbm, ⟨81, _⟩ => ⟨S8x4096x2816, .f32⟩
  | .hbm, ⟨82, _⟩ => ⟨S8x4096x2816, .f32⟩
  | .hbm, ⟨83, _⟩ => ⟨S8x4096x1024, .f32⟩
  | .hbm, ⟨84, _⟩ => ⟨S_, .f32⟩
  | .hbm, ⟨85, _⟩ => ⟨S8x1x1024, .f32⟩
  | .hbm, ⟨86, _⟩ => ⟨S8x1x1024, .f32⟩
  | .hbm, ⟨87, _⟩ => ⟨S1x1024, .f32⟩
  | .hbm, ⟨88, _⟩ => ⟨S1024, .f32⟩
  | .hbm, ⟨89, _⟩ => ⟨S8x4096x1024, .f32⟩
  | .hbm, ⟨90, _⟩ => ⟨S_, .f32⟩
  | .hbm, ⟨91, _⟩ => ⟨S8x4096, .f32⟩
  | .hbm, ⟨92, _⟩ => ⟨S8x4096x1, .f32⟩
  | .hbm, ⟨93, _⟩ => ⟨S_, .f32⟩
  | .hbm, ⟨94, _⟩ => ⟨S8x4096x1, .f32⟩
  | .hbm, ⟨95, _⟩ => ⟨S8x4096x1, .f32⟩
  | .hbm, ⟨96, _⟩ => ⟨S_, .f32⟩
  | .hbm, ⟨97, _⟩ => ⟨S8x4096x1, .f32⟩
  | .hbm, ⟨98, _⟩ => ⟨S8x4096x1, .f32⟩
  | .hbm, ⟨99, _⟩ => ⟨S8x4096x1, .f32⟩
  | .hbm, ⟨100, _⟩ => ⟨S8x4096x1024, .f32⟩
  | .hbm, ⟨101, _⟩ => ⟨S8x4096x1024, .f32⟩
  | .hbm, ⟨102, _⟩ => ⟨S1x1x1024, .f32⟩
  | .hbm, ⟨103, _⟩ => ⟨S8x4096x1024, .f32⟩
  | .hbm, ⟨104, _⟩ => ⟨S8x4096x1024, .f32⟩
  | .hbm, ⟨105, _⟩ => ⟨S8x4096x1024, .f32⟩
  | .hbm, ⟨106, _⟩ => ⟨S8x4096x1024, .f32⟩
  | .hbm, ⟨107, _⟩ => ⟨S8x4096x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_7 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_8 : Ref sig .tc := ⟨.hbm, 90, rfl⟩
abbrev main_v66 : Ref sig .tc := ⟨.hbm, 91, rfl⟩
abbrev main_v67 : Ref sig .tc := ⟨.hbm, 92, rfl⟩
abbrev main_cst_9 : Ref sig .tc := ⟨.hbm, 93, rfl⟩
abbrev main_v68 : Ref sig .tc := ⟨.hbm, 94, rfl⟩
abbrev main_v69 : Ref sig .tc := ⟨.hbm, 95, rfl⟩
abbrev main_cst_10 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x6144 : Shape := ⟨2, ![8, 6144]⟩
abbrev S4x1024 : Shape := ⟨2, ![4, 1024]⟩
abbrev S1024x4112 : Shape := ⟨2, ![1024, 4112]⟩
abbrev S8 : Shape := ⟨1, ![8]⟩
abbrev S8x6x1024 : Shape := ⟨3, ![8, 6, 1024]⟩
abbrev S1024x4096 : Shape := ⟨2, ![1024, 4096]⟩
abbrev S1024x16 : Shape := ⟨2, ![1024, 16]⟩
abbrev S1x8 : Shape := ⟨2, ![1, 8]⟩
abbrev S8x4096x4096 : Shape := ⟨3, ![8, 4096, 4096]⟩
abbrev S8x4096x16 : Shape := ⟨3, ![8, 4096, 16]⟩
abbrev S1x512x1024 : Shape := ⟨3, ![1, 512, 1024]⟩
abbrev S1x6x1024 : Shape := ⟨3, ![1, 6, 1024]⟩
abbrev S1x512x4096 : Shape := ⟨3, ![1, 512, 4096]⟩
abbrev S1x512x16 : Shape := ⟨3, ![1, 512, 16]⟩
abbrev S512x1024 : Shape := ⟨2, ![512, 1024]⟩
abbrev S6x1024 : Shape := ⟨2, ![6, 1024]⟩
abbrev S1x1024 : Shape := ⟨2, ![1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x512 : Shape := ⟨3, ![1, 512, 512]⟩
abbrev S512x16 : Shape := ⟨2, ![512, 16]⟩
abbrev S512x8 : Shape := ⟨2, ![512, 8]⟩
abbrev S512x24 : Shape := ⟨2, ![512, 24]⟩
abbrev S1x512x8 : Shape := ⟨3, ![1, 512, 8]⟩

abbrev nBuf : Space → Nat
  | .hbm => 15
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S4x1024, .f32⟩
  | .hbm, ⟨3, _⟩ => ⟨S1024x4112, .f32⟩
  | .hbm, ⟨4, _⟩ => ⟨S8, .f32⟩
  | .hbm, ⟨5, _⟩ => ⟨S8, .f32⟩
  | .hbm, ⟨6, _⟩ => ⟨S8x6x1024, .f32⟩
  | .hbm, ⟨7, _⟩ => ⟨S1024x4096, .f32⟩
  | .hbm, ⟨8, _⟩ => ⟨S1024x4096, .bf16⟩
  | .hbm, ⟨9, _⟩ => ⟨S1024x16, .f32⟩
  | .hbm, ⟨10, _⟩ => ⟨S1024x16, .bf16⟩
  | .hbm, ⟨11, _⟩ => ⟨S1x8, .f32⟩
  | .hbm, ⟨12, _⟩ => ⟨S1x8, .f32⟩
  | .hbm, ⟨13, _⟩ => ⟨S8x4096x4096, .bf16⟩
  | .hbm, ⟨14, _⟩ => ⟨S8x4096x16, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x4096, .bf16⟩
  | .local _ .vmem, ⟨6, _⟩ => ⟨S1024x16, .bf16⟩
  | .local _ .vmem, ⟨7, _⟩ => ⟨S1x8, .f32⟩
  | .local _ .vmem, ⟨8, _⟩ => ⟨S1x8, .f32⟩
  | .local _ .vmem, ⟨9, _⟩ => ⟨S1x512x4096, .bf16⟩
  | .local _ .vmem, ⟨10, _⟩ => ⟨S1x512x4096, .bf16⟩
  | .local _ .vmem, ⟨11, _⟩ => ⟨S1x512x16, .f32⟩
  | .local _ .vmem, ⟨12, _⟩ => ⟨S1x512x16, .f32⟩
  | .local _ .vmem, ⟨13, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S8x4096x1024 : Shape := ⟨3, ![8, 4096, 1024]⟩
abbrev S8x6144 : Shape := ⟨2, ![8, 6144]⟩
abbrev S4x1024 : Shape := ⟨2, ![4, 1024]⟩
abbrev S1024x4112 : Shape := ⟨2, ![1024, 4112]⟩
abbrev S8 : Shape := ⟨1, ![8]⟩
abbrev S8x1024 : Shape := ⟨2, ![8, 1024]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4112 : Shape := ⟨3, ![8, 4096, 4112]⟩
abbrev S8x4096x4096 : Shape := ⟨3, ![8, 4096, 4096]⟩
abbrev S8x4096x8 : Shape := ⟨3, ![8, 4096, 8]⟩
abbrev S1x1x8 : Shape := ⟨3, ![1, 1, 8]⟩
abbrev S8x64x64x8 : Shape := ⟨4, ![8, 64, 64, 8]⟩
abbrev S8x4096x16 : Shape := ⟨3, ![8, 4096, 16]⟩

abbrev nBuf : Space → Nat
  | .hbm => 84
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S4x1024, .f32⟩
  | .hbm, ⟨3, _⟩ => ⟨S1024x4112, .f32⟩
  | .hbm, ⟨4, _⟩ => ⟨S8, .f32⟩
  | .hbm, ⟨5, _⟩ => ⟨S8, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S1x1024, .f32⟩
  | .hbm, ⟨19, _⟩ => ⟨S1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x4112, .f32⟩
  | .hbm, ⟨44, _⟩ => ⟨S8x4096x4096, .f32⟩
  | .hbm, ⟨45, _⟩ => ⟨S8x4096x8, .f32⟩
  | .hbm, ⟨46, _⟩ => ⟨S8x4096x8, .f32⟩
  | .hbm, ⟨47, _⟩ => ⟨S8x4096x8, .f32⟩
  | .hbm, ⟨48, _⟩ => ⟨S8x4096x8, .f32⟩
  | .hbm, ⟨49, _⟩ => ⟨S_, .f32⟩
  | .hbm, ⟨50, _⟩ => ⟨S8x4096x8, .f32⟩
  | .hbm, ⟨51, _⟩ => ⟨S8x4096x8, .f32⟩
  | .hbm, ⟨52, _⟩ => ⟨S_, .f32⟩
  | .hbm, ⟨53, _⟩ => ⟨S8x4096x8, .f32⟩
  | .hbm, ⟨54, _⟩ => ⟨S8x4096x8, .f32⟩
  | .hbm, ⟨55, _⟩ => ⟨S8, .f32⟩
  | .hbm, ⟨56, _⟩ => ⟨S8, .f32⟩
  | .hbm, ⟨57, _⟩ => ⟨S1x1x8, .f32⟩
  | .hbm, ⟨58, _⟩ => ⟨S8x4096x8, .f32⟩
  | .hbm, ⟨59, _⟩ => ⟨S8x4096x8, .f32⟩
  | .hbm, ⟨60, _⟩ => ⟨S_, .f32⟩
  | .hbm, ⟨61, _⟩ => ⟨S8x4096x8, .f32⟩
  | .hbm, ⟨62, _⟩ => ⟨S8x4096x8, .f32⟩
  | .hbm, ⟨63, _⟩ => ⟨S8x4096x8, .f32⟩
  | .hbm, ⟨64, _⟩ => ⟨S8x4096x8, .f32⟩
  | .hbm, ⟨65, _⟩ => ⟨S8x4096x8, .i1⟩
  | .hbm, ⟨66, _⟩ => ⟨S8x4096x8, .f32⟩
  | .hbm, ⟨67, _⟩ => ⟨S8x4096x8, .f32⟩
  | .hbm, ⟨68, _⟩ => ⟨S8x4096x8, .f32⟩
  | .hbm, ⟨69, _⟩ => ⟨S8x4096x8, .f32⟩
  | .hbm, ⟨70, _⟩ => ⟨S8x4096x8, .f32⟩
  | .hbm, ⟨71, _⟩ => ⟨S8x4096x8, .f32⟩
  | .hbm, ⟨72, _⟩ => ⟨S8x4096x8, .f32⟩
  | .hbm, ⟨73, _⟩ => ⟨S8x4096x8, .f32⟩
  | .hbm, ⟨74, _⟩ => ⟨S1x1x8, .f32⟩
  | .hbm, ⟨75, _⟩ => ⟨S8x4096x8, .f32⟩
  | .hbm, ⟨76, _⟩ => ⟨S8x4096x8, .f32⟩
  | .hbm, ⟨77, _⟩ => ⟨S8x64x64x8, .f32⟩
  | .hbm, ⟨78, _⟩ => ⟨S_, .f32⟩
  | .hbm, ⟨79, _⟩ => ⟨S_, .f32⟩
  | .hbm, ⟨80, _⟩ => ⟨S8x64x64x8, .f32⟩
  | .hbm, ⟨81, _⟩ => ⟨S8x4096x8, .f32⟩
  | .hbm, ⟨82, _⟩ => ⟨S8x4096x4096, .bf16⟩
  | .hbm, ⟨83, _⟩ => ⟨S8x4096x16, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_call0_cst : Ref sig .tc := ⟨.hbm, 78, rfl⟩
abbrev main_call1_call0_v0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x6144 : Shape := ⟨2, ![8, 6144]⟩
abbrev S4x1024 : Shape := ⟨2, ![4, 1024]⟩
abbrev S1024x584 : Shape := ⟨2, ![1024, 584]⟩
abbrev S256 : Shape := ⟨1, ![256]⟩
abbrev S256x1024 : Shape := ⟨2, ![256, 1024]⟩
abbrev S256x512 : Shape := ⟨2, ![256, 512]⟩
abbrev S64 : Shape := ⟨1, ![64]⟩
abbrev S_ : Shape := ⟨0, ![]⟩
abbrev S1024x640 : Shape := ⟨2, ![1024, 640]⟩
abbrev S8x6x1024 : Shape := ⟨3, ![8, 6, 1024]⟩
abbrev S1x256 : Shape := ⟨2, ![1, 256]⟩
abbrev S128 : Shape := ⟨1, ![128]⟩
abbrev S1x128 : Shape := ⟨2, ![1, 128]⟩
abbrev S8x4096x512 : Shape := ⟨3, ![8, 4096, 512]⟩
abbrev S8x4096x256 : Shape := ⟨3, ![8, 4096, 256]⟩
abbrev S8x4096x128 : Shape := ⟨3, ![8, 4096, 128]⟩
abbrev S1x512x1024 : Shape := ⟨3, ![1, 512, 1024]⟩
abbrev S1x6x1024 : Shape := ⟨3, ![1, 6, 1024]⟩
abbrev S1x512x512 : Shape := ⟨3, ![1, 512, 512]⟩
abbrev S1x512x256 : Shape := ⟨3, ![1, 512, 256]⟩
abbrev S1x512x128 : Shape := ⟨3, ![1, 512, 128]⟩
abbrev S512x1024 : Shape := ⟨2, ![512, 1024]⟩
abbrev S6x1024 : Shape := ⟨2, ![6, 1024]⟩
abbrev S1x1024 : Shape := ⟨2, ![1, 1024]⟩
abbrev S512 : Shape := ⟨1, ![512]⟩
abbrev S512x1 : Shape := ⟨2, ![512, 1]⟩
abbrev S512x640 : Shape := ⟨2, ![512, 640]⟩
abbrev S512x256 : Shape := ⟨2, ![512, 256]⟩
abbrev S512x512 : Shape := ⟨2, ![512, 512]⟩
abbrev S512x128 : Shape := ⟨2, ![512, 128]⟩

abbrev nBuf : Space → Nat
  | .hbm => 31
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S4x1024, .f32⟩
  | .hbm, ⟨3, _⟩ => ⟨S1024x584, .f32⟩
  | .hbm, ⟨4, _⟩ => ⟨S256, .f32⟩
  | .hbm, ⟨5, _⟩ => ⟨S256, .f32⟩
  | .hbm, ⟨6, _⟩ => ⟨S256x1024, .f32⟩
  | .hbm, ⟨7, _⟩ => ⟨S256x512, .f32⟩
  | .hbm, ⟨8, _⟩ => ⟨S64, .f32⟩
  | .hbm, ⟨9, _⟩ => ⟨S64, .f32⟩
  | .hbm, ⟨10, _⟩ => ⟨S_, .i32⟩
  | .hbm, ⟨11, _⟩ => ⟨S_, .f32⟩
  | .hbm, ⟨12, _⟩ => ⟨S1024x640, .f32⟩
  | .hbm, ⟨13, _⟩ => ⟨S1024x640, .bf16⟩
  | .hbm, ⟨14, _⟩ => ⟨S8x6x1024, .f32⟩
  | .hbm, ⟨15, _⟩ => ⟨S1x256, .f32⟩
  | .hbm, ⟨16, _⟩ => ⟨S1x256, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S256x1024, .bf16⟩
  | .hbm, ⟨26, _⟩ => ⟨S256x512, .bf16⟩
  | .hbm, ⟨27, _⟩ => ⟨S8x4096x1024, .bf16⟩
  | .hbm, ⟨28, _⟩ => ⟨S8x4096x512, .bf16⟩
  | .hbm, ⟨29, _⟩ => ⟨S8x4096x256, .bf16⟩
  | .hbm, ⟨30, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x640, .bf16⟩
  | .local _ .vmem, ⟨6, _⟩ => ⟨S1x256, .f32⟩
  | .local _ .vmem, ⟨7, _⟩ => ⟨S1x256, .f32⟩
  | .local _ .vmem, ⟨8, _⟩ => ⟨S1x128, .f32⟩
  | .local _ .vmem, ⟨9, _⟩ => ⟨S1x128, .f32⟩
  | .local _ .vmem, ⟨10, _⟩ => ⟨S256x1024, .bf16⟩
  | .local _ .vmem, ⟨11, _⟩ => ⟨S256x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x128, .f32⟩
  | .local _ .vmem, ⟨19, _⟩ => ⟨S1x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_call2_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v11_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference4Ideal.lean ====
abbrev S8x4096x1024 : Shape := ⟨3, ![8, 4096, 1024]⟩
abbrev S8x6144 : Shape := ⟨2, ![8, 6144]⟩
abbrev S4x1024 : Shape := ⟨2, ![4, 1024]⟩
abbrev S1024x584 : Shape := ⟨2, ![1024, 584]⟩
abbrev S256 : Shape := ⟨1, ![256]⟩
abbrev S256x1024 : Shape := ⟨2, ![256, 1024]⟩
abbrev S256x512 : Shape := ⟨2, ![256, 512]⟩
abbrev S64 : Shape := ⟨1, ![64]⟩
abbrev S8x1024 : Shape := ⟨2, ![8, 1024]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x584 : Shape := ⟨3, ![8, 4096, 584]⟩
abbrev S8x4096x256 : Shape := ⟨3, ![8, 4096, 256]⟩
abbrev S8x4096x64 : Shape := ⟨3, ![8, 4096, 64]⟩
abbrev S8x4096x8 : Shape := ⟨3, ![8, 4096, 8]⟩
abbrev S1x1x256 : Shape := ⟨3, ![1, 1, 256]⟩
abbrev S8x4096x512 : Shape := ⟨3, ![8, 4096, 512]⟩
abbrev S1x1x64 : Shape := ⟨3, ![1, 1, 64]⟩
abbrev S8x4096x56 : Shape := ⟨3, ![8, 4096, 56]⟩
abbrev S8x4096x128 : Shape := ⟨3, ![8, 4096, 128]⟩

abbrev nBuf : Space → Nat
  | .hbm => 126
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S4x1024, .f32⟩
  | .hbm, ⟨3, _⟩ => ⟨S1024x584, .f32⟩
  | .hbm, ⟨4, _⟩ => ⟨S256, .f32⟩
  | .hbm, ⟨5, _⟩ => ⟨S256, .f32⟩
  | .hbm, ⟨6, _⟩ => ⟨S256x1024, .f32⟩
  | .hbm, ⟨7, _⟩ => ⟨S256x512, .f32⟩
  | .hbm, ⟨8, _⟩ => ⟨S64, .f32⟩
  | .hbm, ⟨9, _⟩ => ⟨S64, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S1x1024, .f32⟩
  | .hbm, ⟨23, _⟩ => ⟨S1024, .f32⟩
  | .hbm, ⟨24, _⟩ => ⟨S8x4096x1024, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S8x4096x1, .f32⟩
  | .hbm, ⟨35, _⟩ => ⟨S8x4096x1024, .f32⟩
  | .hbm, ⟨36, _⟩ => ⟨S8x4096x1024, .f32⟩
  | .hbm, ⟨37, _⟩ => ⟨S1x1x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x584, .f32⟩
  | .hbm, ⟨48, _⟩ => ⟨S8x4096x256, .f32⟩
  | .hbm, ⟨49, _⟩ => ⟨S8x4096x256, .f32⟩
  | .hbm, ⟨50, _⟩ => ⟨S8x4096x64, .f32⟩
  | .hbm, ⟨51, _⟩ => ⟨S8x4096x8, .f32⟩
  | .hbm, ⟨52, _⟩ => ⟨S8x4096x256, .f32⟩
  | .hbm, ⟨53, _⟩ => ⟨S_, .f32⟩
  | .hbm, ⟨54, _⟩ => ⟨S8x4096, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S8x4096x1, .f32⟩
  | .hbm, ⟨63, _⟩ => ⟨S8x4096x256, .f32⟩
  | .hbm, ⟨64, _⟩ => ⟨S8x4096x256, .f32⟩
  | .hbm, ⟨65, _⟩ => ⟨S1x1x256, .f32⟩
  | .hbm, ⟨66, _⟩ => ⟨S8x4096x256, .f32⟩
  | .hbm, ⟨67, _⟩ => ⟨S8x4096x256, .f32⟩
  | .hbm, ⟨68, _⟩ => ⟨S8x4096x256, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S_, .f32⟩
  | .hbm, ⟨76, _⟩ => ⟨S8x4096x1, .f32⟩
  | .hbm, ⟨77, _⟩ => ⟨S8x4096x1, .f32⟩
  | .hbm, ⟨78, _⟩ => ⟨S8x4096x1, .f32⟩
  | .hbm, ⟨79, _⟩ => ⟨S8x4096x256, .f32⟩
  | .hbm, ⟨80, _⟩ => ⟨S8x4096x256, .f32⟩
  | .hbm, ⟨81, _⟩ => ⟨S1x1x256, .f32⟩
  | .hbm, ⟨82, _⟩ => ⟨S8x4096x256, .f32⟩
  | .hbm, ⟨83, _⟩ => ⟨S8x4096x256, .f32⟩
  | .hbm, ⟨84, _⟩ => ⟨S8x4096x1024, .f32⟩
  | .hbm, ⟨85, _⟩ => ⟨S8x4096x512, .f32⟩
  | .hbm, ⟨86, _⟩ => ⟨S_, .f32⟩
  | .hbm, ⟨87, _⟩ => ⟨S8x4096, .f32⟩
  | .hbm, ⟨88, _⟩ => ⟨S8x4096x1, .f32⟩
  | .hbm, ⟨89, _⟩ => ⟨S_, .f32⟩
  | .hbm, ⟨90, _⟩ => ⟨S8x4096x1, .f32⟩
  | .hbm, ⟨91, _⟩ => ⟨S8x4096x1, .f32⟩
  | .hbm, ⟨92, _⟩ => ⟨S8x4096x64, .f32⟩
  | .hbm, ⟨93, _⟩ => ⟨S8x4096x64, .f32⟩
  | .hbm, ⟨94, _⟩ => ⟨S8x4096x64, .f32⟩
  | .hbm, ⟨95, _⟩ => ⟨S8x4096x64, .f32⟩
  | .hbm, ⟨96, _⟩ => ⟨S8x4096x64, .f32⟩
  | .hbm, ⟨97, _⟩ => ⟨S_, .f32⟩
  | .hbm, ⟨98, _⟩ => ⟨S8x4096, .f32⟩
  | .hbm, ⟨99, _⟩ => ⟨S8x4096x1, .f32⟩
  | .hbm, ⟨100, _⟩ => ⟨S_, .f32⟩
  | .hbm, ⟨101, _⟩ => ⟨S8x4096x1, .f32⟩
  | .hbm, ⟨102, _⟩ => ⟨S8x4096x1, .f32⟩
  | .hbm, ⟨103, _⟩ => ⟨S8x4096x64, .f32⟩
  | .hbm, ⟨104, _⟩ => ⟨S8x4096x64, .f32⟩
  | .hbm, ⟨105, _⟩ => ⟨S_, .f32⟩
  | .hbm, ⟨106, _⟩ => ⟨S8x4096x1, .f32⟩
  | .hbm, ⟨107, _⟩ => ⟨S8x4096x1, .f32⟩
  | .hbm, ⟨108, _⟩ => ⟨S8x4096x1, .f32⟩
  | .hbm, ⟨109, _⟩ => ⟨S8x4096x64, .f32⟩
  | .hbm, ⟨110, _⟩ => ⟨S8x4096x64, .f32⟩
  | .hbm, ⟨111, _⟩ => ⟨S1x1x64, .f32⟩
  | .hbm, ⟨112, _⟩ => ⟨S8x4096x64, .f32⟩
  | .hbm, ⟨113, _⟩ => ⟨S8x4096x64, .f32⟩
  | .hbm, ⟨114, _⟩ => ⟨S1x1x64, .f32⟩
  | .hbm, ⟨115, _⟩ => ⟨S8x4096x64, .f32⟩
  | .hbm, ⟨116, _⟩ => ⟨S8x4096x64, .f32⟩
  | .hbm, ⟨117, _⟩ => ⟨S_, .f32⟩
  | .hbm, ⟨118, _⟩ => ⟨S8x4096x8, .f32⟩
  | .hbm, ⟨119, _⟩ => ⟨S8x4096x8, .f32⟩
  | .hbm, ⟨120, _⟩ => ⟨S_, .f32⟩
  | .hbm, ⟨121, _⟩ => ⟨S8x4096x56, .f32⟩
  | .hbm, ⟨122, _⟩ => ⟨S8x4096x1024, .bf16⟩
  | .hbm, ⟨123, _⟩ => ⟨S8x4096x512, .bf16⟩
  | .hbm, ⟨124, _⟩ => ⟨S8x4096x256, .bf16⟩
  | .hbm, ⟨125, _⟩ => ⟨S8x4096x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_9 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_11 : Ref sig .tc := ⟨.hbm, 97, rfl⟩
abbrev main_v75 : Ref sig .tc := ⟨.hbm, 98, rfl⟩
abbrev main_v76 : Ref sig .tc := ⟨.hbm, 99, rfl⟩
abbrev main_cst_12 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_13 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_14 : Ref sig .tc := ⟨.hbm, 117, rfl⟩
abbrev main_v92 : Ref sig .tc := ⟨.hbm, 118, rfl⟩
abbrev main_v93 : Ref sig .tc := ⟨.hbm, 119, rfl⟩
abbrev main_cst_15 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩

abbrev nD : Nat := 1
abbrev τ : Topo := Topo.v7x

variable {F : FTy → Type} [FloatOps F]
-- ==== Kernel5.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.MixMath.lean ====
module

public import Idealize.ShloMosaic.Lib.Pointwise

@[expose] public section

noncomputable section

/-! # The output projection and the gated feed-forward network of one token, as formulas on rows

One token's row has 1024 numbers; the modulation has six rows, the norms' gains four. -/

namespace Cert.Mix

open Idealize.ShloMosaic

/-- A row of the residual stream. -/
abbrev Row : Type := Fin 1024 → EReal

/-- The number 1024 of the mean over a row, as the programs spell it. -/
def width : EReal := Ideal.ofBits .f32 0x44800000#32

/-- The small number added under the square root, as the programs spell it. -/
def eps : EReal := Ideal.ofBits .f32 0x358637BD#32

/-- Root-mean-square normalisation of a row `y` with gain `g`: `y / sqrt (mean y² + eps) * g`. -/
def rms (y g : Row) (d : Fin 1024) : EReal :=
  y d * Ideal.rsqrt (Ideal.div (∑ k, y k * y k) width + eps) * g d

/-- The residual stream after the token mixer's output `o` has been projected by `wm`, normalised and gated. -/
def mid (o x gate g : Row) (wm : Fin 1024 → Row) (d : Fin 1024) : EReal :=
  x d + (1 + gate d) * rms (fun e => ∑ v, o v * wm v e) g d

/-- The feed-forward network's input: the normalised row, scaled and shifted by the modulation. -/
def inp (xm g scale shift : Row) (d : Fin 1024) : EReal :=
  rms xm g d * (1 + scale d) + shift d

/-- `z * sigmoid z`. -/
def silu (z : EReal) : EReal := z * Ideal.logistic z

/-- One hidden unit: the gated product of its two projections of the row `h`. -/
def unit (h wg wu : Row) : EReal := silu (∑ d, h d * wg d) * ∑ d, h d * wu d

/-- The residual stream after the feed-forward network's output `y` has been normalised and gated. -/
def out (xm y gate g : Row) (d : Fin 1024) : EReal := xm d + (1 + gate d) * rms y g d

/-- One token through the output projection and the feed-forward network: `o` the token mixer's output, `x` the residual
stream, `md` the six rows of modulation, `g` the four gains, `wm`, `wi`, `wo` the weights (the gate's columns of `wi` come
first, the other projection's 2816 columns later). -/
def token (o x : Row) (md : Fin 6 → Row) (g : Fin 4 → Row) (wm : Fin 1024 → Row) (wi : Fin 1024 → Fin 5632 → EReal)
    (wo : Fin 2816 → Row) : Row :=
  out (mid o x (md 2) (g 1) wm)
    (fun e => ∑ n : Fin 2816, unit (inp (mid o x (md 2) (g 1) wm) (g 2) (md 4) (md 3))
      (fun d => wi d ⟨n.val, by omega⟩) (fun d => wi d ⟨2816 + n.val, by omega⟩) * wo n e)
    (md 5) (g 3)

/-- A sum of eleven terms, added one after the other from zero. -/
theorem sum_eleven (g : Fin 11 → EReal) :
    ∑ j, g j = 0 + g 0 + g 1 + g 2 + g 3 + g 4 + g 5 + g 6 + g 7 + g 8 + g 9 + g 10 := by
  rw [zero_add]
  simp only [Fin.sum_univ_castSucc, Finset.univ_eq_empty, Finset.sum_empty, zero_add]
  rfl

/-- A sum over 2816 hidden units is the sum of eleven blocks of 256, added one after the other from zero. -/
theorem sum_blocks (f : Fin 2816 → EReal) :
    ∑ n, f n = 0 + (∑ c : Fin 256, f ⟨c.val, by omega⟩) + (∑ c : Fin 256, f ⟨256 + c.val, by omega⟩)
      + (∑ c : Fin 256, f ⟨512 + c.val, by omega⟩) + (∑ c : Fin 256, f ⟨768 + c.val, by omega⟩)
      + (∑ c : Fin 256, f ⟨1024 + c.val, by omega⟩) + (∑ c : Fin 256, f ⟨1280 + c.val, by omega⟩)
      + (∑ c : Fin 256, f ⟨1536 + c.val, by omega⟩) + (∑ c : Fin 256, f ⟨1792 + c.val, by omega⟩)
      + (∑ c : Fin 256, f ⟨2048 + c.val, by omega⟩) + (∑ c : Fin 256, f ⟨2304 + c.val, by omega⟩)
      + (∑ c : Fin 256, f ⟨2560 + c.val, by omega⟩) := by
  rw [show ∑ n, f n = ∑ j : Fin 11, ∑ c : Fin 256, f ⟨j.val * 256 + c.val, by omega⟩ from Fin.sum_univ_tiles 11 256 rfl f]
  rw [sum_eleven]
  simp only [Fin.val_zero, Nat.zero_mul, Nat.zero_add]
  rfl

/-- The same with the other projection's column, 2816 further on, carried along. -/
theorem sum_blocks₂ (f : Fin 2816 → Fin 5632 → EReal) :
    ∑ n : Fin 2816, f ⟨n.val, by omega⟩ ⟨2816 + n.val, by omega⟩ = 0 + (∑ c : Fin 256, f ⟨c.val, by omega⟩ ⟨2816 + c.val, by omega⟩)
      + (∑ c : Fin 256, f ⟨256 + c.val, by omega⟩ ⟨3072 + c.val, by omega⟩)
      + (∑ c : Fin 256, f ⟨512 + c.val, by omega⟩ ⟨3328 + c.val, by omega⟩)
      + (∑ c : Fin 256, f ⟨768 + c.val, by omega⟩ ⟨3584 + c.val, by omega⟩)
      + (∑ c : Fin 256, f ⟨1024 + c.val, by omega⟩ ⟨3840 + c.val, by omega⟩)
      + (∑ c : Fin 256, f ⟨1280 + c.val, by omega⟩ ⟨4096 + c.val, by omega⟩)
      + (∑ c : Fin 256, f ⟨1536 + c.val, by omega⟩ ⟨4352 + c.val, by omega⟩)
      + (∑ c : Fin 256, f ⟨1792 + c.val, by omega⟩ ⟨4608 + c.val, by omega⟩)
      + (∑ c : Fin 256, f ⟨2048 + c.val, by omega⟩ ⟨4864 + c.val, by omega⟩)
      + (∑ c : Fin 256, f ⟨2304 + c.val, by omega⟩ ⟨5120 + c.val, by omega⟩)
      + (∑ c : Fin 256, f ⟨2560 + c.val, by omega⟩ ⟨5376 + c.val, by omega⟩) := by
  rw [sum_blocks (fun n => f n ⟨2816 + n.val, by omega⟩)]
  simp only [← Nat.add_assoc, Nat.reduceAdd]

/-- One token, its hidden units taken in eleven blocks. -/
theorem token_blocks (o x : Row) (md : Fin 6 → Row) (g : Fin 4 → Row) (wm : Fin 1024 → Row) (wi : Fin 1024 → Fin 5632 → EReal)
    (wo : Fin 2816 → Row) (d : Fin 1024) : token o x md g wm wi wo d = out (mid o x (md 2) (g 1) wm)
    (fun e => (∑ c : Fin 256, unit (inp (mid o x (md 2) (g 1) wm) (g 2) (md 4) (md 3))
        (fun d => wi d ⟨c.val, by omega⟩) (fun d => wi d ⟨2816 + c.val, by omega⟩) * wo ⟨c.val, by omega⟩ e)
      + (∑ c : Fin 256, unit (inp (mid o x (md 2) (g 1) wm) (g 2) (md 4) (md 3))
        (fun d => wi d ⟨256 + c.val, by omega⟩) (fun d => wi d ⟨3072 + c.val, by omega⟩) * wo ⟨256 + c.val, by omega⟩ e)
      + (∑ c : Fin 256, unit (inp (mid o x (md 2) (g 1) wm) (g 2) (md 4) (md 3))
        (fun d => wi d ⟨512 + c.val, by omega⟩) (fun d => wi d ⟨3328 + c.val, by omega⟩) * wo ⟨512 + c.val, by omega⟩ e)
      + (∑ c : Fin 256, unit (inp (mid o x (md 2) (g 1) wm) (g 2) (md 4) (md 3))
        (fun d => wi d ⟨768 + c.val, by omega⟩) (fun d => wi d ⟨3584 + c.val, by omega⟩) * wo ⟨768 + c.val, by omega⟩ e)
      + (∑ c : Fin 256, unit (inp (mid o x (md 2) (g 1) wm) (g 2) (md 4) (md 3))
        (fun d => wi d ⟨1024 + c.val, by omega⟩) (fun d => wi d ⟨3840 + c.val, by omega⟩) * wo ⟨1024 + c.val, by omega⟩ e)
      + (∑ c : Fin 256, unit (inp (mid o x (md 2) (g 1) wm) (g 2) (md 4) (md 3))
        (fun d => wi d ⟨1280 + c.val, by omega⟩) (fun d => wi d ⟨4096 + c.val, by omega⟩) * wo ⟨1280 + c.val, by omega⟩ e)
      + (∑ c : Fin 256, unit (inp (mid o x (md 2) (g 1) wm) (g 2) (md 4) (md 3))
        (fun d => wi d ⟨1536 + c.val, by omega⟩) (fun d => wi d ⟨4352 + c.val, by omega⟩) * wo ⟨1536 + c.val, by omega⟩ e)
      + (∑ c : Fin 256, unit (inp (mid o x (md 2) (g 1) wm) (g 2) (md 4) (md 3))
        (fun d => wi d ⟨1792 + c.val, by omega⟩) (fun d => wi d ⟨4608 + c.val, by omega⟩) * wo ⟨1792 + c.val, by omega⟩ e)
      + (∑ c : Fin 256, unit (inp (mid o x (md 2) (g 1) wm) (g 2) (md 4) (md 3))
        (fun d => wi d ⟨2048 + c.val, by omega⟩) (fun d => wi d ⟨4864 + c.val, by omega⟩) * wo ⟨2048 + c.val, by omega⟩ e)
      + (∑ c : Fin 256, unit (inp (mid o x (md 2) (g 1) wm) (g 2) (md 4) (md 3))
        (fun d => wi d ⟨2304 + c.val, by omega⟩) (fun d => wi d ⟨5120 + c.val, by omega⟩) * wo ⟨2304 + c.val, by omega⟩ e)
      + (∑ c : Fin 256, unit (inp (mid o x (md 2) (g 1) wm) (g 2) (md 4) (md 3))
        (fun d => wi d ⟨2560 + c.val, by omega⟩) (fun d => wi d ⟨5376 + c.val, by omega⟩) * wo ⟨2560 + c.val, by omega⟩ e)) (md 5) (g 3) d := by
  unfold token
  exact congrArg (fun y => out (mid o x (md 2) (g 1) wm) y (md 5) (g 3) d) (funext fun e =>
    sum_blocks₂ (fun n k => unit (inp (mid o x (md 2) (g 1) wm) (g 2) (md 4) (md 3)) (fun d => wi d ⟨n.val, by omega⟩)
      (fun d => wi d k) * wo n e) |>.trans (by rw [zero_add]))

end Cert.Mix

end
-- ==== Proof.MixPayload.lean ====
module

public import proofs.«01_k».proof.Proof.Gen.Kernel2Ideal.Value
public import Idealize.ShloMosaic.Lib.Pointwise
public import proofs.«01_k».proof.Proof.MixMath

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.Mix

/-- The residual stream after the projected, normalised and gated output of the token mixer. -/
theorem pay3_at (md : Vec Ideal S1x6x1024 .f32) (g : Vec Ideal S4x1024 .f32) (o : Vec Ideal S1x512x1024 .bf16)
    (wm : Vec Ideal S1024x1024 .bf16) (x : Vec Ideal S1x512x1024 .f32) (r : Fin 512) (d : Fin 1024) :
    k0_pay3 (F := Ideal) md g o wm x (ix2 r d)
      = mid (fun v => o (ix3 0 r v)) (fun e => x (ix3 0 r e)) (fun e => md (ix3 0 2 e)) (fun e => g (ix2 1 e))
          (fun v e => wm (ix2 v e)) d := by
  pointwise [k0_pay3, k0_pay2]
  rfl

/-- The feed-forward network's input, from the residual stream after the projection. -/
theorem pay8_at (md : Vec Ideal S1x6x1024 .f32) (g : Vec Ideal S4x1024 .f32)
    (o : Vec Ideal S1x512x1024 .bf16) (wm : Vec Ideal S1024x1024 .bf16) (x : Vec Ideal S1x512x1024 .f32)
    (r : Fin 512) (d : Fin 1024) :
    k0_pay8 (F := Ideal) (k0_pay3 md g o wm x) (k0_pay4 g) (k0_pay5 md) (k0_pay6 md) (k0_pay7 md g o wm x)
        (FloatOps.ofBits .f32 0x358637BD#32) (ix2 r d)
      = inp (fun e => k0_pay3 (F := Ideal) md g o wm x (ix2 r e)) (fun e => g (ix2 2 e)) (fun e => md (ix3 0 4 e))
          (fun e => md (ix3 0 3 e)) d := by
  pointwise [k0_pay8, k0_pay7, k0_pay6, k0_pay5, k0_pay4, k0_pay2]
  rfl

/-- The residual stream goes through its scratch unchanged. -/
theorem pay9_at (xm : FVec Ideal S512x1024 .f32) (r : Fin 512) (e : Fin 1024) :
    k0_pay9 (F := Ideal) xm (ix2 r e) = xm (ix2 r e) := by
  pointwise [k0_pay9]

/-- The last store: the residual stream plus the gated, normalised output of the feed-forward network. -/
theorem pay1_at (md : Vec Ideal S1x6x1024 .f32) (g : Vec Ideal S4x1024 .f32) (xm y : Vec Ideal S512x1024 .f32)
    (r : Fin 512) (d : Fin 1024) :
    k0_pay1 (F := Ideal) (k0_pay2 md) g xm y (ix3 0 r d)
      = out (fun e => xm (ix2 r e)) (fun e => y (ix2 r e)) (fun e => md (ix3 0 5 e)) (fun e => g (ix2 3 e)) d := by
  pointwise [k0_pay1, k0_pay2]
  rfl

/-- The accumulator starts at zero. -/
theorem pay10_at (r : Fin 512) (e : Fin 1024) : k0_pay10 (F := Ideal) (ix2 r e) = 0 := by
  pointwise [k0_pay10]

/-- One block of 256 hidden units added to the accumulator `a`. -/
abbrev step (h : Vec Ideal S512x1024 .bf16) (wg wu : Vec Ideal S1024x256 .bf16) (a : Vec Ideal S512x1024 .f32)
    (wo : Vec Ideal S256x1024 .bf16) (r : Fin 512) (e : Fin 1024) : EReal :=
  (show EReal from a (ix2 r e)) + ∑ c : Fin 256, unit (fun d => h (ix2 r d)) (fun d => wg (ix2 d c)) (fun d => wu (ix2 d c)) * wo (ix2 c e)

/-! The eleven steps: each adds its block of hidden units to what the accumulator held. -/

section Steps
variable (h : Vec Ideal S512x1024 .bf16) (wg wu : Vec Ideal S1024x256 .bf16) (a : Vec Ideal S512x1024 .f32)
  (wo : Vec Ideal S256x1024 .bf16) (r : Fin 512) (e : Fin 1024)

theorem pay12_at : k0_pay12 (F := Ideal) a (k0_pay11 h wg wu) wo (ix2 r e) = step h wg wu a wo r e := by
  pointwise [k0_pay12, k0_pay11]
  rfl

theorem pay13_at : k0_pay13 (F := Ideal) h wg wu a wo (ix2 r e) = step h wg wu a wo r e := by
  pointwise [k0_pay13]
  rfl

theorem pay16_at : k0_pay16 (F := Ideal) (k0_pay14 h wg) (k0_pay15 h wu) a wo (ix2 r e) = step h wg wu a wo r e := by
  pointwise [k0_pay16, k0_pay15, k0_pay14]
  rfl

theorem pay17_at : k0_pay17 (F := Ideal) h wg wu a wo (ix2 r e) = step h wg wu a wo r e := by
  pointwise [k0_pay17]
  rfl

theorem pay18_at : k0_pay18 (F := Ideal) h wg wu a wo (ix2 r e) = step h wg wu a wo r e := by
  pointwise [k0_pay18]
  rfl

theorem pay19_at : k0_pay20 (F := Ideal) (k0_pay19 h wg wu a wo) (ix2 r e) = step h wg wu a wo r e := by
  pointwise [k0_pay20, k0_pay19]
  rfl

theorem pay21_at : k0_pay21 (F := Ideal) h wg wu a wo (ix2 r e) = step h wg wu a wo r e := by
  pointwise [k0_pay21]
  rfl

theorem pay24_at : k0_pay24 (F := Ideal) (k0_pay22 h wu) a (k0_pay23 h wg) wo (ix2 r e) = step h wg wu a wo r e := by
  pointwise [k0_pay24, k0_pay23, k0_pay22]
  rfl

theorem pay25_at : k0_pay25 (F := Ideal) h wg wu a wo (ix2 r e) = step h wg wu a wo r e := by
  pointwise [k0_pay25]
  rfl

theorem pay27_at : k0_pay27 (F := Ideal) h (k0_pay26 h wg) wu a wo (ix2 r e) = step h wg wu a wo r e := by
  pointwise [k0_pay27, k0_pay26]
  rfl

theorem pay28_at : k0_pay28 (F := Ideal) h wg wu a wo (ix2 r e) = step h wg wu a wo r e := by
  pointwise [k0_pay28]
  rfl

end Steps

end Cert.Kernel2Ideal.Value

end
-- ==== Proof.MixValue.lean ====
module

public import proofs.«01_k».proof.Proof.MixPayload
public import Idealize.ShloMosaic.Lib.Pipeline.ValueKit

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Mix

variable (m : (ℓ : Loc nD τ sig) → Buf (Elt Ideal) ℓ)

/-- Which block of its array each window holds at grid point `t`. -/
theorem idx : ∀ t : Fin cfg0.N, win0_0.index t = ![t.val / 8, t.val % 8, 0] ∧ win0_1.index t = ![t.val / 8, t.val % 8, 0]
    ∧ win0_2.index t = ![t.val / 8, 0, 0] ∧ win0_3.index t = ![0, 0] ∧ win0_4.index t = ![0, 0] ∧ win0_5.index t = ![0, 0]
    ∧ win0_6.index t = ![0, 0] ∧ win0_7.index t = ![t.val / 8, t.val % 8, 0] :=
  (by decide +kernel : ∀ t : Fin grid0.N, _)

/-- The grid has 64 points. -/
theorem lt64 : ∀ t : Fin cfg0.N, t.val < 64 := (by decide +kernel : ∀ t : Fin grid0.N, t.val < 64)

/-! The blocks a grid point reads, as parts of the argument arrays. -/

theorem iblk0 (c : Dev nD) (t : Fin cfg0.N) (r : Fin 512) (v : Fin 1024) : iblk m c 0 t (ix3 0 r v)
    = m ((c : Thread nD τ).loc main_arg0) (ix3 ⟨t.val / 8, by have := lt64 t; omega⟩ ⟨t.val % 8 * 512 + r.val, by omega⟩ v) := by
  blk_ext [iblk, V, idx t]

theorem iblk1 (c : Dev nD) (t : Fin cfg0.N) (r : Fin 512) (v : Fin 1024) : iblk m c 1 t (ix3 0 r v)
    = m ((c : Thread nD τ).loc main_arg1) (ix3 ⟨t.val / 8, by have := lt64 t; omega⟩ ⟨t.val % 8 * 512 + r.val, by omega⟩ v) := by
  blk_ext [iblk, V, idx t]

theorem iblk2 (c : Dev nD) (t : Fin cfg0.N) (j : Fin 6) (e : Fin 1024) : iblk m c 2 t (ix3 0 j e)
    = m ((c : Thread nD τ).loc main_arg2) (ix2 ⟨t.val / 8, by have := lt64 t; omega⟩ ⟨j.val * 1024 + e.val, by omega⟩) := by
  blk_point [iblk, idx t]

theorem iblk3 (c : Dev nD) (t : Fin cfg0.N) (j : Fin 4) (e : Fin 1024) : iblk m c 3 t (ix2 j e)
    = m ((c : Thread nD τ).loc main_arg3) (ix2 j e) := by
  blk_ext [iblk, V, idx t]

theorem iblk4 (c : Dev nD) (t : Fin cfg0.N) (j : Fin 1024) (e : Fin 1024) : iblk m c 4 t (ix2 j e)
    = m ((c : Thread nD τ).loc main_arg4) (ix2 j e) := by
  blk_point [iblk, idx t]

theorem iblk5 (c : Dev nD) (t : Fin cfg0.N) (j : Fin 1024) (e : Fin 5632) : iblk m c 5 t (ix2 j e)
    = m ((c : Thread nD τ).loc main_arg5) (ix2 j e) := by
  blk_point [iblk, idx t]

theorem iblk6 (c : Dev nD) (t : Fin cfg0.N) (j : Fin 2816) (e : Fin 1024) : iblk m c 6 t (ix2 j e)
    = m ((c : Thread nD τ).loc main_arg6) (ix2 j e) := by
  blk_point [iblk, idx t]

/-- The whole result: each token of each sequence through `Cert.Mix.token`. -/
def result (o : FVec Ideal S8x4096x1024 .bf16) (x : FVec Ideal S8x4096x1024 .f32) (md : FVec Ideal S8x6144 .f32)
    (g : FVec Ideal S4x1024 .f32) (wm : FVec Ideal S1024x1024 .f32) (wi : FVec Ideal S1024x5632 .f32)
    (wo : FVec Ideal S2816x1024 .f32) : FVec Ideal S8x4096x1024 .f32 := fun i =>
  token (fun v => o (ix3 (i 0) (i 1) v)) (fun e => x (ix3 (i 0) (i 1) e)) (fun j e => md (ix2 (i 0) ⟨j.val * 1024 + e.val, by omega⟩))
    (fun j e => g (ix2 j e)) (fun v e => wm (ix2 v e)) (fun d n => wi (ix2 d n)) (fun n e => wo (ix2 n e)) (i 2)

/-- The kernel's result array after the run. -/
theorem final (c : Dev nD) : (dats m 0 c).arrAt 7 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7]
  unfold outsAt0
  frame_out
  idx_vars y
  obtain rfl : y0 = 0 := Subsingleton.elim _ _
  refine (pay1_at _ _ _ _ _ _).trans ?_
  simp only [pay12_at, pay13_at, pay16_at, pay17_at, pay18_at, pay19_at, pay21_at, pay24_at, pay25_at, pay27_at, pay28_at, step]
  simp only [pay9_at, pay8_at, pay3_at, pay10_at]
  pointwise
  simp only [iblk0, iblk1, iblk2, iblk3, iblk4, iblk5, iblk6]
  have he : ((View.whole main_v4).slice (win0_7.rect t)).emb (ix3 0 y1 y2)
      = ix3 ⟨t.val / 8, by have := lt64 t; omega⟩ ⟨t.val % 8 * 512 + y1.val, by omega⟩ y2 := by blk_ext [idx t]
  rw [he]
  exact (token_blocks (fun v => m (c.tc.loc main_arg0) (ix3 ⟨t.val / 8, by have := lt64 t; omega⟩ ⟨t.val % 8 * 512 + y1.val, by omega⟩ v))
    (fun e => m (c.tc.loc main_arg1) (ix3 ⟨t.val / 8, by have := lt64 t; omega⟩ ⟨t.val % 8 * 512 + y1.val, by omega⟩ e))
    (fun j e => m (c.tc.loc main_arg2) (ix2 ⟨t.val / 8, by have := lt64 t; omega⟩ ⟨j.val * 1024 + e.val, by omega⟩))
    (fun j e => m (c.tc.loc main_arg3) (ix2 j e)) (fun v e => m (c.tc.loc main_arg4) (ix2 v e))
    (fun d n => m (c.tc.loc main_arg5) (ix2 d n)) (fun n e => m (c.tc.loc main_arg6) (ix2 n e)) y2).symm

end Cert.Kernel2Ideal.Value

end
-- ==== Proof.MixReference.lean ====
module

public import proofs.«01_k».proof.Proof.MixValue
public import proofs.«01_k».proof.Proof.Gen.Reference2Ideal.Run

@[expose] public section

set_option maxRecDepth 16384

noncomputable section

/-! # The reference's result, token by token -/

namespace Cert.Reference2Ideal.Value

open Cert.Reference2Ideal Cert.Reference2Ideal.Gen Idealize.ShloMosaic Idealize.ShloMosaic.TcCoe Idealize.SL.Sem
open Idealize.ShloMosaic.StableHlo
open Cert.Mix

/-! The parts of the composed term, each over whole arrays. -/

/-- Root-mean-square normalisation of every row of `Y`, with the gain in row `j` of `g`. -/
def rmsA (Y : FVec Ideal S8x4096x1024 .f32) (g : FVec Ideal S1x1024 .f32) : FVec Ideal S8x4096x1024 .f32 :=
  mulf (mulf Y (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf Y Y) (constant S_ .f32 0x00000000#32)
      reducesTo_S8x4096x1024_S8x4096_d2 h_S_)) (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 (shapeCast _ g shapeCasts_S1x1024_S1024)))

/-- A modulation row plus one, for every token. -/
def onePlus (s : FVec Ideal S8x1024 .f32) : FVec Ideal S8x4096x1024 .f32 :=
  broadcastInDim S8x4096x1024 ![0, 1, 2] bcast_S8x1x1024_S8x4096x1024_0_1_2 (addf (broadcastInDim S8x1x1024 ![] bcast_S_S8x1x1024
    (constant S_ .f32 0x3F800000#32)) (broadcastInDim S8x1x1024 ![0, 2] bcast_S8x1024_S8x1x1024_0_2 s))

/-- The residual stream after the output projection. -/
def midA (o : FVec Ideal S8x4096x1024 .bf16) (x : FVec Ideal S8x4096x1024 .f32) (md : FVec Ideal S8x6144 .f32)
    (g : FVec Ideal S4x1024 .f32) (wm : FVec Ideal S1024x1024 .f32) : FVec Ideal S8x4096x1024 .f32 :=
  addf x (mulf (onePlus (extractStridedSlice S8x1024 ![0, 2048] md slices_S8x6144_S8x1024_0_2048))
    (rmsA (Host.dotGeneral dot_S8x4096x1024_S1024x1024_S8x4096x1024_2_0_01_1_n_n none (extf .f32 o bitsLt_bf16_f32) wm)
      (extractStridedSlice S1x1024 ![1, 0] g slices_S4x1024_S1x1024_1_0)))

/-- The projection into the hidden units. -/
def hidA (X : FVec Ideal S8x4096x1024 .f32) (md : FVec Ideal S8x6144 .f32)
    (g : FVec Ideal S4x1024 .f32) (wi : FVec Ideal S1024x5632 .f32) : FVec Ideal S8x4096x5632 .f32 :=
  Host.dotGeneral dot_S8x4096x1024_S1024x5632_S8x4096x5632_2_0_01_1_n_n none
    (addf (mulf (rmsA X (extractStridedSlice S1x1024 ![2, 0] g slices_S4x1024_S1x1024_2_0))
      (onePlus (extractStridedSlice S8x1024 ![0, 4096] md slices_S8x6144_S8x1024_0_4096)))
      (broadcastInDim S8x4096x1024 ![0, 1, 2] bcast_S8x1x1024_S8x4096x1024_0_1_2 (broadcastInDim S8x1x1024 ![0, 2]
        bcast_S8x1024_S8x1x1024_0_2 (extractStridedSlice S8x1024 ![0, 3072] md slices_S8x6144_S8x1024_0_3072)))) wi

/-- The hidden units' products, projected back. -/
def ffnA (H : FVec Ideal S8x4096x5632 .f32) (wo : FVec Ideal S2816x1024 .f32) : FVec Ideal S8x4096x1024 .f32 :=
  Host.dotGeneral dot_S8x4096x2816_S2816x1024_S8x4096x1024_2_0_01_1_n_n none
    (mulf (mulf (extractStridedSlice S8x4096x2816 ![0, 0, 0] H slices_S8x4096x5632_S8x4096x2816_0_0_0)
      (Host.divf (broadcastInDim S8x4096x2816 ![] bcast_S_S8x4096x2816 (constant S_ .f32 0x3F800000#32))
        (addf (broadcastInDim S8x4096x2816 ![] bcast_S_S8x4096x2816 (constant S_ .f32 0x3F800000#32))
          (Host.exp (Host.negf (extractStridedSlice S8x4096x2816 ![0, 0, 0] H slices_S8x4096x5632_S8x4096x2816_0_0_0))))))
      (extractStridedSlice S8x4096x2816 ![0, 0, 2816] H slices_S8x4096x5632_S8x4096x2816_0_0_2816)) wo

/-- The residual stream after the feed-forward network. -/
def outA (X Z : FVec Ideal S8x4096x1024 .f32) (md : FVec Ideal S8x6144 .f32) (g : FVec Ideal S4x1024 .f32) :
    FVec Ideal S8x4096x1024 .f32 :=
  addf X (mulf (onePlus (extractStridedSlice S8x1024 ![0, 5120] md slices_S8x6144_S8x1024_0_5120))
    (rmsA Z (extractStridedSlice S1x1024 ![3, 0] g slices_S4x1024_S1x1024_3_0)))

section Reads
variable (b : Fin 8) (s : Fin 4096)

theorem rmsA_at (Y : FVec Ideal S8x4096x1024 .f32) (g : FVec Ideal S1x1024 .f32) (d : Fin 1024) :
    rmsA Y g (ix3 b s d) = rms (fun e => Y (ix3 b s e)) (fun e => g (ix2 0 e)) d := by
  pointwise [rmsA]
  rfl

theorem onePlus_at (z : FVec Ideal S8x1024 .f32) (d : Fin 1024) : onePlus z (ix3 b s d) = 1 + z (ix2 b d) := by
  pointwise [onePlus]

theorem midA_at (o : FVec Ideal S8x4096x1024 .bf16) (x : FVec Ideal S8x4096x1024 .f32) (md : FVec Ideal S8x6144 .f32)
    (g : FVec Ideal S4x1024 .f32) (wm : FVec Ideal S1024x1024 .f32) (d : Fin 1024) : midA o x md g wm (ix3 b s d)
    = mid (fun v => o (ix3 b s v)) (fun e => x (ix3 b s e)) (fun e => md (ix2 b ⟨2048 + e.val, by omega⟩)) (fun e => g (ix2 1 e))
        (fun v e => wm (ix2 v e)) d := by
  pointwise [midA]
  simp only [rmsA_at, onePlus_at]
  pointwise
  rfl

theorem hidA_at (X : FVec Ideal S8x4096x1024 .f32) (md : FVec Ideal S8x6144 .f32)
    (g : FVec Ideal S4x1024 .f32) (wi : FVec Ideal S1024x5632 .f32) (n : Fin 5632) : hidA X md g wi (ix3 b s n)
    = ∑ d : Fin 1024, inp (fun e => X (ix3 b s e)) (fun e => g (ix2 2 e)) (fun e => md (ix2 b ⟨4096 + e.val, by omega⟩))
        (fun e => md (ix2 b ⟨3072 + e.val, by omega⟩)) d * wi (ix2 d n) := by
  pointwise [hidA]
  simp only [rmsA_at, onePlus_at]
  pointwise
  rfl

theorem ffnA_at (H : FVec Ideal S8x4096x5632 .f32) (wo : FVec Ideal S2816x1024 .f32) (d : Fin 1024) : ffnA H wo (ix3 b s d)
    = ∑ n : Fin 2816, silu (H (ix3 b s ⟨n.val, by omega⟩)) * H (ix3 b s ⟨2816 + n.val, by omega⟩) * wo (ix2 n d) := by
  pointwise [ffnA]
  rfl

theorem outA_at (X Z : FVec Ideal S8x4096x1024 .f32) (md : FVec Ideal S8x6144 .f32) (g : FVec Ideal S4x1024 .f32)
    (d : Fin 1024) : outA X Z md g (ix3 b s d) = out (fun e => X (ix3 b s e)) (fun e => Z (ix3 b s e))
      (fun e => md (ix2 b ⟨5120 + e.val, by omega⟩)) (fun e => g (ix2 3 e)) d := by
  pointwise [outA]
  simp only [rmsA_at, onePlus_at]
  pointwise
  rfl

end Reads

variable (m : (ℓ : Loc nD τ sig) → Buf (Elt Ideal) ℓ)

/-- The composed term by its parts. -/
theorem res_parts (c : Dev nD) : res_out0 m c
    = outA (midA (m (c.tc.loc main_arg0)) (m (c.tc.loc main_arg1)) (m (c.tc.loc main_arg2)) (m (c.tc.loc main_arg3)) (m (c.tc.loc main_arg4)))
        (ffnA (hidA (midA (m (c.tc.loc main_arg0)) (m (c.tc.loc main_arg1)) (m (c.tc.loc main_arg2)) (m (c.tc.loc main_arg3))
          (m (c.tc.loc main_arg4))) (m (c.tc.loc main_arg2)) (m (c.tc.loc main_arg3)) (m (c.tc.loc main_arg5))) (m (c.tc.loc main_arg6)))
        (m (c.tc.loc main_arg2)) (m (c.tc.loc main_arg3)) := rfl

/-- The reference's result is the token-by-token function of its arguments. -/
theorem res_eq (c : Dev nD) : res_out0 m c = Cert.Kernel2Ideal.Value.result (m (c.tc.loc main_arg0)) (m (c.tc.loc main_arg1))
    (m (c.tc.loc main_arg2)) (m (c.tc.loc main_arg3)) (m (c.tc.loc main_arg4)) (m (c.tc.loc main_arg5)) (m (c.tc.loc main_arg6)) := by
  rw [res_parts]
  funext y
  idx_vars y
  rw [outA_at]
  simp only [ffnA_at, hidA_at, midA_at]
  rfl

end Cert.Reference2Ideal.Value

end
-- ==== Proof.GdnMath.lean ====
module

public import proofs.«01_k».proof.Proof.MixMath

@[expose] public section

noncomputable section

/-! # The decay gates of one token, and their running sums within a chunk of 64 tokens -/

namespace Cert.Gdn

open Idealize.ShloMosaic

/-- `log (1 + exp z)`, computed without overflow. -/
def softplus (z : EReal) : EReal := max z 0 + Ideal.log1p (Ideal.exp (-(max z (-z))))

/-- The logarithm of a token's decay: minus `exp a` times the softplus of its projection. -/
def decay (a z : EReal) : EReal := -(Ideal.exp a) * softplus z

theorem exp_nonneg (z : EReal) : 0 ≤ Ideal.exp z := by
  induction z using EReal.rec with
  | bot => exact le_refl _
  | top => exact le_top
  | coe r => exact EReal.coe_nonneg.mpr (Real.exp_pos r).le

theorem log1p_nonneg {z : EReal} (h : 0 ≤ z) : 0 ≤ Ideal.log1p z := by
  induction z using EReal.rec with
  | bot => exact absurd h (by simp)
  | top => exact le_top
  | coe r =>
    have hr : 0 ≤ r := EReal.coe_nonneg.mp h
    show 0 ≤ Ideal.log (1 + (r : EReal))
    rw [← EReal.coe_one, ← EReal.coe_add]
    show 0 ≤ (if 1 + r ≤ 0 then (⊥ : EReal) else (Real.log (1 + r) : EReal))
    rw [if_neg (by linarith)]
    exact EReal.coe_nonneg.mpr (Real.log_nonneg (by linarith))

theorem softplus_nonneg (z : EReal) : 0 ≤ softplus z :=
  add_nonneg (le_max_right _ _) (log1p_nonneg (exp_nonneg _))

/-- A decay's logarithm is never plus infinity. -/
theorem decay_ne_top (a z : EReal) : decay a z ≠ ⊤ := by
  have h : decay a z ≤ 0 := by
    unfold decay
    rw [EReal.neg_mul, EReal.neg_le, neg_zero]
    exact mul_nonneg (exp_nonneg _) (softplus_nonneg _)
  exact ne_top_of_le_ne_top (by simp) h

/-- A sum with a term minus infinity is minus infinity. -/
theorem sum_bot {N : ℕ} (f : Fin N → EReal) (k : Fin N) (h : f k = ⊥) : ∑ j, f j = ⊥ := by
  rw [← Finset.add_sum_erase _ _ (Finset.mem_univ k), h, EReal.bot_add]

/-- The sum of the terms `P` picks, taken in three parts as the kernel splits each term: the term itself, what is left of it,
and what is left of that. -/
theorem three_parts {N : ℕ} (P : Fin N → Prop) [DecidablePred P] (g : Fin N → EReal) (hg : ∀ k, g k ≠ ⊤) :
    (∑ k, if P k then g k else 0) + ((∑ k, if P k then g k - g k else 0) + ∑ k, if P k then (g k - g k) - (g k - g k) else 0)
      = ∑ k, if P k then g k else 0 := by
  by_cases hb : ∃ k, P k ∧ g k = ⊥
  · obtain ⟨k, hp, hk⟩ := hb
    rw [sum_bot (fun k => if P k then g k else 0) k (by simp only [if_pos hp, hk]), EReal.bot_add]
  · have hz : ∀ k, P k → g k - g k = 0 := fun k hp => EReal.sub_self (hg k) fun h => hb ⟨k, hp, h⟩
    have e1 : (∑ k, if P k then g k - g k else 0) = 0 := Finset.sum_eq_zero fun k _ => by
      split
      · next hp => exact hz k hp
      · rfl
    have e2 : (∑ k, if P k then (g k - g k) - (g k - g k) else 0) = 0 := Finset.sum_eq_zero fun k _ => by
      split
      · next hp => rw [hz k hp, sub_zero]
      · rfl
    rw [e1, e2, add_zero, add_zero]

/-- Of 512 tokens, those of row `r`'s chunk up to and including `r`. -/
theorem chunk_sum (g : Fin 512 → EReal) (r : Fin 512) :
    (∑ k : Fin 512, if k.val / 64 = r.val / 64 ∧ k.val ≤ r.val then g k else 0)
      = ∑ j : Fin 64, if j.val ≤ r.val % 64 then g ⟨r.val / 64 * 64 + j.val, by omega⟩ else 0 := by
  rw [Fin.sum_univ_tiles 8 64 rfl, Finset.sum_eq_single (⟨r.val / 64, by omega⟩ : Fin 8)]
  · refine Finset.sum_congr rfl fun j _ => ?_
    have := j.isLt
    refine if_congr ?_ rfl rfl
    show (r.val / 64 * 64 + j.val) / 64 = r.val / 64 ∧ r.val / 64 * 64 + j.val ≤ r.val ↔ _
    omega
  · intro i _ hi
    refine Finset.sum_eq_zero fun j _ => if_neg fun h => hi (Fin.ext ?_)
    have := j.isLt
    have h1 : (i.val * 64 + j.val) / 64 = r.val / 64 := h.1
    show i.val = r.val / 64
    omega
  · exact fun h => absurd (Finset.mem_univ _) h

/-- A window of 64 that ends at `i`, its places before the start left out, holds the entries up to and including `i`. -/
theorem window_sum (x : Fin 64 → EReal) (i : Fin 64) :
    (∑ k : Fin 64, if h : 63 ≤ i.val + k.val then x ⟨i.val + k.val - 63, by omega⟩ else 0)
      = ∑ j : Fin 64, if j.val ≤ i.val then x j else 0 := by
  have e : ∀ k : Fin 64, (if h : 63 ≤ i.val + k.val then x ⟨i.val + k.val - 63, by omega⟩ else 0)
      = if 63 ≤ i.val + k.val then x ⟨(i.val + k.val - 63) % 64, by omega⟩ else 0 := fun k => by
    split
    · exact congrArg x (Fin.ext (show i.val + k.val - 63 = (i.val + k.val - 63) % 64 by omega))
    · rfl
  rw [Finset.sum_congr rfl fun k _ => e k, ← Finset.sum_filter, ← Finset.sum_filter]
  refine Finset.sum_nbij' (fun k => ⟨(i.val + k.val - 63) % 64, by omega⟩) (fun j => ⟨(63 + j.val - i.val) % 64, by omega⟩) ?_ ?_ ?_ ?_ ?_
  · intro k hk
    have h := (Finset.mem_filter.mp hk).2
    exact Finset.mem_filter.mpr ⟨Finset.mem_univ _, show (i.val + k.val - 63) % 64 ≤ i.val by omega⟩
  · intro j hj
    have h := (Finset.mem_filter.mp hj).2
    exact Finset.mem_filter.mpr ⟨Finset.mem_univ _, show 63 ≤ i.val + (63 + j.val - i.val) % 64 by omega⟩
  · intro k hk
    have h := (Finset.mem_filter.mp hk).2
    exact Fin.ext (show (63 + (i.val + k.val - 63) % 64 - i.val) % 64 = k.val by omega)
  · intro j hj
    have h := (Finset.mem_filter.mp hj).2
    exact Fin.ext (show (i.val + (63 + j.val - i.val) % 64 - 63) % 64 = j.val by omega)
  · intro k _
    rfl

/-- Adding one after the other onto `v` is `v` plus the sum. -/
theorem foldl_add {N : ℕ} (f : Fin N → EReal) (v : EReal) : (List.finRange N).foldl (fun r n => r + f n) v = v + ∑ n, f n := by
  have : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [this, ← List.ofFn_eq_map, List.sum_ofFn]

/-- The running sum over the third axis of an array of chunks, read at an entry. -/
theorem cumsum_at {u : Shape} (x : (⟨4, ![8, 64, 64, 8]⟩ : Shape).Idx → EReal) (init : u.Idx → EReal) (hu : 0 < u.numel)
    (h : (⟨4, ![8, 64, 64, 8]⟩ : Shape).ReduceWindows (![1, 1, 64, 1] : Fin 4 → Nat) ![1, 1, 1, 1] ![0, 0, 63, 0] ![0, 0, 0, 0] ⟨4, ![8, 64, 64, 8]⟩)
    (hi : init (Shape.Idx.first hu) = 0) (b : Fin 8) (n i : Fin 64) (c : Fin 8) :
    Host.reduceWindow (· + ·) (![1, 1, 64, 1] : Fin 4 → Nat) ![1, 1, 1, 1] ![0, 0, 63, 0] ![0, 0, 0, 0] x init h hu (ix4 b n i c)
      = ∑ j : Fin 64, if j.val ≤ i.val then x (ix4 b n j c) else 0 := by
  rw [← window_sum (fun j => x (ix4 b n j c)) i]
  unfold Host.reduceWindow
  refine (foldl_add _ _).trans ?_
  rw [hi, zero_add]
  dsimp only
  refine Fintype.sum_equiv ((⟨4, ![1, 1, 64, 1]⟩ : Shape).rowMajor.symm.trans
    ⟨fun w => (w 2 : Fin 64), fun k => ix4 0 0 k 0, fun w => ?_, fun k => rfl⟩) _ _ fun k => ?_
  · funext a
    fin_cases a
    · exact Subsingleton.elim (α := Fin 1) _ _
    · exact Subsingleton.elim (α := Fin 1) _ _
    · rfl
    · exact Subsingleton.elim (α := Fin 1) _ _
  · have h0 : ((⟨4, ![1, 1, 64, 1]⟩ : Shape).rowMajor.symm k 0).val < 1 := ((⟨4, ![1, 1, 64, 1]⟩ : Shape).rowMajor.symm k 0).isLt
    have h1 : ((⟨4, ![1, 1, 64, 1]⟩ : Shape).rowMajor.symm k 1).val < 1 := ((⟨4, ![1, 1, 64, 1]⟩ : Shape).rowMajor.symm k 1).isLt
    have h2 : ((⟨4, ![1, 1, 64, 1]⟩ : Shape).rowMajor.symm k 2).val < 64 := ((⟨4, ![1, 1, 64, 1]⟩ : Shape).rowMajor.symm k 2).isLt
    have h3 : ((⟨4, ![1, 1, 64, 1]⟩ : Shape).rowMajor.symm k 3).val < 1 := ((⟨4, ![1, 1, 64, 1]⟩ : Shape).rowMajor.symm k 3).isLt
    have hi' := i.isLt
    have hb := b.isLt
    have hn := n.isLt
    have hc := c.isLt
    by_cases hk : 63 ≤ i.val + ((⟨4, ![1, 1, 64, 1]⟩ : Shape).rowMajor.symm k 2).val
    · symm
      refine (dif_pos (id hk)).trans ?_
      symm
      refine (dif_pos ?_).trans (congrArg x (funext fun a => Fin.ext ?_))
      · intro a
        fin_cases a
        · show 0 ≤ b.val * 1 + ((⟨4, ![1, 1, 64, 1]⟩ : Shape).rowMajor.symm k 0).val ∧ b.val * 1 + ((⟨4, ![1, 1, 64, 1]⟩ : Shape).rowMajor.symm k 0).val - 0 < 8
          omega
        · show 0 ≤ n.val * 1 + ((⟨4, ![1, 1, 64, 1]⟩ : Shape).rowMajor.symm k 1).val ∧ n.val * 1 + ((⟨4, ![1, 1, 64, 1]⟩ : Shape).rowMajor.symm k 1).val - 0 < 64
          omega
        · show 63 ≤ i.val * 1 + ((⟨4, ![1, 1, 64, 1]⟩ : Shape).rowMajor.symm k 2).val ∧ i.val * 1 + ((⟨4, ![1, 1, 64, 1]⟩ : Shape).rowMajor.symm k 2).val - 63 < 64
          omega
        · show 0 ≤ c.val * 1 + ((⟨4, ![1, 1, 64, 1]⟩ : Shape).rowMajor.symm k 3).val ∧ c.val * 1 + ((⟨4, ![1, 1, 64, 1]⟩ : Shape).rowMajor.symm k 3).val - 0 < 8
          omega
      · fin_cases a
        · show b.val * 1 + ((⟨4, ![1, 1, 64, 1]⟩ : Shape).rowMajor.symm k 0).val - 0 = b.val
          omega
        · show n.val * 1 + ((⟨4, ![1, 1, 64, 1]⟩ : Shape).rowMajor.symm k 1).val - 0 = n.val
          omega
        · show i.val * 1 + ((⟨4, ![1, 1, 64, 1]⟩ : Shape).rowMajor.symm k 2).val - 63 = i.val + ((⟨4, ![1, 1, 64, 1]⟩ : Shape).rowMajor.symm k 2).val - 63
          omega
        · show c.val * 1 + ((⟨4, ![1, 1, 64, 1]⟩ : Shape).rowMajor.symm k 3).val - 0 = c.val
          omega
    · symm
      refine (dif_neg (id hk)).trans ?_
      symm
      refine dif_neg fun h => ?_
      have h2 : 63 ≤ i.val * 1 + ((⟨4, ![1, 1, 64, 1]⟩ : Shape).rowMajor.symm k 2).val := (h 2).1
      omega

end Cert.Gdn

end
-- ==== Proof.GdnPayload.lean ====
module

public import proofs.«01_k».proof.Proof.Gen.Kernel3Ideal.Value
public import Idealize.ShloMosaic.Lib.Pointwise
public import proofs.«01_k».proof.Proof.GdnMath

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.Mix Cert.Gdn

/-- The normalised, scaled and shifted row. -/
theorem pay2_at (x : Vec Ideal S1x512x1024 .f32) (md : Vec Ideal S1x6x1024 .f32) (g : Vec Ideal S1x1024 .f32) (r : Fin 512) (d : Fin 1024) :
    k0_pay2 (F := Ideal) x md g (ix2 r d)
      = inp (fun e => x (ix3 0 r e)) (fun e => g (ix2 0 e)) (fun e => md (ix3 0 1 e)) (fun e => md (ix3 0 0 e)) d := by
  pointwise [k0_pay2]
  rfl

section Tiles
variable (h : Vec Ideal S512x1024 .bf16) (w : Vec Ideal S1024x512 .bf16) (r n : Fin 512)

/-! The eight column tiles: each the rows times its 512 columns of weights. -/

theorem pay4_at : k0_pay4 (F := Ideal) (k0_pay3 h w) (ix3 0 r n) = ∑ d : Fin 1024, h (ix2 r d) * w (ix2 d n) := by
  pointwise [k0_pay4, k0_pay3]
theorem pay5_at : k0_pay5 (F := Ideal) h w (ix3 0 r n) = ∑ d : Fin 1024, h (ix2 r d) * w (ix2 d n) := by
  pointwise [k0_pay5]
theorem pay6_at : k0_pay6 (F := Ideal) h w (ix3 0 r n) = ∑ d : Fin 1024, h (ix2 r d) * w (ix2 d n) := by
  pointwise [k0_pay6]
theorem pay7_at : k0_pay7 (F := Ideal) h w (ix3 0 r n) = ∑ d : Fin 1024, h (ix2 r d) * w (ix2 d n) := by
  pointwise [k0_pay7]
theorem pay8_at : k0_pay8 (F := Ideal) h w (ix3 0 r n) = ∑ d : Fin 1024, h (ix2 r d) * w (ix2 d n) := by
  pointwise [k0_pay8]
theorem pay9_at : k0_pay9 (F := Ideal) h w (ix3 0 r n) = ∑ d : Fin 1024, h (ix2 r d) * w (ix2 d n) := by
  pointwise [k0_pay9]
theorem pay10_at : k0_pay10 (F := Ideal) h w (ix3 0 r n) = ∑ d : Fin 1024, h (ix2 r d) * w (ix2 d n) := by
  pointwise [k0_pay10]
theorem pay11_at : k0_pay11 (F := Ideal) h w (ix3 0 r n) = ∑ d : Fin 1024, h (ix2 r d) * w (ix2 d n) := by
  pointwise [k0_pay11]

end Tiles

/-- A row's number shifted right by six places is its chunk's number. -/
theorem chunk_word : ∀ k : Fin 512, IntOp.shrsi ArithUnit.vector (BitVec.ofNat 32 k.val) 6#32 = BitVec.ofNat 32 (k.val / 64) := by
  decide +kernel

/-- The mask of the running sums: same chunk, and not later. -/
theorem mask_at (r k : Fin 512) (z : EReal) : Scalar.select (IntOp.cmpi CmpIPredicate.eq
      (IntOp.shrsi ArithUnit.vector (BitVec.ofNat 32 r.val) 6#32) (IntOp.shrsi ArithUnit.vector (BitVec.ofNat 32 k.val) 6#32))
      (Scalar.select (IntOp.cmpi CmpIPredicate.sge (BitVec.ofNat 32 r.val) (BitVec.ofNat 32 k.val)) z 0) 0
    = if k.val / 64 = r.val / 64 ∧ k.val ≤ r.val then z else 0 := by
  have hr := r.isLt
  have hk := k.isLt
  rw [chunk_word, chunk_word]
  have e1 : (IntOp.cmpi CmpIPredicate.eq (BitVec.ofNat 32 (r.val / 64)) (BitVec.ofNat 32 (k.val / 64))) = BitVec.ofBool (decide (k.val / 64 = r.val / 64)) := by
    unfold IntOp.cmpi
    refine congrArg BitVec.ofBool ?_
    rw [Bool.eq_iff_iff]
    simp [BitVec.toNat_eq]
    omega
  have e2 : (IntOp.cmpi CmpIPredicate.sge (BitVec.ofNat 32 r.val) (BitVec.ofNat 32 k.val)) = BitVec.ofBool (decide (k.val ≤ r.val)) := by
    unfold IntOp.cmpi
    refine congrArg BitVec.ofBool ?_
    rw [Bool.eq_iff_iff]
    simp only [BitVec.sle, decide_eq_true_eq, BitVec.toInt_eq_toNat_bmod, BitVec.toNat_ofNat, Int.bmod_def]
    omega
  rw [e1, e2]
  by_cases h1 : k.val / 64 = r.val / 64 <;> by_cases h2 : k.val ≤ r.val <;> simp [h1, h2, Scalar.select]

section Gates
variable (h : Vec Ideal S512x1024 .bf16) (w : Vec Ideal S1024x16 .bf16) (z a : Vec Ideal S1x8 .f32) (r : Fin 512) (n : Fin 8)

/-- The write gates. -/
theorem pay18_at : k0_pay18 (F := Ideal) (k0_pay13 h w) (ix3 0 r n)
    = Ideal.logistic (∑ d : Fin 1024, h (ix2 r d) * w (ix2 d ⟨n.val, by omega⟩)) := by
  pointwise [k0_pay18, k0_pay13, k0_pay12]

/-- The decays' projections. -/
theorem pay14_at : k0_pay14 (F := Ideal) h w z (ix2 r n)
    = (∑ d : Fin 1024, h (ix2 r d) * w (ix2 d ⟨8 + n.val, by omega⟩)) + z (ix2 0 n) := by
  pointwise [k0_pay14, k0_pay12]

theorem pay15_at : k0_pay15 (F := Ideal) h w z (ix2 r n) = max (k0_pay14 (F := Ideal) h w z (ix2 r n)) 0 := by
  pointwise [k0_pay15]

theorem pay16_at : k0_pay16 (F := Ideal) h w z (ix2 r n)
    = max (k0_pay14 (F := Ideal) h w z (ix2 r n)) (-(k0_pay14 (F := Ideal) h w z (ix2 r n))) := by
  pointwise [k0_pay16]
  rfl

/-- The running sums within the row's chunk, where `p` holds the decays' projections of the block's rows. -/
theorem pay17_at (u v : FVec Ideal S512x8 .f32) (p : Fin 512 → EReal) (hu : ∀ k, u (ix2 k n) = max (p k) 0)
    (hv : ∀ k, v (ix2 k n) = max (p k) (-(p k))) : k0_pay1 (F := Ideal) (k0_pay17 u v a) (ix3 0 r n)
    = ∑ j : Fin 64, if j.val ≤ r.val % 64 then decay (a (ix2 0 n)) (p ⟨r.val / 64 * 64 + j.val, by omega⟩) else 0 := by
  have hn := n.isLt
  have e0 : (⟨16 + n.val - 8 - 8, by omega⟩ : Fin 8) = n := Fin.ext (show 16 + n.val - 8 - 8 = n.val by omega)
  pointwise [k0_pay1, k0_pay17]
  simp only [dif_neg (show ¬ 16 + n.val < 8 by omega), dif_neg (show ¬ 16 + n.val - 8 < 8 by omega), e0, mask_at, hu, hv, zero_sub]
  exact (three_parts _ (fun k => decay (a (ix2 0 n)) (p k)) fun k => decay_ne_top _ _).trans (chunk_sum _ r)

end Gates

end Cert.Kernel3Ideal.Value

end
-- ==== Proof.GdnValue.lean ====
module

public import proofs.«01_k».proof.Proof.GdnPayload
public import Idealize.ShloMosaic.Lib.Pipeline.ValueKit

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)
open Cert.Mix Cert.Gdn

variable (m : (ℓ : Loc nD τ sig) → Buf (Elt Ideal) ℓ)

/-- Which block of its array each window holds at grid point `t`. -/
theorem idx : ∀ t : Fin cfg0.N, win0_0.index t = ![t.val / 8, t.val % 8, 0] ∧ win0_1.index t = ![t.val / 8, 0, 0]
    ∧ win0_2.index t = ![0, 0] ∧ win0_3.index t = ![0, 0] ∧ win0_4.index t = ![0, 0] ∧ win0_5.index t = ![0, 0]
    ∧ win0_6.index t = ![0, 0] ∧ win0_7.index t = ![t.val / 8, t.val % 8, 0] ∧ win0_8.index t = ![t.val / 8, t.val % 8, 0] :=
  (by decide +kernel : ∀ t : Fin grid0.N, _)

/-- The grid has 64 points. -/
theorem lt64 : ∀ t : Fin cfg0.N, t.val < 64 := (by decide +kernel : ∀ t : Fin grid0.N, t.val < 64)

/-! The blocks a grid point reads, as parts of the argument arrays. -/

theorem iblk0 (c : Dev nD) (t : Fin cfg0.N) (r : Fin 512) (v : Fin 1024) : iblk m c 0 t (ix3 0 r v)
    = m ((c : Thread nD τ).loc main_arg0) (ix3 ⟨t.val / 8, by have := lt64 t; omega⟩ ⟨t.val % 8 * 512 + r.val, by omega⟩ v) := by
  blk_ext [iblk, V, idx t]

theorem iblk1 (c : Dev nD) (t : Fin cfg0.N) (j : Fin 6) (e : Fin 1024) : iblk m c 1 t (ix3 0 j e)
    = m ((c : Thread nD τ).loc main_arg1) (ix2 ⟨t.val / 8, by have := lt64 t; omega⟩ ⟨j.val * 1024 + e.val, by omega⟩) := by
  blk_point [iblk, idx t]

theorem iblk2 (c : Dev nD) (t : Fin cfg0.N) (j : Fin 4) (e : Fin 1024) : iblk m c 2 t (ix2 j e)
    = m ((c : Thread nD τ).loc main_arg2) (ix2 j e) := by
  blk_ext [iblk, V, idx t]

theorem iblk3 (c : Dev nD) (t : Fin cfg0.N) (d : Fin 1024) (n : Fin 4096) : iblk m c 3 t (ix2 d n)
    = m ((c : Thread nD τ).loc main_arg3) (ix2 d ⟨n.val, by omega⟩) := by
  blk_point [iblk, idx t]

theorem iblk4 (c : Dev nD) (t : Fin cfg0.N) (d : Fin 1024) (n : Fin 16) : iblk m c 4 t (ix2 d n)
    = m ((c : Thread nD τ).loc main_arg3) (ix2 d ⟨4096 + n.val, by omega⟩) := by
  blk_point [iblk, idx t]

theorem iblk5 (c : Dev nD) (t : Fin cfg0.N) (n : Fin 8) : iblk m c 5 t (ix2 0 n)
    = m ((c : Thread nD τ).loc main_arg4) (ix1 n) := by
  blk_point [iblk, idx t]

theorem iblk6 (c : Dev nD) (t : Fin cfg0.N) (n : Fin 8) : iblk m c 6 t (ix2 0 n)
    = m ((c : Thread nD τ).loc main_arg5) (ix1 n) := by
  blk_point [iblk, idx t]

/-- A token's row as the projections read it: normalised, scaled and shifted by the sequence's modulation. -/
def token (x : FVec Ideal S8x4096x1024 .f32) (md : FVec Ideal S8x6144 .f32) (g : FVec Ideal S4x1024 .f32) (b : Fin 8) (s : Fin 4096) : Row :=
  inp (fun e => x (ix3 b s e)) (fun e => g (ix2 0 e)) (fun e => md (ix2 b ⟨1024 + e.val, by omega⟩)) (fun e => md (ix2 b ⟨e.val, by omega⟩))

/-- Column `n` of a token's projection. -/
def proj (x : FVec Ideal S8x4096x1024 .f32) (md : FVec Ideal S8x6144 .f32) (g : FVec Ideal S4x1024 .f32) (w : FVec Ideal S1024x4112 .f32)
    (b : Fin 8) (s : Fin 4096) (n : Fin 4112) : EReal := ∑ d, token x md g b s d * w (ix2 d n)

/-- The first result: the first 4096 columns of every token's projection. -/
def qkvz (x : FVec Ideal S8x4096x1024 .f32) (md : FVec Ideal S8x6144 .f32) (g : FVec Ideal S4x1024 .f32) (w : FVec Ideal S1024x4112 .f32) :
    FVec Ideal S8x4096x4096 .bf16 := fun i => proj x md g w (i 0) (i 1) ⟨(i 2).val, Nat.lt_of_lt_of_le (i 2).isLt (by decide)⟩

/-- A token's write gate for head `n`. -/
def beta (x : FVec Ideal S8x4096x1024 .f32) (md : FVec Ideal S8x6144 .f32) (g : FVec Ideal S4x1024 .f32) (w : FVec Ideal S1024x4112 .f32)
    (b : Fin 8) (s : Fin 4096) (n : Fin 8) : EReal := Ideal.logistic (proj x md g w b s ⟨4096 + n.val, by omega⟩)

/-- A token's log decay for head `n`, summed over its chunk of 64 tokens up to and including itself. -/
def cumDecay (x : FVec Ideal S8x4096x1024 .f32) (md : FVec Ideal S8x6144 .f32) (g : FVec Ideal S4x1024 .f32) (w : FVec Ideal S1024x4112 .f32)
    (a dt : FVec Ideal S8 .f32) (b : Fin 8) (s : Fin 4096) (n : Fin 8) : EReal :=
  ∑ j : Fin 64, if j.val ≤ s.val % 64 then
    decay (a (ix1 n)) (proj x md g w b ⟨s.val / 64 * 64 + j.val, by omega⟩ ⟨4104 + n.val, by omega⟩ + dt (ix1 n)) else 0

/-- The second result: the eight write gates, then the eight running sums of the log decays. -/
def gates (x : FVec Ideal S8x4096x1024 .f32) (md : FVec Ideal S8x6144 .f32) (g : FVec Ideal S4x1024 .f32) (w : FVec Ideal S1024x4112 .f32)
    (a dt : FVec Ideal S8 .f32) : FVec Ideal S8x4096x16 .f32 := fun i =>
  if h : (i 2).val < 8 then beta x md g w (i 0) (i 1) ⟨(i 2).val, h⟩
  else cumDecay x md g w a dt (i 0) (i 1) ⟨(i 2).val - 8, by have : (i 2).val < 16 := (i 2).isLt; omega⟩

/-- The rows a grid point projects. -/
abbrev rows (c : Dev nD) (t : Fin cfg0.N) : Vec Ideal S512x1024 .bf16 :=
  k0_pay2 (F := Ideal) (iblk m c 0 t) (iblk m c 1 t) (View.ld (iblk m c 2 t) (Rect.unit (s := S4x1024) ![0, 0] ![1, 1024] inb_S4x1024_S1x1024_0_0))

theorem rows_at (c : Dev nD) (t : Fin cfg0.N) (r : Fin 512) (d : Fin 1024) : rows m c t (ix2 r d)
    = token (m ((c : Thread nD τ).loc main_arg0)) (m ((c : Thread nD τ).loc main_arg1)) (m ((c : Thread nD τ).loc main_arg2))
        ⟨t.val / 8, by have := lt64 t; omega⟩ ⟨t.val % 8 * 512 + r.val, by omega⟩ d := by
  refine (pay2_at _ _ _ r d).trans ?_
  have e : ∀ k : Fin 1024, View.ld (iblk m c 2 t) (Rect.unit (s := S4x1024) ![0, 0] ![1, 1024] inb_S4x1024_S1x1024_0_0) (ix2 0 k)
      = iblk m c 2 t (ix2 0 k) := fun k => View.ld_unit_apply_of _ _ _ _ _ _ fun a => by
    fin_cases a
    · rfl
    · exact (Nat.zero_add _).symm
  simp only [iblk0, iblk1, iblk2, e, Fin.val_zero, Nat.zero_mul, Nat.zero_add, Fin.val_one, Nat.one_mul]
  rfl

/-- One of the block's column tiles, its columns starting at `o`, is those columns of the rows' projections. -/
theorem tile_at (c : Dev nD) (t : Fin cfg0.N) (o : ℕ) (inb : ∀ a, (![0, o] : Fin 2 → ℕ) a + (![1024, 512] : Fin 2 → ℕ) a ≤ S1024x4096.size a)
    (r n : Fin 512) (N : Fin 4096) (hN : N.val = o + n.val) :
    (∑ d : Fin 1024, rows m c t (ix2 r d) * View.ld (iblk m c 3 t) (Rect.unit (s := S1024x4096) ![0, o] ![1024, 512] inb) (ix2 d n) : EReal)
      = proj (m ((c : Thread nD τ).loc main_arg0)) (m ((c : Thread nD τ).loc main_arg1)) (m ((c : Thread nD τ).loc main_arg2))
        (m ((c : Thread nD τ).loc main_arg3)) ⟨t.val / 8, by have := lt64 t; omega⟩ ⟨t.val % 8 * 512 + r.val, by omega⟩ ⟨N.val, by omega⟩ := by
  refine Finset.sum_congr rfl fun d _ => congrArg₂ (· * ·) (rows_at m c t r d) (Eq.trans ?_ (iblk3 m c t d N))
  refine View.ld_unit_apply_of _ _ _ _ _ _ fun a => ?_
  fin_cases a
  · exact (Nat.zero_add _).symm
  · exact hN

/-- The kernel's first result array after the run. -/
theorem final7 (c : Dev nD) : (dats m 0 c).arrAt 7 (cfgs 0).N
    = qkvz (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t _ y => ?_
  blk_simp
  rw [after0_7]
  unfold outsAt0
  frame_out
  idx_vars y
  obtain rfl : y0 = 0 := Subsingleton.elim _ _
  have he : ((View.whole main_v7_0).slice (win0_7.rect t)).emb (ix3 0 y1 y2)
      = ix3 ⟨t.val / 8, by have := lt64 t; omega⟩ ⟨t.val % 8 * 512 + y1.val, by omega⟩ y2 := by blk_ext [idx t]
  rw [he]
  canon_tiles x hx
  all_goals
    idx_vars x
    obtain rfl : x0 = 0 := Subsingleton.elim _ _
    obtain rfl : y1 = x1 := Fin.ext hx1
  · exact (pay11_at _ _ _ _).trans (tile_at m c t _ _ _ _ _ hx2)
  · exact (pay10_at _ _ _ _).trans (tile_at m c t _ _ _ _ _ hx2)
  · exact (pay9_at _ _ _ _).trans (tile_at m c t _ _ _ _ _ hx2)
  · exact (pay8_at _ _ _ _).trans (tile_at m c t _ _ _ _ _ hx2)
  · exact (pay7_at _ _ _ _).trans (tile_at m c t _ _ _ _ _ hx2)
  · exact (pay6_at _ _ _ _).trans (tile_at m c t _ _ _ _ _ hx2)
  · exact (pay5_at _ _ _ _).trans (tile_at m c t _ _ _ _ _ hx2)
  · exact (pay4_at _ _ _ _).trans (tile_at m c t _ _ _ _ _ (hx2.trans (Nat.zero_add _).symm))

/-- The rows' projections onto the gates' columns. -/
theorem gate_at (c : Dev nD) (t : Fin cfg0.N) (r : Fin 512) (n : Fin 16) :
    (∑ d : Fin 1024, rows m c t (ix2 r d) * iblk m c 4 t (ix2 d n) : EReal)
      = proj (m ((c : Thread nD τ).loc main_arg0)) (m ((c : Thread nD τ).loc main_arg1)) (m ((c : Thread nD τ).loc main_arg2))
        (m ((c : Thread nD τ).loc main_arg3)) ⟨t.val / 8, by have := lt64 t; omega⟩ ⟨t.val % 8 * 512 + r.val, by omega⟩ ⟨4096 + n.val, by omega⟩ :=
  Finset.sum_congr rfl fun d _ => congrArg₂ (· * ·) (rows_at m c t r d) (iblk4 m c t d n)

/-- The kernel's second result array after the run. -/
theorem final8 (c : Dev nD) : (dats m 0 c).arrAt 8 (cfgs 0).N
    = gates (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  unfold outsAt0
  frame_out
  idx_vars y
  obtain rfl : y0 = 0 := Subsingleton.elim _ _
  have he : ((View.whole main_v7_1).slice (win0_8.rect t)).emb (ix3 0 y1 y2)
      = ix3 ⟨t.val / 8, by have := lt64 t; omega⟩ ⟨t.val % 8 * 512 + y1.val, by omega⟩ y2 := by blk_ext [idx t]
  rw [he]
  canon_tiles x hx
  all_goals
    idx_vars x
    obtain rfl : x0 = 0 := Subsingleton.elim _ _
    obtain rfl : y1 = x1 := Fin.ext hx1
  · have h2 : y2.val = 8 + x2.val := hx2
    refine (pay17_at _ _ _ _ _ (fun k => k0_pay14 (F := Ideal) (rows m c t) (iblk m c 4 t) (iblk m c 6 t) (ix2 k x2))
      (fun k => pay15_at _ _ _ _ _) fun k => pay16_at _ _ _ _ _).trans ?_
    refine Eq.trans ?_ (dif_neg (show ¬ y2.val < 8 by omega)).symm
    have e2 : (⟨y2.val - 8, by omega⟩ : Fin 8) = x2 := Fin.ext (show y2.val - 8 = x2.val by omega)
    show _ = cumDecay _ _ _ _ _ _ _ _ (⟨y2.val - 8, _⟩ : Fin 8)
    rw [e2]
    unfold cumDecay
    have hy := y1.isLt
    refine Finset.sum_congr rfl fun j _ => if_congr (by
      show _ ↔ j.val ≤ (t.val % 8 * 512 + y1.val) % 64
      omega) (congrArg₂ decay (iblk5 m c t x2) ?_) rfl
    refine (pay14_at _ _ _ _ _).trans (congrArg₂ (· + ·) ((gate_at m c t _ _).trans ?_) (iblk6 m c t x2))
    refine congrArg₂ (proj _ _ _ _ _) (Fin.ext ?_) (Fin.ext ?_)
    · show t.val % 8 * 512 + (y1.val / 64 * 64 + j.val) = (t.val % 8 * 512 + y1.val) / 64 * 64 + j.val
      omega
    · show 4096 + (8 + x2.val) = 4104 + x2.val
      omega
  · have h2 : y2.val = x2.val := hx2
    have hx := x2.isLt
    refine ((pay18_at _ _ _ _).trans (congrArg Ideal.logistic (gate_at m c t y1 _))).trans ?_
    refine Eq.trans ?_ (dif_pos (show y2.val < 8 by omega)).symm
    have e2 : (⟨y2.val, by omega⟩ : Fin 8) = x2 := Fin.ext h2
    show _ = beta _ _ _ _ _ _ (⟨y2.val, _⟩ : Fin 8)
    rw [e2]
    rfl

end Cert.Kernel3Ideal.Value

end
-- ==== Proof.GdnReference.lean ====
module

public import proofs.«01_k».proof.Proof.GdnValue
public import proofs.«01_k».proof.Proof.Gen.Reference3Ideal.Run

@[expose] public section

set_option maxRecDepth 16384

noncomputable section

/-! # The reference's projections and gates, token by token -/

namespace Cert.Reference3Ideal.Value

open Cert.Reference3Ideal Cert.Reference3Ideal.Gen Idealize.ShloMosaic Idealize.ShloMosaic.TcCoe Idealize.SL.Sem
open Idealize.ShloMosaic.StableHlo
open Cert.Mix Cert.Gdn
open Cert.Kernel3Ideal.Value (token proj qkvz beta cumDecay gates)

/-! The parts of the composed terms, each over whole arrays. -/

/-- Root-mean-square normalisation of every token's row, with the first of the gains. -/
def rmsA (Y : FVec Ideal S8x4096x1024 .f32) (g : FVec Ideal S4x1024 .f32) : FVec Ideal S8x4096x1024 .f32 :=
  mulf (mulf Y (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf Y Y) (constant S_ .f32 0x00000000#32)
      reducesTo_S8x4096x1024_S8x4096_d2 h_S_)) (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 (shapeCast _ (extractStridedSlice S1x1024 ![0, 0] g slices_S4x1024_S1x1024_0_0)
        shapeCasts_S1x1024_S1024)))

/-- The scale row plus one, for every token. -/
def scaleA (md : FVec Ideal S8x6144 .f32) : FVec Ideal S8x4096x1024 .f32 :=
  broadcastInDim S8x4096x1024 ![0, 1, 2] bcast_S8x1x1024_S8x4096x1024_0_1_2 (addf (broadcastInDim S8x1x1024 ![] bcast_S_S8x1x1024
    (constant S_ .f32 0x3F800000#32)) (broadcastInDim S8x1x1024 ![0, 2] bcast_S8x1024_S8x1x1024_0_2
      (extractStridedSlice S8x1024 ![0, 1024] md slices_S8x6144_S8x1024_0_1024)))

/-- All the projections of every token. -/
def projA (x : FVec Ideal S8x4096x1024 .f32) (md : FVec Ideal S8x6144 .f32) (g : FVec Ideal S4x1024 .f32) (w : FVec Ideal S1024x4112 .f32) :
    FVec Ideal S8x4096x4112 .f32 :=
  Host.dotGeneral dot_S8x4096x1024_S1024x4112_S8x4096x4112_2_0_01_1_n_n none
    (addf (mulf (rmsA x g) (scaleA md)) (broadcastInDim S8x4096x1024 ![0, 1, 2] bcast_S8x1x1024_S8x4096x1024_0_1_2
      (broadcastInDim S8x1x1024 ![0, 2] bcast_S8x1024_S8x1x1024_0_2 (extractStridedSlice S8x1024 ![0, 0] md slices_S8x6144_S8x1024_0_0)))) w

/-- The write gates. -/
def betaA (P : FVec Ideal S8x4096x4112 .f32) : FVec Ideal S8x4096x8 .f32 :=
  Host.divf (broadcastInDim S8x4096x8 ![] bcast_S_S8x4096x8 (constant S_ .f32 0x3F800000#32))
    (addf (broadcastInDim S8x4096x8 ![] bcast_S_S8x4096x8 (constant S_ .f32 0x3F800000#32))
      (Host.exp (Host.negf (extractStridedSlice S8x4096x8 ![0, 0, 4096] P slices_S8x4096x4112_S8x4096x8_0_0_4096))))

/-- The decays' projections plus their bias. -/
def preA (P : FVec Ideal S8x4096x4112 .f32) (dt : FVec Ideal S8 .f32) : FVec Ideal S8x4096x8 .f32 :=
  addf (extractStridedSlice S8x4096x8 ![0, 0, 4104] P slices_S8x4096x4112_S8x4096x8_0_0_4104)
    (broadcastInDim S8x4096x8 ![0, 1, 2] bcast_S1x1x8_S8x4096x8_0_1_2 (broadcastInDim S1x1x8 ![2] bcast_S8_S1x1x8_2 dt))

/-- Zero everywhere. -/
def zeroA : FVec Ideal S8x4096x8 .f32 := broadcastInDim S8x4096x8 ![] bcast_S_S8x4096x8 (constant S_ .f32 0x00000000#32)

/-- The softplus of every entry. -/
def softA (X : FVec Ideal S8x4096x8 .f32) : FVec Ideal S8x4096x8 .f32 :=
  select (cmpf .une (subf X zeroA) (subf X zeroA)) (addf X zeroA)
    (addf (maximumf X zeroA) (Host.log1p (Host.exp (Host.negf (Host.absf (subf X zeroA))))))

/-- The log decays. -/
def decayA (X : FVec Ideal S8x4096x8 .f32) (a : FVec Ideal S8 .f32) : FVec Ideal S8x4096x8 .f32 :=
  mulf (broadcastInDim S8x4096x8 ![0, 1, 2] bcast_S1x1x8_S8x4096x8_0_1_2 (broadcastInDim S1x1x8 ![2] bcast_S8_S1x1x8_2
    (Host.negf (Host.exp a)))) (softA X)

/-- Running sums within chunks, the chunks on an axis of their own. -/
def runA (D : FVec Ideal S8x64x64x8 .f32) : FVec Ideal S8x64x64x8 .f32 :=
  Host.reduceWindowAdd ![1, 1, 64, 1] ![1, 1, 1, 1] ![0, 0, 63, 0] ![0, 0, 0, 0] D
    (broadcastInDim S_ ![] bcast_S_S_ (constant S_ .f32 0x00000000#32)) reduceWindows_S8x64x64x8_S8x64x64x8_w1s1p0_0_w1s1p0_0_w64s1p63_0_w1s1p0_0 h_S_

/-- Running sums within chunks of 64 tokens. -/
def cumA (D : FVec Ideal S8x4096x8 .f32) : FVec Ideal S8x4096x8 .f32 :=
  shapeCast _ (runA (shapeCast _ D shapeCasts_S8x4096x8_S8x64x64x8)) shapeCasts_S8x64x64x8_S8x4096x8

/-- The gates, side by side. -/
def gatesA (P : FVec Ideal S8x4096x4112 .f32) (a dt : FVec Ideal S8 .f32) : FVec Ideal S8x4096x16 .f32 :=
  concatenate S8x4096x16 2 [⟨S8x4096x8, betaA P⟩, ⟨S8x4096x8, cumA (decayA (preA P dt) a)⟩] concatenates_S8x4096x8_S8x4096x8_S8x4096x16_d2

section Reads
variable (b : Fin 8) (s : Fin 4096)

theorem rmsA_at (Y : FVec Ideal S8x4096x1024 .f32) (g : FVec Ideal S4x1024 .f32) (d : Fin 1024) :
    rmsA Y g (ix3 b s d) = rms (fun e => Y (ix3 b s e)) (fun e => g (ix2 0 e)) d := by
  pointwise [rmsA]
  rfl

theorem scaleA_at (md : FVec Ideal S8x6144 .f32) (d : Fin 1024) : scaleA md (ix3 b s d) = 1 + md (ix2 b ⟨1024 + d.val, by omega⟩) := by
  pointwise [scaleA]

theorem projA_at (x : FVec Ideal S8x4096x1024 .f32) (md : FVec Ideal S8x6144 .f32) (g : FVec Ideal S4x1024 .f32) (w : FVec Ideal S1024x4112 .f32)
    (n : Fin 4112) : projA x md g w (ix3 b s n) = proj x md g w b s n := by
  pointwise [projA]
  simp only [rmsA_at, scaleA_at]
  rfl

theorem betaA_at (P : FVec Ideal S8x4096x4112 .f32) (n : Fin 8) :
    betaA P (ix3 b s n) = Ideal.logistic (P (ix3 b s ⟨4096 + n.val, by omega⟩)) := by
  pointwise [betaA]
  rfl

theorem preA_at (P : FVec Ideal S8x4096x4112 .f32) (dt : FVec Ideal S8 .f32) (n : Fin 8) :
    preA P dt (ix3 b s n) = P (ix3 b s ⟨4104 + n.val, by omega⟩) + dt (ix1 n) := by
  pointwise [preA]

theorem zeroA_at (n : Fin 8) : zeroA (ix3 b s n) = 0 := by
  pointwise [zeroA]

theorem softA_at (X : FVec Ideal S8x4096x8 .f32) (n : Fin 8) : softA X (ix3 b s n) = softplus (X (ix3 b s n)) := by
  have hz := zeroA_at b s n
  show Scalar.select (BitVec.ofBool (decide (X (ix3 b s n) - zeroA (ix3 b s n) ≠ X (ix3 b s n) - zeroA (ix3 b s n))))
    (X (ix3 b s n) + zeroA (ix3 b s n)) (max (X (ix3 b s n)) (zeroA (ix3 b s n)) + Ideal.log1p (Ideal.exp
      (-(max (X (ix3 b s n) - zeroA (ix3 b s n)) (-(X (ix3 b s n) - zeroA (ix3 b s n))))))) = _
  rw [hz, sub_zero]
  simp [Scalar.select]
  rfl

theorem decayA_at (X : FVec Ideal S8x4096x8 .f32) (a : FVec Ideal S8 .f32) (n : Fin 8) :
    decayA X a (ix3 b s n) = decay (a (ix1 n)) (X (ix3 b s n)) := by
  pointwise [decayA]
  rw [softA_at]
  rfl

theorem runA_at (D : FVec Ideal S8x64x64x8 .f32) (k i : Fin 64) (n : Fin 8) :
    runA D (ix4 b k i n) = ∑ j : Fin 64, if j.val ≤ i.val then D (ix4 b k j n) else 0 :=
  cumsum_at D _ _ reduceWindows_S8x64x64x8_S8x64x64x8_w1s1p0_0_w1s1p0_0_w64s1p63_0_w1s1p0_0 (by pointwise) b k i n

theorem cumA_at (D : FVec Ideal S8x4096x8 .f32) (n : Fin 8) : cumA D (ix3 b s n)
    = ∑ j : Fin 64, if j.val ≤ s.val % 64 then D (ix3 b ⟨s.val / 64 * 64 + j.val, by omega⟩ n) else 0 := by
  pointwise [cumA]
  rw [runA_at]
  pointwise

theorem gatesA_at (P : FVec Ideal S8x4096x4112 .f32) (a dt : FVec Ideal S8 .f32) (n : Fin 16) : gatesA P a dt (ix3 b s n)
    = if h : n.val < 8 then betaA P (ix3 b s ⟨n.val, h⟩) else cumA (decayA (preA P dt) a) (ix3 b s ⟨n.val - 8, by omega⟩) := by
  pointwise [gatesA]

end Reads

/-- The reference's first result is the token-by-token projection. -/
theorem qkvz_eq (x : FVec Ideal S8x4096x1024 .f32) (md : FVec Ideal S8x6144 .f32) (g : FVec Ideal S4x1024 .f32) (w : FVec Ideal S1024x4112 .f32) :
    (truncf .bf16 (extractStridedSlice S8x4096x4096 ![0, 0, 0] (projA x md g w) slices_S8x4096x4112_S8x4096x4096_0_0_0) bitsLt_bf16_f32
      : FVec Ideal S8x4096x4096 .bf16) = qkvz x md g w := by
  funext y
  idx_vars y
  pointwise
  exact projA_at y0 y1 x md g w _

/-- The reference's second result is the token-by-token gates. -/
theorem gates_eq (x : FVec Ideal S8x4096x1024 .f32) (md : FVec Ideal S8x6144 .f32) (g : FVec Ideal S4x1024 .f32) (w : FVec Ideal S1024x4112 .f32)
    (a dt : FVec Ideal S8 .f32) : gatesA (projA x md g w) a dt = gates x md g w a dt := by
  funext y
  idx_vars y
  rw [gatesA_at]
  simp only [betaA_at, cumA_at, decayA_at, preA_at, projA_at]
  rfl

variable (m : (ℓ : Loc nD τ sig) → Buf (Elt Ideal) ℓ)

/-- The composed term of the second result by its parts. -/
theorem res_parts (c : Dev nD) : res_out1 m c
    = gatesA (projA (m (c.tc.loc main_arg0)) (m (c.tc.loc main_arg1)) (m (c.tc.loc main_arg2)) (m (c.tc.loc main_arg3)))
        (m (c.tc.loc main_arg4)) (m (c.tc.loc main_arg5)) := rfl

end Cert.Reference3Ideal.Value

end
-- ==== Proof.AttnTrip.lean ====
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.SL.Sem

/-- The running maxima of a group of 256 rows after one block of 512 keys. -/
def newM (kv : Vec Ideal S1x512x256 .bf16) (mk : Vec Ideal S1x128x512 .i8) (q : Vec Ideal S256x256 .bf16)
    (M : Vec Ideal S256x128 .f32) : FVec Ideal S256x128 .f32 :=
  k0_pay12 M (k0_pay6 kv mk q)

/-- The running denominators of a group after the block. -/
def newL (kv : Vec Ideal S1x512x256 .bf16) (mk : Vec Ideal S1x128x512 .i8) (q : Vec Ideal S256x256 .bf16)
    (M L : Vec Ideal S256x128 .f32) : FVec Ideal S256x128 .f32 :=
  k0_pay10 (k0_pay5 kv mk q) M (k0_pay6 kv mk q) L

/-- The running numerators of a group after the block. -/
def newA (kv : Vec Ideal S1x512x256 .bf16) (mk : Vec Ideal S1x128x512 .i8) (q : Vec Ideal S256x256 .bf16)
    (M : Vec Ideal S256x128 .f32) (A : Vec Ideal S256x256 .f32) : FVec Ideal S256x256 .f32 :=
  k0_pay11 (k0_pay2 kv) (k0_pay5 kv mk q) M (k0_pay6 kv mk q) A

/-- The 256 rows from row `o` on of a buffer of 2048 rows of 128. -/
abbrev rows128 (o : ℕ) (h : ∀ a, (![o, 0] : Fin 2 → ℕ) a + S256x128.size a ≤ S2048x128.size a) : Rect S2048x128 :=
  Rect.unit (s := S2048x128) ![o, 0] S256x128.size h

/-- The 256 rows from row `o` on of a buffer of 2048 rows of 256. -/
abbrev rows256 (o : ℕ) (h : ∀ a, (![o, 0] : Fin 2 → ℕ) a + S256x256.size a ≤ S2048x256.size a) : Rect S2048x256 :=
  Rect.unit (s := S2048x256) ![o, 0] S256x256.size h

/-- A range of rows that lies in a buffer of rows of 128 lies in one of rows of 256. -/
theorem wide {o : ℕ} (h : ∀ a, (![o, 0] : Fin 2 → ℕ) a + S256x128.size a ≤ S2048x128.size a) :
    ∀ a, (![o, 0] : Fin 2 → ℕ) a + S256x256.size a ≤ S2048x256.size a := by
  intro a; have h0 := h 0; fin_cases a
  · exact h0
  · show 0 + 256 ≤ 256; omega

/-- The offset of a group of 256 rows, with the rows inside the buffer. -/
abbrev InRows (o : ℕ) : Prop := ∀ a, (![o, 0] : Fin 2 → ℕ) a + S256x128.size a ≤ S2048x128.size a

/-- The eight stores of a block into rows of 128, one for each group of rows, the last first. -/
def stack128 (P : (o : ℕ) → InRows o → FVec Ideal S256x128 .f32) : List (View.Piece (Elt Ideal) S2048x128 .f32) :=
  [⟨(rows128 1792 inb_S2048x128_S256x128_1792_0), P 1792 inb_S2048x128_S256x128_1792_0⟩,
    ⟨(rows128 1536 inb_S2048x128_S256x128_1536_0), P 1536 inb_S2048x128_S256x128_1536_0⟩,
    ⟨(rows128 1280 inb_S2048x128_S256x128_1280_0), P 1280 inb_S2048x128_S256x128_1280_0⟩,
    ⟨(rows128 1024 inb_S2048x128_S256x128_1024_0), P 1024 inb_S2048x128_S256x128_1024_0⟩,
    ⟨(rows128 768 inb_S2048x128_S256x128_768_0), P 768 inb_S2048x128_S256x128_768_0⟩,
    ⟨(rows128 512 inb_S2048x128_S256x128_512_0), P 512 inb_S2048x128_S256x128_512_0⟩,
    ⟨(rows128 256 inb_S2048x128_S256x128_256_0), P 256 inb_S2048x128_S256x128_256_0⟩,
    ⟨(rows128 0 inb_S2048x128_S256x128_0_0), P 0 inb_S2048x128_S256x128_0_0⟩]

/-- The eight stores of a block into rows of 256, one for each group of rows, the last first. -/
def stack256 (P : (o : ℕ) → InRows o → FVec Ideal S256x256 .f32) : List (View.Piece (Elt Ideal) S2048x256 .f32) :=
  [⟨(rows256 1792 (wide inb_S2048x128_S256x128_1792_0)), P 1792 inb_S2048x128_S256x128_1792_0⟩,
    ⟨(rows256 1536 (wide inb_S2048x128_S256x128_1536_0)), P 1536 inb_S2048x128_S256x128_1536_0⟩,
    ⟨(rows256 1280 (wide inb_S2048x128_S256x128_1280_0)), P 1280 inb_S2048x128_S256x128_1280_0⟩,
    ⟨(rows256 1024 (wide inb_S2048x128_S256x128_1024_0)), P 1024 inb_S2048x128_S256x128_1024_0⟩,
    ⟨(rows256 768 (wide inb_S2048x128_S256x128_768_0)), P 768 inb_S2048x128_S256x128_768_0⟩,
    ⟨(rows256 512 (wide inb_S2048x128_S256x128_512_0)), P 512 inb_S2048x128_S256x128_512_0⟩,
    ⟨(rows256 256 (wide inb_S2048x128_S256x128_256_0)), P 256 inb_S2048x128_S256x128_256_0⟩,
    ⟨(rows256 0 (wide inb_S2048x128_S256x128_0_0)), P 0 inb_S2048x128_S256x128_0_0⟩]

variable {spa spb : Space} (va : View sig .tc spa S2048x128 .f32)

/-- The stores of a block that reads each group of rows back before it stores it: `F` of the group read. -/
def chainM (F : (o : ℕ) → InRows o → Vec Ideal S256x128 .f32 → FVec Ideal S256x128 .f32)
    (L0 : List (View.Piece (Elt Ideal) S2048x128 .f32)) : List (View.Piece (Elt Ideal) S2048x128 .f32) :=
  let L1 : List (View.Piece (Elt Ideal) S2048x128 .f32) := ⟨(rows128 0 inb_S2048x128_S256x128_0_0), F 0 inb_S2048x128_S256x128_0_0 (va.readCov L0 (rows128 0 inb_S2048x128_S256x128_0_0).toLoadRect)⟩ :: L0
  let L2 : List (View.Piece (Elt Ideal) S2048x128 .f32) := ⟨(rows128 256 inb_S2048x128_S256x128_256_0), F 256 inb_S2048x128_S256x128_256_0 (va.readCov L1 (rows128 256 inb_S2048x128_S256x128_256_0).toLoadRect)⟩ :: L1
  let L3 : List (View.Piece (Elt Ideal) S2048x128 .f32) := ⟨(rows128 512 inb_S2048x128_S256x128_512_0), F 512 inb_S2048x128_S256x128_512_0 (va.readCov L2 (rows128 512 inb_S2048x128_S256x128_512_0).toLoadRect)⟩ :: L2
  let L4 : List (View.Piece (Elt Ideal) S2048x128 .f32) := ⟨(rows128 768 inb_S2048x128_S256x128_768_0), F 768 inb_S2048x128_S256x128_768_0 (va.readCov L3 (rows128 768 inb_S2048x128_S256x128_768_0).toLoadRect)⟩ :: L3
  let L5 : List (View.Piece (Elt Ideal) S2048x128 .f32) := ⟨(rows128 1024 inb_S2048x128_S256x128_1024_0), F 1024 inb_S2048x128_S256x128_1024_0 (va.readCov L4 (rows128 1024 inb_S2048x128_S256x128_1024_0).toLoadRect)⟩ :: L4
  let L6 : List (View.Piece (Elt Ideal) S2048x128 .f32) := ⟨(rows128 1280 inb_S2048x128_S256x128_1280_0), F 1280 inb_S2048x128_S256x128_1280_0 (va.readCov L5 (rows128 1280 inb_S2048x128_S256x128_1280_0).toLoadRect)⟩ :: L5
  let L7 : List (View.Piece (Elt Ideal) S2048x128 .f32) := ⟨(rows128 1536 inb_S2048x128_S256x128_1536_0), F 1536 inb_S2048x128_S256x128_1536_0 (va.readCov L6 (rows128 1536 inb_S2048x128_S256x128_1536_0).toLoadRect)⟩ :: L6
  let L8 : List (View.Piece (Elt Ideal) S2048x128 .f32) := ⟨(rows128 1792 inb_S2048x128_S256x128_1792_0), F 1792 inb_S2048x128_S256x128_1792_0 (va.readCov L7 (rows128 1792 inb_S2048x128_S256x128_1792_0).toLoadRect)⟩ :: L7
  L8

/-- The stores of a block that also reads the maxima back: `G` of the group's maxima and of the group read. -/
def chainL (vb : View sig .tc spb S2048x128 .f32) (F : (o : ℕ) → InRows o → Vec Ideal S256x128 .f32 → FVec Ideal S256x128 .f32)
    (G : (o : ℕ) → InRows o → Vec Ideal S256x128 .f32 → Vec Ideal S256x128 .f32 → FVec Ideal S256x128 .f32)
    (L0 : List (View.Piece (Elt Ideal) S2048x128 .f32)) (N0 : List (View.Piece (Elt Ideal) S2048x128 .f32)) :
    List (View.Piece (Elt Ideal) S2048x128 .f32) :=
  let N1 : List (View.Piece (Elt Ideal) S2048x128 .f32) := ⟨(rows128 0 inb_S2048x128_S256x128_0_0), G 0 inb_S2048x128_S256x128_0_0 (va.readCov L0 (rows128 0 inb_S2048x128_S256x128_0_0).toLoadRect) (vb.readCov N0 (rows128 0 inb_S2048x128_S256x128_0_0).toLoadRect)⟩ :: N0
  let L1 : List (View.Piece (Elt Ideal) S2048x128 .f32) := ⟨(rows128 0 inb_S2048x128_S256x128_0_0), F 0 inb_S2048x128_S256x128_0_0 (va.readCov L0 (rows128 0 inb_S2048x128_S256x128_0_0).toLoadRect)⟩ :: L0
  let N2 : List (View.Piece (Elt Ideal) S2048x128 .f32) := ⟨(rows128 256 inb_S2048x128_S256x128_256_0), G 256 inb_S2048x128_S256x128_256_0 (va.readCov L1 (rows128 256 inb_S2048x128_S256x128_256_0).toLoadRect) (vb.readCov N1 (rows128 256 inb_S2048x128_S256x128_256_0).toLoadRect)⟩ :: N1
  let L2 : List (View.Piece (Elt Ideal) S2048x128 .f32) := ⟨(rows128 256 inb_S2048x128_S256x128_256_0), F 256 inb_S2048x128_S256x128_256_0 (va.readCov L1 (rows128 256 inb_S2048x128_S256x128_256_0).toLoadRect)⟩ :: L1
  let N3 : List (View.Piece (Elt Ideal) S2048x128 .f32) := ⟨(rows128 512 inb_S2048x128_S256x128_512_0), G 512 inb_S2048x128_S256x128_512_0 (va.readCov L2 (rows128 512 inb_S2048x128_S256x128_512_0).toLoadRect) (vb.readCov N2 (rows128 512 inb_S2048x128_S256x128_512_0).toLoadRect)⟩ :: N2
  let L3 : List (View.Piece (Elt Ideal) S2048x128 .f32) := ⟨(rows128 512 inb_S2048x128_S256x128_512_0), F 512 inb_S2048x128_S256x128_512_0 (va.readCov L2 (rows128 512 inb_S2048x128_S256x128_512_0).toLoadRect)⟩ :: L2
  let N4 : List (View.Piece (Elt Ideal) S2048x128 .f32) := ⟨(rows128 768 inb_S2048x128_S256x128_768_0), G 768 inb_S2048x128_S256x128_768_0 (va.readCov L3 (rows128 768 inb_S2048x128_S256x128_768_0).toLoadRect) (vb.readCov N3 (rows128 768 inb_S2048x128_S256x128_768_0).toLoadRect)⟩ :: N3
  let L4 : List (View.Piece (Elt Ideal) S2048x128 .f32) := ⟨(rows128 768 inb_S2048x128_S256x128_768_0), F 768 inb_S2048x128_S256x128_768_0 (va.readCov L3 (rows128 768 inb_S2048x128_S256x128_768_0).toLoadRect)⟩ :: L3
  let N5 : List (View.Piece (Elt Ideal) S2048x128 .f32) := ⟨(rows128 1024 inb_S2048x128_S256x128_1024_0), G 1024 inb_S2048x128_S256x128_1024_0 (va.readCov L4 (rows128 1024 inb_S2048x128_S256x128_1024_0).toLoadRect) (vb.readCov N4 (rows128 1024 inb_S2048x128_S256x128_1024_0).toLoadRect)⟩ :: N4
  let L5 : List (View.Piece (Elt Ideal) S2048x128 .f32) := ⟨(rows128 1024 inb_S2048x128_S256x128_1024_0), F 1024 inb_S2048x128_S256x128_1024_0 (va.readCov L4 (rows128 1024 inb_S2048x128_S256x128_1024_0).toLoadRect)⟩ :: L4
  let N6 : List (View.Piece (Elt Ideal) S2048x128 .f32) := ⟨(rows128 1280 inb_S2048x128_S256x128_1280_0), G 1280 inb_S2048x128_S256x128_1280_0 (va.readCov L5 (rows128 1280 inb_S2048x128_S256x128_1280_0).toLoadRect) (vb.readCov N5 (rows128 1280 inb_S2048x128_S256x128_1280_0).toLoadRect)⟩ :: N5
  let L6 : List (View.Piece (Elt Ideal) S2048x128 .f32) := ⟨(rows128 1280 inb_S2048x128_S256x128_1280_0), F 1280 inb_S2048x128_S256x128_1280_0 (va.readCov L5 (rows128 1280 inb_S2048x128_S256x128_1280_0).toLoadRect)⟩ :: L5
  let N7 : List (View.Piece (Elt Ideal) S2048x128 .f32) := ⟨(rows128 1536 inb_S2048x128_S256x128_1536_0), G 1536 inb_S2048x128_S256x128_1536_0 (va.readCov L6 (rows128 1536 inb_S2048x128_S256x128_1536_0).toLoadRect) (vb.readCov N6 (rows128 1536 inb_S2048x128_S256x128_1536_0).toLoadRect)⟩ :: N6
  let L7 : List (View.Piece (Elt Ideal) S2048x128 .f32) := ⟨(rows128 1536 inb_S2048x128_S256x128_1536_0), F 1536 inb_S2048x128_S256x128_1536_0 (va.readCov L6 (rows128 1536 inb_S2048x128_S256x128_1536_0).toLoadRect)⟩ :: L6
  let N8 : List (View.Piece (Elt Ideal) S2048x128 .f32) := ⟨(rows128 1792 inb_S2048x128_S256x128_1792_0), G 1792 inb_S2048x128_S256x128_1792_0 (va.readCov L7 (rows128 1792 inb_S2048x128_S256x128_1792_0).toLoadRect) (vb.readCov N7 (rows128 1792 inb_S2048x128_S256x128_1792_0).toLoadRect)⟩ :: N7
  let L8 : List (View.Piece (Elt Ideal) S2048x128 .f32) := ⟨(rows128 1792 inb_S2048x128_S256x128_1792_0), F 1792 inb_S2048x128_S256x128_1792_0 (va.readCov L7 (rows128 1792 inb_S2048x128_S256x128_1792_0).toLoadRect)⟩ :: L7
  N8

/-- The stores of a block that also reads the maxima back: `G` of the group's maxima and of the group read. -/
def chainA (vb : View sig .tc spb S2048x256 .f32) (F : (o : ℕ) → InRows o → Vec Ideal S256x128 .f32 → FVec Ideal S256x128 .f32)
    (G : (o : ℕ) → InRows o → Vec Ideal S256x128 .f32 → Vec Ideal S256x256 .f32 → FVec Ideal S256x256 .f32)
    (L0 : List (View.Piece (Elt Ideal) S2048x128 .f32)) (N0 : List (View.Piece (Elt Ideal) S2048x256 .f32)) :
    List (View.Piece (Elt Ideal) S2048x256 .f32) :=
  let N1 : List (View.Piece (Elt Ideal) S2048x256 .f32) := ⟨(rows256 0 (wide inb_S2048x128_S256x128_0_0)), G 0 inb_S2048x128_S256x128_0_0 (va.readCov L0 (rows128 0 inb_S2048x128_S256x128_0_0).toLoadRect) (vb.readCov N0 (rows256 0 (wide inb_S2048x128_S256x128_0_0)).toLoadRect)⟩ :: N0
  let L1 : List (View.Piece (Elt Ideal) S2048x128 .f32) := ⟨(rows128 0 inb_S2048x128_S256x128_0_0), F 0 inb_S2048x128_S256x128_0_0 (va.readCov L0 (rows128 0 inb_S2048x128_S256x128_0_0).toLoadRect)⟩ :: L0
  let N2 : List (View.Piece (Elt Ideal) S2048x256 .f32) := ⟨(rows256 256 (wide inb_S2048x128_S256x128_256_0)), G 256 inb_S2048x128_S256x128_256_0 (va.readCov L1 (rows128 256 inb_S2048x128_S256x128_256_0).toLoadRect) (vb.readCov N1 (rows256 256 (wide inb_S2048x128_S256x128_256_0)).toLoadRect)⟩ :: N1
  let L2 : List (View.Piece (Elt Ideal) S2048x128 .f32) := ⟨(rows128 256 inb_S2048x128_S256x128_256_0), F 256 inb_S2048x128_S256x128_256_0 (va.readCov L1 (rows128 256 inb_S2048x128_S256x128_256_0).toLoadRect)⟩ :: L1
  let N3 : List (View.Piece (Elt Ideal) S2048x256 .f32) := ⟨(rows256 512 (wide inb_S2048x128_S256x128_512_0)), G 512 inb_S2048x128_S256x128_512_0 (va.readCov L2 (rows128 512 inb_S2048x128_S256x128_512_0).toLoadRect) (vb.readCov N2 (rows256 512 (wide inb_S2048x128_S256x128_512_0)).toLoadRect)⟩ :: N2
  let L3 : List (View.Piece (Elt Ideal) S2048x128 .f32) := ⟨(rows128 512 inb_S2048x128_S256x128_512_0), F 512 inb_S2048x128_S256x128_512_0 (va.readCov L2 (rows128 512 inb_S2048x128_S256x128_512_0).toLoadRect)⟩ :: L2
  let N4 : List (View.Piece (Elt Ideal) S2048x256 .f32) := ⟨(rows256 768 (wide inb_S2048x128_S256x128_768_0)), G 768 inb_S2048x128_S256x128_768_0 (va.readCov L3 (rows128 768 inb_S2048x128_S256x128_768_0).toLoadRect) (vb.readCov N3 (rows256 768 (wide inb_S2048x128_S256x128_768_0)).toLoadRect)⟩ :: N3
  let L4 : List (View.Piece (Elt Ideal) S2048x128 .f32) := ⟨(rows128 768 inb_S2048x128_S256x128_768_0), F 768 inb_S2048x128_S256x128_768_0 (va.readCov L3 (rows128 768 inb_S2048x128_S256x128_768_0).toLoadRect)⟩ :: L3
  let N5 : List (View.Piece (Elt Ideal) S2048x256 .f32) := ⟨(rows256 1024 (wide inb_S2048x128_S256x128_1024_0)), G 1024 inb_S2048x128_S256x128_1024_0 (va.readCov L4 (rows128 1024 inb_S2048x128_S256x128_1024_0).toLoadRect) (vb.readCov N4 (rows256 1024 (wide inb_S2048x128_S256x128_1024_0)).toLoadRect)⟩ :: N4
  let L5 : List (View.Piece (Elt Ideal) S2048x128 .f32) := ⟨(rows128 1024 inb_S2048x128_S256x128_1024_0), F 1024 inb_S2048x128_S256x128_1024_0 (va.readCov L4 (rows128 1024 inb_S2048x128_S256x128_1024_0).toLoadRect)⟩ :: L4
  let N6 : List (View.Piece (Elt Ideal) S2048x256 .f32) := ⟨(rows256 1280 (wide inb_S2048x128_S256x128_1280_0)), G 1280 inb_S2048x128_S256x128_1280_0 (va.readCov L5 (rows128 1280 inb_S2048x128_S256x128_1280_0).toLoadRect) (vb.readCov N5 (rows256 1280 (wide inb_S2048x128_S256x128_1280_0)).toLoadRect)⟩ :: N5
  let L6 : List (View.Piece (Elt Ideal) S2048x128 .f32) := ⟨(rows128 1280 inb_S2048x128_S256x128_1280_0), F 1280 inb_S2048x128_S256x128_1280_0 (va.readCov L5 (rows128 1280 inb_S2048x128_S256x128_1280_0).toLoadRect)⟩ :: L5
  let N7 : List (View.Piece (Elt Ideal) S2048x256 .f32) := ⟨(rows256 1536 (wide inb_S2048x128_S256x128_1536_0)), G 1536 inb_S2048x128_S256x128_1536_0 (va.readCov L6 (rows128 1536 inb_S2048x128_S256x128_1536_0).toLoadRect) (vb.readCov N6 (rows256 1536 (wide inb_S2048x128_S256x128_1536_0)).toLoadRect)⟩ :: N6
  let L7 : List (View.Piece (Elt Ideal) S2048x128 .f32) := ⟨(rows128 1536 inb_S2048x128_S256x128_1536_0), F 1536 inb_S2048x128_S256x128_1536_0 (va.readCov L6 (rows128 1536 inb_S2048x128_S256x128_1536_0).toLoadRect)⟩ :: L6
  let N8 : List (View.Piece (Elt Ideal) S2048x256 .f32) := ⟨(rows256 1792 (wide inb_S2048x128_S256x128_1792_0)), G 1792 inb_S2048x128_S256x128_1792_0 (va.readCov L7 (rows128 1792 inb_S2048x128_S256x128_1792_0).toLoadRect) (vb.readCov N7 (rows256 1792 (wide inb_S2048x128_S256x128_1792_0)).toLoadRect)⟩ :: N7
  let L8 : List (View.Piece (Elt Ideal) S2048x128 .f32) := ⟨(rows128 1792 inb_S2048x128_S256x128_1792_0), F 1792 inb_S2048x128_S256x128_1792_0 (va.readCov L7 (rows128 1792 inb_S2048x128_S256x128_1792_0).toLoadRect)⟩ :: L7
  N8

set_option maxHeartbeats 4000000 in
/-- Read back after a block that stored every group, the maxima are what the block stored. -/
theorem chainM_stack (F : (o : ℕ) → InRows o → Vec Ideal S256x128 .f32 → FVec Ideal S256x128 .f32)
    (P : (o : ℕ) → InRows o → FVec Ideal S256x128 .f32) :
    chainM va F (stack128 P) = stack128 (fun o h => F o h (P o h)) ++ stack128 P := by
  unfold chainM stack128
  dsimp only [List.cons_append, List.nil_append]
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
  all_goals
    repeat rw [View.readCov_skip va _ _ _ _ rfl]
    rw [View.readCov_cons_toLoadRect va]

set_option maxHeartbeats 4000000 in
/-- Read back after a block that stored every group, both are what the block stored. -/
theorem chainL_stack (vb : View sig .tc spb S2048x128 .f32) (F : (o : ℕ) → InRows o → Vec Ideal S256x128 .f32 → FVec Ideal S256x128 .f32)
    (G : (o : ℕ) → InRows o → Vec Ideal S256x128 .f32 → Vec Ideal S256x128 .f32 → FVec Ideal S256x128 .f32)
    (P : (o : ℕ) → InRows o → FVec Ideal S256x128 .f32) (Q : (o : ℕ) → InRows o → FVec Ideal S256x128 .f32) :
    chainL va vb F G (stack128 P) (stack128 Q) = stack128 (fun o h => G o h (P o h) (Q o h)) ++ stack128 Q := by
  unfold chainL stack128
  dsimp only [List.cons_append, List.nil_append]
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
  all_goals
    repeat rw [View.readCov_skip va _ _ _ _ rfl]
    rw [View.readCov_cons_toLoadRect va]
    repeat rw [View.readCov_skip vb _ _ _ _ rfl]
    rw [View.readCov_cons_toLoadRect vb]

set_option maxHeartbeats 4000000 in
/-- Read back after a block that stored every group, both are what the block stored. -/
theorem chainA_stack (vb : View sig .tc spb S2048x256 .f32) (F : (o : ℕ) → InRows o → Vec Ideal S256x128 .f32 → FVec Ideal S256x128 .f32)
    (G : (o : ℕ) → InRows o → Vec Ideal S256x128 .f32 → Vec Ideal S256x256 .f32 → FVec Ideal S256x256 .f32)
    (P : (o : ℕ) → InRows o → FVec Ideal S256x128 .f32) (Q : (o : ℕ) → InRows o → FVec Ideal S256x256 .f32) :
    chainA va vb F G (stack128 P) (stack256 Q) = stack256 (fun o h => G o h (P o h) (Q o h)) ++ stack256 Q := by
  unfold chainA stack128 stack256
  dsimp only [List.cons_append, List.nil_append]
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
  all_goals
    repeat rw [View.readCov_skip va _ _ _ _ rfl]
    rw [View.readCov_cons_toLoadRect va]
    repeat rw [View.readCov_skip vb _ _ _ _ rfl]
    rw [View.readCov_cons_toLoadRect vb]

variable (𝒱 : Variants) (c : Dev nD) (bd : Option 𝒱.V) (i : grid0.Coords) (arg2 : Memref sig .tc .vmem S1x128x1024 .bf16) (harg2 : arg2.IsWhole) (arg3 : Memref sig .tc .vmem S1x4096x256 .bf16) (harg3 : arg3.IsWhole) (arg4 : Memref sig .tc .vmem S1x128x4096 .i8) (harg4 : arg4.IsWhole) (arg5 : Memref sig .tc .vmem S16x64x256 .bf16) (harg5 : arg5.IsWhole) (arg6 : Memref sig .tc .vmem S16x256x64 .bf16) (harg6 : arg6.IsWhole) (arg7 : Memref sig .tc .vmem S1x128x1024 .bf16) (harg7 : arg7.IsWhole) (arg8 : Memref sig .tc .vmem S2048x256 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x256 .f32) (harg11 : arg11.IsWhole) (v20 : BitVec 32) (c2_i32 : BitVec 32) (v195 : BitVec 32) (v200 : BitVec 32) (X_arg3 : BufTy.Contents (Elt Ideal) arg3.view.ty) (X_arg4 : BufTy.Contents (Elt Ideal) arg4.view.ty) (X_arg8 : BufTy.Contents (Elt Ideal) arg8.view.ty) (k : Fin (k0_t1_loop i).trips)
 (f_arg9 : BufTy.Contents (Elt Ideal) arg9.view.ty) (f_arg10 : BufTy.Contents (Elt Ideal) arg10.view.ty) (f_arg11 : BufTy.Contents (Elt Ideal) arg11.view.ty)

set_option maxHeartbeats 4000000 in
/-- What two consecutive blocks store into the running maxima. -/
theorem trip_m : (trip_k0_t1 (F := Ideal) 𝒱 c bd i arg2 harg2 arg3 harg3 arg4 harg4 arg5 harg5 arg6 harg6 arg7 harg7 arg8 harg8 arg9 harg9 arg10 harg10 arg11 harg11 v20 c2_i32 v195 v200 X_arg3 X_arg4 X_arg8 k).1 f_arg9 f_arg10 f_arg11
    = stack128 (fun o h => newM (View.ld (View.read (Elt Ideal) arg3.view X_arg3) (Rect.unit (s := S1x4096x256) (k0_off3 i k) S1x512x256.size (k0_off3_inb i k)))
        (View.ld (View.read (Elt Ideal) arg4.view X_arg4) (Rect.unit (s := S1x128x4096) (k0_off4 i k) S1x128x512.size (k0_off4_inb i k)))
        (View.ld (View.read (Elt Ideal) arg8.view X_arg8) (rows256 o (wide h)))
        (newM (View.ld (View.read (Elt Ideal) arg3.view X_arg3) (Rect.unit (s := S1x4096x256) (k0_off1 i k) S1x512x256.size (k0_off1_inb i k)))
        (View.ld (View.read (Elt Ideal) arg4.view X_arg4) (Rect.unit (s := S1x128x4096) (k0_off2 i k) S1x128x512.size (k0_off2_inb i k)))
        (View.ld (View.read (Elt Ideal) arg8.view X_arg8) (rows256 o (wide h)))
        (View.ld (View.read (Elt Ideal) arg9.view f_arg9) (rows128 o h)))) ++ (stack128 fun o h => (newM (View.ld (View.read (Elt Ideal) arg3.view X_arg3) (Rect.unit (s := S1x4096x256) (k0_off1 i k) S1x512x256.size (k0_off1_inb i k)))
        (View.ld (View.read (Elt Ideal) arg4.view X_arg4) (Rect.unit (s := S1x128x4096) (k0_off2 i k) S1x128x512.size (k0_off2_inb i k)))
        (View.ld (View.read (Elt Ideal) arg8.view X_arg8) (rows256 o (wide h)))
        (View.ld (View.read (Elt Ideal) arg9.view f_arg9) (rows128 o h)))) := by
  refine Eq.trans (b := chainM arg9.view (fun o h X => newM (View.ld (View.read (Elt Ideal) arg3.view X_arg3) (Rect.unit (s := S1x4096x256) (k0_off3 i k) S1x512x256.size (k0_off3_inb i k)))
        (View.ld (View.read (Elt Ideal) arg4.view X_arg4) (Rect.unit (s := S1x128x4096) (k0_off4 i k) S1x128x512.size (k0_off4_inb i k)))
        (View.ld (View.read (Elt Ideal) arg8.view X_arg8) (rows256 o (wide h))) X) (stack128 fun o h => (newM (View.ld (View.read (Elt Ideal) arg3.view X_arg3) (Rect.unit (s := S1x4096x256) (k0_off1 i k) S1x512x256.size (k0_off1_inb i k)))
        (View.ld (View.read (Elt Ideal) arg4.view X_arg4) (Rect.unit (s := S1x128x4096) (k0_off2 i k) S1x128x512.size (k0_off2_inb i k)))
        (View.ld (View.read (Elt Ideal) arg8.view X_arg8) (rows256 o (wide h)))
        (View.ld (View.read (Elt Ideal) arg9.view f_arg9) (rows128 o h))))) ?_ (chainM_stack ..)
  unfold trip_k0_t1
  dsimp only
  frame_out
  rfl

set_option maxHeartbeats 4000000 in
/-- What two consecutive blocks store into the running denominators. -/
theorem trip_l : (trip_k0_t1 (F := Ideal) 𝒱 c bd i arg2 harg2 arg3 harg3 arg4 harg4 arg5 harg5 arg6 harg6 arg7 harg7 arg8 harg8 arg9 harg9 arg10 harg10 arg11 harg11 v20 c2_i32 v195 v200 X_arg3 X_arg4 X_arg8 k).2.1 f_arg9 f_arg10 f_arg11
    = stack128 (fun o h => newL (View.ld (View.read (Elt Ideal) arg3.view X_arg3) (Rect.unit (s := S1x4096x256) (k0_off3 i k) S1x512x256.size (k0_off3_inb i k)))
        (View.ld (View.read (Elt Ideal) arg4.view X_arg4) (Rect.unit (s := S1x128x4096) (k0_off4 i k) S1x128x512.size (k0_off4_inb i k)))
        (View.ld (View.read (Elt Ideal) arg8.view X_arg8) (rows256 o (wide h)))
        (newM (View.ld (View.read (Elt Ideal) arg3.view X_arg3) (Rect.unit (s := S1x4096x256) (k0_off1 i k) S1x512x256.size (k0_off1_inb i k)))
        (View.ld (View.read (Elt Ideal) arg4.view X_arg4) (Rect.unit (s := S1x128x4096) (k0_off2 i k) S1x128x512.size (k0_off2_inb i k)))
        (View.ld (View.read (Elt Ideal) arg8.view X_arg8) (rows256 o (wide h)))
        (View.ld (View.read (Elt Ideal) arg9.view f_arg9) (rows128 o h)))
        (newL (View.ld (View.read (Elt Ideal) arg3.view X_arg3) (Rect.unit (s := S1x4096x256) (k0_off1 i k) S1x512x256.size (k0_off1_inb i k)))
        (View.ld (View.read (Elt Ideal) arg4.view X_arg4) (Rect.unit (s := S1x128x4096) (k0_off2 i k) S1x128x512.size (k0_off2_inb i k)))
        (View.ld (View.read (Elt Ideal) arg8.view X_arg8) (rows256 o (wide h)))
        (View.ld (View.read (Elt Ideal) arg9.view f_arg9) (rows128 o h)) (View.ld (View.read (Elt Ideal) arg10.view f_arg10) (rows128 o h)))) ++ (stack128 fun o h => (newL (View.ld (View.read (Elt Ideal) arg3.view X_arg3) (Rect.unit (s := S1x4096x256) (k0_off1 i k) S1x512x256.size (k0_off1_inb i k)))
        (View.ld (View.read (Elt Ideal) arg4.view X_arg4) (Rect.unit (s := S1x128x4096) (k0_off2 i k) S1x128x512.size (k0_off2_inb i k)))
        (View.ld (View.read (Elt Ideal) arg8.view X_arg8) (rows256 o (wide h)))
        (View.ld (View.read (Elt Ideal) arg9.view f_arg9) (rows128 o h)) (View.ld (View.read (Elt Ideal) arg10.view f_arg10) (rows128 o h)))) := by
  refine Eq.trans (b := chainL arg9.view arg10.view (fun o h X => newM (View.ld (View.read (Elt Ideal) arg3.view X_arg3) (Rect.unit (s := S1x4096x256) (k0_off3 i k) S1x512x256.size (k0_off3_inb i k)))
        (View.ld (View.read (Elt Ideal) arg4.view X_arg4) (Rect.unit (s := S1x128x4096) (k0_off4 i k) S1x128x512.size (k0_off4_inb i k)))
        (View.ld (View.read (Elt Ideal) arg8.view X_arg8) (rows256 o (wide h))) X) (fun o h X Y => newL (View.ld (View.read (Elt Ideal) arg3.view X_arg3) (Rect.unit (s := S1x4096x256) (k0_off3 i k) S1x512x256.size (k0_off3_inb i k)))
        (View.ld (View.read (Elt Ideal) arg4.view X_arg4) (Rect.unit (s := S1x128x4096) (k0_off4 i k) S1x128x512.size (k0_off4_inb i k)))
        (View.ld (View.read (Elt Ideal) arg8.view X_arg8) (rows256 o (wide h))) X Y) (stack128 fun o h => (newM (View.ld (View.read (Elt Ideal) arg3.view X_arg3) (Rect.unit (s := S1x4096x256) (k0_off1 i k) S1x512x256.size (k0_off1_inb i k)))
        (View.ld (View.read (Elt Ideal) arg4.view X_arg4) (Rect.unit (s := S1x128x4096) (k0_off2 i k) S1x128x512.size (k0_off2_inb i k)))
        (View.ld (View.read (Elt Ideal) arg8.view X_arg8) (rows256 o (wide h)))
        (View.ld (View.read (Elt Ideal) arg9.view f_arg9) (rows128 o h)))) (stack128 fun o h => (newL (View.ld (View.read (Elt Ideal) arg3.view X_arg3) (Rect.unit (s := S1x4096x256) (k0_off1 i k) S1x512x256.size (k0_off1_inb i k)))
        (View.ld (View.read (Elt Ideal) arg4.view X_arg4) (Rect.unit (s := S1x128x4096) (k0_off2 i k) S1x128x512.size (k0_off2_inb i k)))
        (View.ld (View.read (Elt Ideal) arg8.view X_arg8) (rows256 o (wide h)))
        (View.ld (View.read (Elt Ideal) arg9.view f_arg9) (rows128 o h)) (View.ld (View.read (Elt Ideal) arg10.view f_arg10) (rows128 o h))))) ?_ (chainL_stack ..)
  unfold trip_k0_t1
  dsimp only
  frame_out
  rfl

set_option maxHeartbeats 4000000 in
/-- What two consecutive blocks store into the running numerators. -/
theorem trip_a : (trip_k0_t1 (F := Ideal) 𝒱 c bd i arg2 harg2 arg3 harg3 arg4 harg4 arg5 harg5 arg6 harg6 arg7 harg7 arg8 harg8 arg9 harg9 arg10 harg10 arg11 harg11 v20 c2_i32 v195 v200 X_arg3 X_arg4 X_arg8 k).2.2.1 f_arg9 f_arg10 f_arg11
    = stack256 (fun o h => newA (View.ld (View.read (Elt Ideal) arg3.view X_arg3) (Rect.unit (s := S1x4096x256) (k0_off3 i k) S1x512x256.size (k0_off3_inb i k)))
        (View.ld (View.read (Elt Ideal) arg4.view X_arg4) (Rect.unit (s := S1x128x4096) (k0_off4 i k) S1x128x512.size (k0_off4_inb i k)))
        (View.ld (View.read (Elt Ideal) arg8.view X_arg8) (rows256 o (wide h)))
        (newM (View.ld (View.read (Elt Ideal) arg3.view X_arg3) (Rect.unit (s := S1x4096x256) (k0_off1 i k) S1x512x256.size (k0_off1_inb i k)))
        (View.ld (View.read (Elt Ideal) arg4.view X_arg4) (Rect.unit (s := S1x128x4096) (k0_off2 i k) S1x128x512.size (k0_off2_inb i k)))
        (View.ld (View.read (Elt Ideal) arg8.view X_arg8) (rows256 o (wide h)))
        (View.ld (View.read (Elt Ideal) arg9.view f_arg9) (rows128 o h)))
        (newA (View.ld (View.read (Elt Ideal) arg3.view X_arg3) (Rect.unit (s := S1x4096x256) (k0_off1 i k) S1x512x256.size (k0_off1_inb i k)))
        (View.ld (View.read (Elt Ideal) arg4.view X_arg4) (Rect.unit (s := S1x128x4096) (k0_off2 i k) S1x128x512.size (k0_off2_inb i k)))
        (View.ld (View.read (Elt Ideal) arg8.view X_arg8) (rows256 o (wide h)))
        (View.ld (View.read (Elt Ideal) arg9.view f_arg9) (rows128 o h)) (View.ld (View.read (Elt Ideal) arg11.view f_arg11) (rows256 o (wide h))))) ++ (stack256 fun o h => (newA (View.ld (View.read (Elt Ideal) arg3.view X_arg3) (Rect.unit (s := S1x4096x256) (k0_off1 i k) S1x512x256.size (k0_off1_inb i k)))
        (View.ld (View.read (Elt Ideal) arg4.view X_arg4) (Rect.unit (s := S1x128x4096) (k0_off2 i k) S1x128x512.size (k0_off2_inb i k)))
        (View.ld (View.read (Elt Ideal) arg8.view X_arg8) (rows256 o (wide h)))
        (View.ld (View.read (Elt Ideal) arg9.view f_arg9) (rows128 o h)) (View.ld (View.read (Elt Ideal) arg11.view f_arg11) (rows256 o (wide h))))) := by
  refine Eq.trans (b := chainA arg9.view arg11.view (fun o h X => newM (View.ld (View.read (Elt Ideal) arg3.view X_arg3) (Rect.unit (s := S1x4096x256) (k0_off3 i k) S1x512x256.size (k0_off3_inb i k)))
        (View.ld (View.read (Elt Ideal) arg4.view X_arg4) (Rect.unit (s := S1x128x4096) (k0_off4 i k) S1x128x512.size (k0_off4_inb i k)))
        (View.ld (View.read (Elt Ideal) arg8.view X_arg8) (rows256 o (wide h))) X) (fun o h X Y => newA (View.ld (View.read (Elt Ideal) arg3.view X_arg3) (Rect.unit (s := S1x4096x256) (k0_off3 i k) S1x512x256.size (k0_off3_inb i k)))
        (View.ld (View.read (Elt Ideal) arg4.view X_arg4) (Rect.unit (s := S1x128x4096) (k0_off4 i k) S1x128x512.size (k0_off4_inb i k)))
        (View.ld (View.read (Elt Ideal) arg8.view X_arg8) (rows256 o (wide h))) X Y) (stack128 fun o h => (newM (View.ld (View.read (Elt Ideal) arg3.view X_arg3) (Rect.unit (s := S1x4096x256) (k0_off1 i k) S1x512x256.size (k0_off1_inb i k)))
        (View.ld (View.read (Elt Ideal) arg4.view X_arg4) (Rect.unit (s := S1x128x4096) (k0_off2 i k) S1x128x512.size (k0_off2_inb i k)))
        (View.ld (View.read (Elt Ideal) arg8.view X_arg8) (rows256 o (wide h)))
        (View.ld (View.read (Elt Ideal) arg9.view f_arg9) (rows128 o h)))) (stack256 fun o h => (newA (View.ld (View.read (Elt Ideal) arg3.view X_arg3) (Rect.unit (s := S1x4096x256) (k0_off1 i k) S1x512x256.size (k0_off1_inb i k)))
        (View.ld (View.read (Elt Ideal) arg4.view X_arg4) (Rect.unit (s := S1x128x4096) (k0_off2 i k) S1x128x512.size (k0_off2_inb i k)))
        (View.ld (View.read (Elt Ideal) arg8.view X_arg8) (rows256 o (wide h)))
        (View.ld (View.read (Elt Ideal) arg9.view f_arg9) (rows128 o h)) (View.ld (View.read (Elt Ideal) arg11.view f_arg11) (rows256 o (wide h)))))) ?_ (chainA_stack ..)
  unfold trip_k0_t1
  dsimp only
  frame_out
  rfl

end Cert.KernelIdeal.Value
end
-- ==== Proof.AttnMath.lean ====
module

public import Idealize.ShloMosaic.PureOps.Ideal
public import Mathlib.Algebra.BigOperators.Fin

@[expose] public section

noncomputable section

/-! Softmax over blocks of keys: running maxima, denominators and numerators, and what they amount to. -/

namespace Cert.Attn

open Idealize.ShloMosaic Finset

/-- A sum of reals, as a sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [sum_insert h, sum_insert h, EReal.coe_add, ih]

/-- The weight `2 ^ (s - m)` of a score `s` against a maximum `m`, a real number. -/
def w (s m : EReal) : ℝ := (Ideal.exp2 (s - m)).toReal

/-- The real score with base-2 scaling, or minus infinity. -/
theorem exp2_eq {s m : EReal} (h : s ≤ m) (hm : m ≠ ⊤) : Ideal.exp2 (s - m) = (w s m : EReal) := by
  unfold w
  induction s with
  | top => exact absurd (top_le_iff.mp h) hm
  | bot => rw [EReal.bot_sub]; rfl
  | coe s =>
    induction m with
    | top => exact absurd rfl hm
    | bot => exact absurd (le_bot_iff.mp h) (EReal.coe_ne_bot s)
    | coe m => rw [← EReal.coe_sub]; rfl

theorem w_bot (m : EReal) : w ⊥ m = 0 := by unfold w; rw [EReal.bot_sub]; rfl

theorem w_coe (s m : ℝ) : w s m = (2 : ℝ) ^ (s - m) := by unfold w; rw [← EReal.coe_sub]; rfl

/-- Rescaling a weight to a larger maximum. -/
theorem w_mul {s m m' : EReal} (h : s ≤ m) (h' : m ≤ m') (hm' : m' ≠ ⊤) : w m m' * w s m = w s m' := by
  induction s with
  | top => exact absurd (top_le_iff.mp (h.trans h')) hm'
  | bot => rw [w_bot, w_bot, mul_zero]
  | coe s =>
    induction m with
    | top => exact absurd (top_le_iff.mp h') hm'
    | bot => exact absurd (le_bot_iff.mp h) (EReal.coe_ne_bot s)
    | coe m =>
      induction m' with
      | top => exact absurd rfl hm'
      | bot => exact absurd (le_bot_iff.mp h') (EReal.coe_ne_bot m)
      | coe m' =>
        rw [w_coe, w_coe, w_coe, ← Real.rpow_add two_pos]
        congr 1; ring

/-- The largest of the first `n` scores. -/
def top (S : ℕ → EReal) (n : ℕ) : EReal := (range n).sup S

theorem le_upto {S : ℕ → EReal} {n i : ℕ} (h : i < n) : S i ≤ top S n := le_sup (f := S) (mem_range.mpr h)

theorem top_mono (S : ℕ → EReal) {n n' : ℕ} (h : n ≤ n') : top S n ≤ top S n' :=
  sup_mono (range_mono h)

theorem top_ne {S : ℕ → EReal} (hS : ∀ n, S n ≠ ⊤) (n : ℕ) : top S n ≠ ⊤ := by
  unfold top
  refine ne_of_lt ((Finset.sup_lt_iff bot_lt_top).mpr fun i _ => lt_of_le_of_ne le_top (hS i))

/-- The largest score after one more block of 512. -/
theorem top_block (S : ℕ → EReal) (j : ℕ) (sc : Fin 512 → EReal) (hsc : ∀ k, sc k = S (512 * j + k)) :
    max (top S (512 * j)) (univ.sup sc) = top S (512 * (j + 1)) := by
  apply le_antisymm
  · refine max_le (top_mono S (by omega)) (Finset.sup_le fun k _ => ?_)
    rw [hsc]; exact le_upto (by have := k.isLt; omega)
  · refine Finset.sup_le fun n hn => ?_
    have hn := mem_range.mp hn
    by_cases h : n < 512 * j
    · exact (le_upto h).trans (le_max_left _ _)
    · refine le_trans ?_ (le_max_right _ _)
      have := hsc ⟨n - 512 * j, by omega⟩
      rw [show 512 * j + (n - 512 * j) = n by omega] at this
      rw [← this]; exact le_sup (f := sc) (mem_univ _)

/-- One row's state after `j` blocks of 512 keys: the maximum in every lane, the weights' sum lane by lane, and the
    weighted sum of the keys' latent vectors. -/
structure Row (S : ℕ → EReal) (K : ℕ → Fin 256 → ℝ) (j : ℕ) (M L : Fin 128 → EReal) (A : Fin 256 → EReal) : Prop where
  m : ∀ l, M l = top S (512 * j)
  l : ∀ l, L l = ((∑ n ∈ range (4 * j), w (S (128 * n + l)) (top S (512 * j)) : ℝ) : EReal)
  a : ∀ c, A c = ((∑ n ∈ range (512 * j), w (S n) (top S (512 * j)) * K n c : ℝ) : EReal)

/-- The state before the first block. -/
theorem Row.zero (S : ℕ → EReal) (K : ℕ → Fin 256 → ℝ) : Row S K 0 (fun _ => ⊥) (fun _ => 0) (fun _ => 0) where
  m _ := by simp [top]
  l _ := by simp
  a _ := by simp

/-- One block of 512 keys takes the state after `j` blocks to the state after `j + 1`. -/
theorem Row.step {S : ℕ → EReal} {K : ℕ → Fin 256 → ℝ} (hS : ∀ n, S n ≠ ⊤) {j : ℕ} {M L : Fin 128 → EReal}
    {A : Fin 256 → EReal} (h : Row S K j M L A) (sc : Fin 512 → EReal) (hsc : ∀ k, sc k = S (512 * j + k))
    (kv : Fin 512 → Fin 256 → EReal) (hkv : ∀ k c, kv k c = (K (512 * j + k) c : EReal))
    {M' L' : Fin 128 → EReal} {A' : Fin 256 → EReal} {m m' : EReal} (hm : ∀ l, M l = m) (hm' : m' = max m (univ.sup sc))
    (hM : ∀ l, M' l = m')
    (hL : ∀ l : Fin 128, L' l = Ideal.exp2 (m - m') * L l
      + ((Ideal.exp2 (sc ⟨l, by omega⟩ - m') + Ideal.exp2 (sc ⟨128 + l, by omega⟩ - m'))
        + (Ideal.exp2 (sc ⟨256 + l, by omega⟩ - m') + Ideal.exp2 (sc ⟨384 + l, by omega⟩ - m'))))
    (hA : ∀ c, A' c = Ideal.exp2 (m - m') * A c + ∑ k, Ideal.exp2 (sc k - m') * kv k c) :
    Row S K (j + 1) M' L' A' := by
  have e : m = top S (512 * j) := (hm 0).symm.trans (h.m 0)
  have e' : m' = top S (512 * (j + 1)) := by rw [hm', e, top_block S j sc hsc]
  have hne := top_ne hS (512 * (j + 1))
  have hle : top S (512 * j) ≤ top S (512 * (j + 1)) := top_mono S (by omega)
  have hα : Ideal.exp2 (m - m') = (w (top S (512 * j)) (top S (512 * (j + 1))) : EReal) := by
    rw [e, e']; exact exp2_eq hle hne
  have hp : ∀ k : Fin 512, Ideal.exp2 (sc k - m') = (w (S (512 * j + k)) (top S (512 * (j + 1))) : EReal) := fun k => by
    rw [e', hsc]; exact exp2_eq (le_upto (by have := k.isLt; omega)) hne
  have hw : ∀ n < 512 * j, w (top S (512 * j)) (top S (512 * (j + 1))) * w (S n) (top S (512 * j))
      = w (S n) (top S (512 * (j + 1))) := fun n hn => w_mul (le_upto hn) hle hne
  refine ⟨fun l => (hM l).trans e', fun l => ?_, fun c => ?_⟩
  · rw [hL, hα, hp, hp, hp, hp, h.l l]
    have hl := l.isLt
    rw [← EReal.coe_add, ← EReal.coe_add, ← EReal.coe_add, ← EReal.coe_mul, ← EReal.coe_add]
    congr 1
    rw [show 4 * (j + 1) = 4 * j + 1 + 1 + 1 + 1 by ring, sum_range_succ, sum_range_succ, sum_range_succ, sum_range_succ,
      mul_sum, sum_congr rfl fun n hn => hw (128 * n + l) (by have := mem_range.mp hn; omega)]
    dsimp only
    rw [show 128 * (4 * j) + l.val = 512 * j + l.val by ring, show 128 * (4 * j + 1) + l.val = 512 * j + (128 + l.val) by ring,
      show 128 * (4 * j + 1 + 1) + l.val = 512 * j + (256 + l.val) by ring,
      show 128 * (4 * j + 1 + 1 + 1) + l.val = 512 * j + (384 + l.val) by ring]
    ring
  · rw [hA, hα, h.a c, Finset.sum_congr rfl fun k _ => show Ideal.exp2 (sc k - m') * kv k c
      = ((w (S (512 * j + k)) (top S (512 * (j + 1))) * K (512 * j + k) c : ℝ) : EReal) by rw [hp, hkv, EReal.coe_mul],
      ← coe_sum, ← EReal.coe_mul, ← EReal.coe_add]
    congr 1
    rw [show 512 * (j + 1) = 512 * j + 512 by ring, sum_range_add, mul_sum,
      ← Fin.sum_univ_eq_sum_range (fun k => w (S (512 * j + k)) (top S (512 * j + 512)) * K (512 * j + k) c) 512]
    congr 1
    refine sum_congr rfl fun n hn => ?_
    rw [← mul_assoc]
    exact congrArg (· * K n c) (hw n (mem_range.mp hn))

/-- A sum over keys, tile by tile of 128 lanes. -/
theorem sum_lanes (f : ℕ → ℝ) (a : ℕ) :
    ∑ l : Fin 128, ∑ n ∈ range a, f (128 * n + l) = ∑ n ∈ range (128 * a), f n := by
  rw [sum_comm]
  induction a with
  | zero => simp
  | succ a ih =>
    rw [sum_range_succ, ih, show 128 * (a + 1) = 128 * a + 128 by ring, sum_range_add,
      ← Fin.sum_univ_eq_sum_range (fun k => f (128 * a + k)) 128]

/-- Multiplication by a nonnegative real, term by term. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s h ih =>
    rw [sum_insert h, sum_insert h,
      EReal.right_distrib_of_nonneg_of_ne_top (EReal.coe_nonneg.mpr hr) (EReal.coe_ne_top r), ih]

/-- A masked score: minus infinity at a key that is not selected. -/
def masked (t : ℕ → ℝ) (sel : ℕ → Prop) [DecidablePred sel] (n : ℕ) : EReal := if sel n then (t n : EReal) else ⊥

/-- Division by a positive real. -/
theorem div_coe {x d : ℝ} (hd : 0 < d) : Ideal.div (x : EReal) (d : EReal) = ((x / d : ℝ) : EReal) := by
  unfold Ideal.div
  rw [if_neg (by exact_mod_cast hd.ne'), ← EReal.coe_inv, ← EReal.coe_mul, div_eq_mul_inv]

section Attend

variable (t : ℕ → ℝ) (sel : ℕ → Prop) [DecidablePred sel]

/-- The softmax's numerator at a key against a maximum `T`. -/
def num (T : ℝ) (n : ℕ) : ℝ := if sel n then Real.exp (t n - T) else 0

theorem exp_masked (T : ℝ) (n : ℕ) : Ideal.exp (masked t sel n - (T : EReal)) = (num t sel T n : EReal) := by
  unfold masked num
  by_cases h : sel n
  · rw [if_pos h, if_pos h, ← EReal.coe_sub]; rfl
  · rw [if_neg h, if_neg h, EReal.bot_sub]; rfl

theorem w_masked (T : ℝ) (n : ℕ) :
    w (masked (fun n => t n / Real.log 2) sel n) ((T / Real.log 2 : ℝ) : EReal) = num t sel T n := by
  unfold masked num
  by_cases h : sel n
  · rw [if_pos h, if_pos h, w_coe, Real.rpow_def_of_pos two_pos]
    congr 1
    have := Real.log_pos one_lt_two
    field_simp
  · rw [if_neg h, if_neg h, w_bot]

/-- Scaling the scores by `1 / log 2` scales their maximum. -/
theorem top_scaled (N : ℕ) (T : ℝ) (h : top (masked t sel) N = T) :
    top (masked (fun n => t n / Real.log 2) sel) N = ((T / Real.log 2 : ℝ) : EReal) := by
  have hl : 0 < (Real.log 2)⁻¹ := inv_pos.mpr (Real.log_pos one_lt_two)
  have hmono : Monotone fun x : EReal => x * ((Real.log 2)⁻¹ : ℝ) := fun a b hab =>
    mul_le_mul_of_nonneg_right hab (EReal.coe_nonneg.mpr hl.le)
  have := Finset.comp_sup_eq_sup_comp_of_is_total (s := range N) (f := masked t sel) _ hmono (EReal.bot_mul_coe_of_pos hl)
  unfold top at h ⊢
  rw [h] at this
  rw [div_eq_mul_inv, EReal.coe_mul, this]
  refine Finset.sup_congr rfl fun n _ => ?_
  unfold masked
  dsimp only [Function.comp]
  by_cases hn : sel n
  · rw [if_pos hn, if_pos hn, div_eq_mul_inv, EReal.coe_mul]
  · rw [if_neg hn, if_neg hn, EReal.bot_mul_coe_of_pos hl]

/-- The blockwise state, normalised and projected, is the softmax of the masked scores applied to the keys. -/
theorem attend (K : ℕ → Fin 256 → ℝ) (W : Fin 256 → EReal) (J : ℕ) (hJ : 512 * J ≤ 4096)
    (hsel : ∀ n, sel n → n < 512 * J) (hex : ∃ n, sel n) {M L : Fin 128 → EReal} {A : Fin 256 → EReal}
    (h : Row (masked (fun n => t n / Real.log 2) sel) K J M L A) :
    (∑ c, A c * W c) * Ideal.div 1 (∑ l, L l)
      = ∑ c, W c * ∑ k : Fin 4096,
          Ideal.div (Ideal.exp (masked t sel k - univ.sup fun k : Fin 4096 => masked t sel k))
            (∑ k : Fin 4096, Ideal.exp (masked t sel k - univ.sup fun k : Fin 4096 => masked t sel k)) * (K k c : EReal) := by
  obtain ⟨n0, h0⟩ := hex
  have hn0 := hsel n0 h0
  have hnt : ∀ n, masked t sel n ≠ ⊤ := fun n => by
    unfold masked; split
    · exact EReal.coe_ne_top _
    · exact bot_ne_top
  obtain ⟨T, hT⟩ : ∃ T : ℝ, top (masked t sel) (512 * J) = T := by
    have h1 := top_ne hnt (512 * J)
    have h2 : (t n0 : EReal) ≤ top (masked t sel) (512 * J) := by
      have := le_upto (S := masked t sel) hn0
      unfold masked at this; rwa [if_pos h0] at this
    exact ⟨_, (EReal.coe_toReal h1 (fun hb => EReal.coe_ne_bot _ (le_bot_iff.mp (hb ▸ h2)))).symm⟩
  have hmx : (univ.sup fun k : Fin 4096 => masked t sel k) = (T : EReal) := by
    rw [← hT]
    apply le_antisymm
    · refine Finset.sup_le fun k _ => ?_
      by_cases hk : sel k
      · exact le_upto (hsel k hk)
      · unfold masked; rw [if_neg hk]; exact bot_le
    · refine Finset.sup_le fun n hn => ?_
      exact le_sup (f := fun k : Fin 4096 => masked t sel k) (mem_univ (⟨n, by have := mem_range.mp hn; omega⟩ : Fin 4096))
  have htop := top_scaled t sel (512 * J) T hT
  set D : ℝ := ∑ n ∈ range (512 * J), num t sel T n with hD
  have hnn : ∀ n, 0 ≤ num t sel T n := fun n => by unfold num; split <;> positivity
  have hDpos : 0 < D := by
    refine lt_of_lt_of_le ?_ (single_le_sum (f := num t sel T) (fun n _ => hnn n) (mem_range.mpr hn0))
    unfold num; rw [if_pos h0]; exact Real.exp_pos _
  have hext : ∀ f : ℕ → ℝ, ∑ k : Fin 4096, num t sel T k * f k = ∑ n ∈ range (512 * J), num t sel T n * f n := fun f => by
    rw [Fin.sum_univ_eq_sum_range (fun k => num t sel T k * f k) 4096]
    refine (sum_subset (range_mono hJ) fun n _ hn => ?_).symm
    have : ¬ sel n := fun hs => hn (mem_range.mpr (hsel n hs))
    unfold num; rw [if_neg this, zero_mul]
  have hden : (∑ k : Fin 4096, Ideal.exp (masked t sel k - (T : EReal))) = (D : EReal) := by
    rw [sum_congr rfl fun (k : Fin 4096) _ => exp_masked t sel T k, ← coe_sum]
    have := hext fun _ => 1
    simp only [mul_one] at this
    rw [this]
  have hL : (∑ l, L l) = (D : EReal) := by
    rw [sum_congr rfl fun l _ => h.l l, ← coe_sum]
    simp only [htop, w_masked]
    rw [sum_lanes (num t sel T), show 128 * (4 * J) = 512 * J by ring]
  have hA : ∀ c, A c = ((∑ n ∈ range (512 * J), num t sel T n * K n c : ℝ) : EReal) := fun c => by
    rw [h.a c]; simp only [htop, w_masked]
  rw [hL, hmx, hden, show (1 : EReal) = ((1 : ℝ) : EReal) from rfl, div_coe hDpos,
    sum_mul_coe _ _ (by positivity : (0 : ℝ) ≤ 1 / D)]
  refine sum_congr rfl fun c _ => ?_
  rw [hA, mul_right_comm, mul_comm, ← EReal.coe_mul]
  congr 1
  rw [sum_congr rfl fun (k : Fin 4096) _ => show Ideal.div (Ideal.exp (masked t sel k - (T : EReal))) (D : EReal) * (K k c : EReal)
      = ((num t sel T k * (K k c * (1 / D)) : ℝ) : EReal) by
      rw [exp_masked, div_coe hDpos, ← EReal.coe_mul]; congr 1; ring, ← coe_sum,
    hext fun k => K k c * (1 / D), sum_mul]
  congr 1
  exact sum_congr rfl fun n _ => by ring

end Attend

end Cert.Attn
end
-- ==== Proof.AttnPayload.lean ====
module

public import proofs.«01_k».proof.Proof.AttnTrip
public import proofs.«01_k».proof.Proof.AttnMath
public import Idealize.ShloMosaic.Lib.Pointwise
public import Idealize.ShloMosaic.Lib.IdealHost

@[expose] public section

set_option maxRecDepth 16384

noncomputable section

namespace Cert.KernelIdeal.Value

open Cert.KernelIdeal Cert.KernelIdeal.Gen Idealize.ShloMosaic Idealize.ShloMosaic.TcCoe Idealize.SL.Sem
open Cert.Attn

/-- The f32 constant minus infinity. -/
theorem negInf : Ideal.ofBits .f32 0xFF800000#32 = ⊥ := by
  simp [Ideal.ofBits, Ideal.ieee]

/-- The word for plus infinity. -/
theorem posInf : Ideal.ofBits .f32 0x7F800000#32 = ⊤ := by
  simp [Ideal.ofBits, Ideal.ieee]

/-- The word for one eighth. -/
theorem eighth : Ideal.ofBits .f32 0x3E000000#32 = ((1 / 8 : ℝ) : EReal) := by
  simp [Ideal.ofBits, Ideal.ieee, -EReal.coe_mul]
  norm_num

/-- The word for one sixty-fourth. -/
theorem sixtyFourth : Ideal.ofBits .f32 0x3C800000#32 = ((1 / 64 : ℝ) : EReal) := by
  simp [Ideal.ofBits, Ideal.ieee, -EReal.coe_mul]
  norm_num

/-- The word for sixty-four. -/
theorem sixtyFour : Ideal.ofBits .f32 0x42800000#32 = ((64 : ℝ) : EReal) := by
  simp [Ideal.ofBits, Ideal.ieee, -EReal.coe_mul]
  norm_num

/-- A running maximum over four groups of lanes is the maximum over all. -/
theorem fold_lanes (s : Fin 512 → EReal) :
    Finset.fold max (⊥ : EReal) (fun l : Fin 128 =>
      max (max (max (s ⟨l, by omega⟩) (s ⟨128 + l, by omega⟩)) (s ⟨256 + l, by omega⟩)) (s ⟨384 + l, by omega⟩)) Finset.univ
      = Finset.univ.sup s := by
  change Finset.univ.sup _ = _
  apply le_antisymm
  · refine Finset.sup_le fun l _ => max_le (max_le (max_le ?_ ?_) ?_) ?_ <;> exact Finset.le_sup (f := s) (Finset.mem_univ _)
  · refine Finset.sup_le fun k _ => ?_
    have hk := k.isLt
    refine le_trans ?_ (Finset.le_sup (Finset.mem_univ (⟨k % 128, by omega⟩ : Fin 128)))
    dsimp only
    rcases (by omega : k.val = k % 128 ∨ k.val = 128 + k % 128 ∨ k.val = 256 + k % 128 ∨ k.val = 384 + k % 128) with h | h | h | h
    · exact (le_of_eq (congrArg s (Fin.ext h))).trans (((le_max_left _ _).trans (le_max_left _ _)).trans (le_max_left _ _))
    · exact (le_of_eq (congrArg s (Fin.ext h))).trans (((le_max_right _ _).trans (le_max_left _ _)).trans (le_max_left _ _))
    · exact (le_of_eq (congrArg s (Fin.ext h))).trans ((le_max_right _ _).trans (le_max_left _ _))
    · exact (le_of_eq (congrArg s (Fin.ext h))).trans (le_max_right _ _)

variable (kv : Vec Ideal S1x512x256 .bf16) (mk : Vec Ideal S1x128x512 .i8) (q : Vec Ideal S256x256 .bf16)
  (M L : Vec Ideal S256x128 .f32) (A : Vec Ideal S256x256 .f32) (x : Fin 256)

/-- A score: the query's latent vector times the key's, plus the mask's bias. -/
theorem score_at (k : Fin 512) :
    k0_pay5 kv mk q (ix2 x k) = (∑ c, q (ix2 x c) * kv (ix3 0 k c))
      + (FloatOps.sitofp (F := Ideal) FTy.f32 (mk (ix3 0 ⟨x.val % 128, Nat.mod_lt _ (by norm_num)⟩ k)) - 1) * ⊤ := by
  pointwise [k0_pay5, k0_pay3, k0_pay2]
  rfl

/-- The block's maximum of a row, in every lane. -/
theorem blockmax_at (l : Fin 128) :
    k0_pay6 kv mk q (ix2 x l) = Finset.univ.sup fun k => k0_pay5 kv mk q (ix2 x k) := by
  pointwise [k0_pay6]
  refine Eq.trans ?_ (fold_lanes fun k => k0_pay5 kv mk q (ix2 x k))
  rw [← negInf]

variable {m : EReal} (hM : ∀ l, M (ix2 x l) = m)

/-- The new maximum, in every lane. -/
theorem newM_at (l : Fin 128) :
    newM kv mk q M (ix2 x l) = max (M (ix2 x l)) (Finset.univ.sup fun k => k0_pay5 kv mk q (ix2 x k)) := by
  unfold newM
  rw [← blockmax_at kv mk q x l]
  pointwise [k0_pay12, k0_pay7]

include hM

/-- The weight of a key against the new maximum. -/
theorem weight_at (k : Fin 512) :
    k0_pay9 (k0_pay5 kv mk q) M (k0_pay6 kv mk q) (ix2 x k)
      = Ideal.exp2 (k0_pay5 kv mk q (ix2 x k) - max m (Finset.univ.sup fun k => k0_pay5 kv mk q (ix2 x k))) := by
  pointwise [k0_pay9, k0_pay7]
  simp only [hM, blockmax_at, dite_eq_ite, ite_self]
  rfl

/-- The new denominators, lane by lane. -/
theorem newL_at (l : Fin 128) :
    newL kv mk q M L (ix2 x l) = Ideal.exp2 (m - max m (Finset.univ.sup fun k => k0_pay5 kv mk q (ix2 x k))) * L (ix2 x l)
      + ((Ideal.exp2 (k0_pay5 kv mk q (ix2 x ⟨l, by omega⟩) - max m (Finset.univ.sup fun k => k0_pay5 kv mk q (ix2 x k)))
          + Ideal.exp2 (k0_pay5 kv mk q (ix2 x ⟨128 + l, by omega⟩) - max m (Finset.univ.sup fun k => k0_pay5 kv mk q (ix2 x k))))
        + (Ideal.exp2 (k0_pay5 kv mk q (ix2 x ⟨256 + l, by omega⟩) - max m (Finset.univ.sup fun k => k0_pay5 kv mk q (ix2 x k)))
          + Ideal.exp2 (k0_pay5 kv mk q (ix2 x ⟨384 + l, by omega⟩) - max m (Finset.univ.sup fun k => k0_pay5 kv mk q (ix2 x k))))) := by
  unfold newL
  pointwise [k0_pay10, k0_pay8, k0_pay7]
  simp only [hM, blockmax_at, weight_at kv mk q M x hM]
  rfl

/-- The new numerators. -/
theorem newA_at (c : Fin 256) :
    newA kv mk q M A (ix2 x c) = Ideal.exp2 (m - max m (Finset.univ.sup fun k => k0_pay5 kv mk q (ix2 x k))) * A (ix2 x c)
      + ∑ k, Ideal.exp2 (k0_pay5 kv mk q (ix2 x k) - max m (Finset.univ.sup fun k => k0_pay5 kv mk q (ix2 x k)))
          * kv (ix3 0 k c) := by
  unfold newA
  pointwise [k0_pay11, k0_pay8, k0_pay7, k0_pay2]
  simp only [hM, blockmax_at, weight_at kv mk q M x hM, dite_eq_ite, ite_self]
  rfl

omit hM in
/-- One block on one row of a group. -/
theorem row_block {S : ℕ → EReal} {K : ℕ → Fin 256 → ℝ} (hS : ∀ n, S n ≠ ⊤) {j : ℕ}
    (h : Row S K j (fun l => M (ix2 x l)) (fun l => L (ix2 x l)) (fun c => A (ix2 x c)))
    (hsc : ∀ k, k0_pay5 kv mk q (ix2 x k) = S (512 * j + k)) (hkv : ∀ k c, kv (ix3 0 k c) = (K (512 * j + k) c : EReal)) :
    Row S K (j + 1) (fun l => newM kv mk q M (ix2 x l)) (fun l => newL kv mk q M L (ix2 x l))
      (fun c => newA kv mk q M A (ix2 x c)) :=
  h.step hS (fun k => k0_pay5 kv mk q (ix2 x k)) hsc (fun k c => kv (ix3 0 k c)) hkv h.m rfl
    (fun l => by rw [newM_at kv mk q M x l]; exact congrArg (max · _) (h.m l))
    (newL_at kv mk q M L x h.m) (newA_at kv mk q M A x h.m)

end Cert.KernelIdeal.Value
end
-- ==== Proof.DsaInMath.lean ====
module

public import proofs.«01_k».proof.Proof.AttnPayload
public import proofs.«01_k».proof.Proof.MixMath

@[expose] public section

noncomputable section

/-! # The normalisations of the sparse layer's projections: one token -/

namespace Cert.DsaIn

open Idealize.ShloMosaic

/-- Root-mean-square normalisation of a row of 256 with gain `g`: `y / sqrt (mean y² + eps) * g`. -/
def rms256 (y g : Fin 256 → EReal) (d : Fin 256) : EReal :=
  y d * Ideal.rsqrt (Ideal.div (∑ k, y k * y k) (Ideal.ofBits .f32 0x43800000#32) + Cert.Mix.eps) * g d

/-- The mean of a row of 64. -/
def mean (y : Fin 64 → EReal) : EReal := Ideal.div (∑ k, y k) (Ideal.ofBits .f32 0x42800000#32)

/-- Layer normalisation of a row of 64 with gain `g` and bias `b`. -/
def layer (y g b : Fin 64 → EReal) (d : Fin 64) : EReal :=
  (y d - mean y) * Ideal.rsqrt (mean (fun k => (y k - mean y) * (y k - mean y)) + Cert.Mix.eps) * g d + b d

/-- Multiplying by one sixty-fourth is dividing by sixty-four. -/
theorem mul_inv64 (z : EReal) : z * Ideal.ofBits .f32 0x3C800000#32 = Ideal.div z (Ideal.ofBits .f32 0x42800000#32) := by
  rw [Cert.KernelIdeal.Value.sixtyFourth, Cert.KernelIdeal.Value.sixtyFour]
  unfold Ideal.div
  rw [if_neg (by exact_mod_cast (by norm_num : (64 : ℝ) ≠ 0)), ← EReal.coe_inv]
  norm_num

/-- A sum over 128 lanes of which only the first 64 count. -/
theorem sum_lanes (f : Fin 128 → EReal) : (∑ k : Fin 128, if k.val < 64 then f k else 0) = ∑ k : Fin 64, f ⟨k.val, by omega⟩ := by
  refine (Fin.sum_univ_add (a := 64) (b := 64) fun k : Fin 128 => if k.val < 64 then f k else 0).trans ?_
  have h1 : (∑ i : Fin 64, if (Fin.castAdd 64 i : Fin 128).val < 64 then f (Fin.castAdd 64 i) else 0) = ∑ k : Fin 64, f ⟨k.val, by omega⟩ :=
    Finset.sum_congr rfl fun i _ => if_pos i.isLt
  have h2 : (∑ i : Fin 64, if (Fin.natAdd 64 i : Fin 128).val < 64 then f (Fin.natAdd 64 i) else 0) = 0 :=
    Finset.sum_eq_zero fun i _ => if_neg (by simp [Fin.natAdd])
  exact (congrArg₂ (· + ·) h1 h2).trans (add_zero _)

/-- The same choice made twice. -/
theorem ite_twice (p : Prop) [Decidable p] (y : EReal) : (if p then (if p then y else 0) else 0) = if p then y else 0 := by
  by_cases h : p <;> simp [h]

/-- A choice on whether a lane's number is below 64. -/
theorem lane_select (k : Fin 128) (y z : EReal) :
    Scalar.select (IntOp.cmpi CmpIPredicate.slt (BitVec.ofNat 32 k.val) 64#32) y z = if k.val < 64 then y else z := by
  have e : ∀ k : Fin 128, IntOp.cmpi CmpIPredicate.slt (BitVec.ofNat 32 k.val) 64#32 = BitVec.ofBool (decide (k.val < 64)) := by decide +kernel
  rw [e k]
  by_cases h : k.val < 64 <;> simp [h, Scalar.select]

end Cert.DsaIn

end
-- ==== Proof.DsaInPayload.lean ====
module

public import proofs.«01_k».proof.Proof.Gen.Kernel4Ideal.Value
public import Idealize.ShloMosaic.Lib.Pointwise
public import proofs.«01_k».proof.Proof.DsaInMath

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Cert.Mix Cert.DsaIn

/-- The block's projections: the normalised, scaled and shifted rows times the weights. -/
theorem pay1_at (x : Vec Ideal S1x512x1024 .f32) (md : Vec Ideal S1x6x1024 .f32) (g : Vec Ideal S1x1024 .f32) (w : Vec Ideal S1024x640 .bf16)
    (r : Fin 512) (n : Fin 640) : k0_pay1 (F := Ideal) x md g w (ix2 r n)
      = ∑ d : Fin 1024, inp (fun e => x (ix3 0 r e)) (fun e => g (ix2 0 e)) (fun e => md (ix3 0 1 e)) (fun e => md (ix3 0 0 e)) d * w (ix2 d n) := by
  pointwise [k0_pay1]
  rfl

/-- The normalised query latents. -/
theorem pay6_at (x : Vec Ideal S1x512x1024 .f32) (md : Vec Ideal S1x6x1024 .f32) (g : Vec Ideal S1x1024 .f32) (w : Vec Ideal S1024x640 .bf16)
    (qg : Vec Ideal S1x256 .f32) (r : Fin 512) (n : Fin 256) :
    k0_pay6 (F := Ideal) (k0_pay2 x md g w) (k0_pay3 qg) (k0_pay4 x md g w) k0_pay5 (ix2 r n)
      = rms256 (fun k => k0_pay1 (F := Ideal) x md g w (ix2 r ⟨k.val, by omega⟩)) (fun k => qg (ix2 0 k)) n := by
  pointwise [k0_pay6, k0_pay2, k0_pay3, k0_pay4, k0_pay5]
  rfl

section Blocks
variable (p : FVec Ideal S512x640 .f32) (r : Fin 512)

/-- The normalised key latents. -/
theorem pay7_at (kg : Vec Ideal S1x256 .f32) (n : Fin 256) : k0_pay7 (F := Ideal) p kg (ix3 0 r n)
    = rms256 (fun k => p (ix2 r ⟨256 + k.val, by omega⟩)) (fun k => kg (ix2 0 k)) n := by
  pointwise [k0_pay7]
  rfl

variable (v29 : FVec Ideal S512x256 .f32) (v31 : FVec Ideal S1x256 .f32) (v36 v37 : FVec Ideal S512x1 .f32)

/-- The queries. -/
theorem pay8_at (w : Vec Ideal S256x1024 .bf16) (n : Fin 1024) : k0_pay8 (F := Ideal) v29 v31 v36 v37 w (ix3 0 r n)
    = ∑ d : Fin 256, k0_pay6 (F := Ideal) v29 v31 v36 v37 (ix2 r d) * w (ix2 d n) := by
  pointwise [k0_pay8]

/-- The index queries. -/
theorem pay9_at (w : Vec Ideal S256x512 .bf16) (n : Fin 512) : k0_pay10 (F := Ideal) (k0_pay9 v29 v31 v36 v37 w) (ix3 0 r n)
    = ∑ d : Fin 256, k0_pay6 (F := Ideal) v29 v31 v36 v37 (ix2 r d) * w (ix2 d n) := by
  pointwise [k0_pay10, k0_pay9]

/-- The index keys, normalised, in the first 64 lanes; after them the index weights, scaled. -/
theorem pay11_at (lg lb : Vec Ideal S1x128 .f32) (n : Fin 128) : k0_pay11 (F := Ideal) p lg lb (ix3 0 r n)
    = if h : n.val < 64 then layer (fun k => p (ix2 r ⟨512 + k.val, by omega⟩)) (fun k => lg (ix2 0 ⟨k.val, by omega⟩))
        (fun k => lb (ix2 0 ⟨k.val, by omega⟩)) ⟨n.val, h⟩
      else p (ix2 r ⟨512 + n.val, by omega⟩) * Ideal.ofBits .f32 0x3D3504F3#32 := by
  pointwise [k0_pay11]
  simp only [lane_select, ite_twice, sum_lanes, mul_inv64]
  by_cases h : n.val < 64
  · rw [if_pos h, if_pos h, dif_pos h]
    rfl
  · rw [if_neg h, dif_neg h]

end Blocks

end Cert.Kernel4Ideal.Value

end
-- ==== Proof.DsaInValue.lean ====
module

public import proofs.«01_k».proof.Proof.DsaInPayload
public import Idealize.ShloMosaic.Lib.Pipeline.ValueKit
public import Idealize.ShloMosaic.Lib.StableHlo.ReadAt

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)
open Cert.Mix Cert.DsaIn

variable (m : (ℓ : Loc nD τ sig) → Buf (Elt Ideal) ℓ)

/-- Which block of its array each window holds at grid point `t`. -/
theorem idx : ∀ t : Fin cfg0.N, win0_0.index t = ![t.val / 8, t.val % 8, 0] ∧ win0_1.index t = ![t.val / 8, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![t.val / 8, t.val % 8, 0] ∧ win0_11.index t = ![t.val / 8, t.val % 8, 0]
    ∧ win0_12.index t = ![t.val / 8, t.val % 8, 0] ∧ win0_13.index t = ![t.val / 8, t.val % 8, 0] :=
  (by decide +kernel : ∀ t : Fin grid0.N, _)

/-- The grid has 64 points. -/
theorem lt64 : ∀ t : Fin cfg0.N, t.val < 64 := (by decide +kernel : ∀ t : Fin grid0.N, t.val < 64)

/-! The arrays the windows read, as the host leaves them. -/

theorem V1 (c : Dev nD) (d : Fin 1024) (n : Fin 640) : V m c main_v1 (ix2 d n)
    = (if h : n.val < 584 then m ((c : Thread nD τ).loc main_arg3) (ix2 d ⟨n.val, h⟩) else 0 : EReal) := by
  unfold V
  after_reads_at
  have z : (FloatOps.sitofp .f32 (0#32 : BitVec 32) : Ideal .f32) = (0 : EReal) := by
    show (((0#32 : BitVec 32).toInt : ℝ) : EReal) = 0
    simp
  rw [z]

theorem V2 (c : Dev nD) (b : Fin 8) (j : Fin 6) (e : Fin 1024) : V m c main_v2 (ix3 b j e)
    = m ((c : Thread nD τ).loc main_arg1) (ix2 b ⟨j.val * 1024 + e.val, by omega⟩) := by
  unfold V
  after_reads_at

theorem V3 (c : Dev nD) (n : Fin 256) : V m c main_v3 (ix2 0 n) = m ((c : Thread nD τ).loc main_arg4) (ix1 n) := by
  unfold V
  after_reads_at

theorem V4 (c : Dev nD) (n : Fin 256) : V m c main_v4 (ix2 0 n) = m ((c : Thread nD τ).loc main_arg5) (ix1 n) := by
  unfold V
  after_reads_at

theorem V6 (c : Dev nD) (n : Fin 64) : V m c main_v6 (ix2 0 ⟨n.val, by omega⟩) = m ((c : Thread nD τ).loc main_arg8) (ix1 n) := by
  unfold V
  after_reads_at

theorem V8 (c : Dev nD) (n : Fin 64) : V m c main_v8 (ix2 0 ⟨n.val, by omega⟩) = m ((c : Thread nD τ).loc main_arg9) (ix1 n) := by
  unfold V
  after_reads_at

theorem V9 (c : Dev nD) (d : Fin 256) (n : Fin 1024) : V m c main_v9 (ix2 d n) = m ((c : Thread nD τ).loc main_arg6) (ix2 d n) := by
  unfold V
  after_reads_at

theorem V10 (c : Dev nD) (d : Fin 256) (n : Fin 512) : V m c main_v10 (ix2 d n) = m ((c : Thread nD τ).loc main_arg7) (ix2 d n) := by
  unfold V
  after_reads_at

/-! The blocks a grid point reads, as parts of the argument arrays. -/

theorem iblk0 (c : Dev nD) (t : Fin cfg0.N) (r : Fin 512) (v : Fin 1024) : iblk m c 0 t (ix3 0 r v)
    = m ((c : Thread nD τ).loc main_arg0) (ix3 ⟨t.val / 8, by have := lt64 t; omega⟩ ⟨t.val % 8 * 512 + r.val, by omega⟩ v) := by
  have e : iblk m c 0 t (ix3 0 r v) = V m c main_arg0 (ix3 ⟨t.val / 8, by have := lt64 t; omega⟩ ⟨t.val % 8 * 512 + r.val, by omega⟩ v) := by
    blk_ext [iblk, idx t]
  rw [e]
  unfold V
  after_reads_at

theorem iblk1 (c : Dev nD) (t : Fin cfg0.N) (j : Fin 6) (e : Fin 1024) : iblk m c 1 t (ix3 0 j e)
    = m ((c : Thread nD τ).loc main_arg1) (ix2 ⟨t.val / 8, by have := lt64 t; omega⟩ ⟨j.val * 1024 + e.val, by omega⟩) := by
  refine Eq.trans ?_ (V2 m c _ _ _)
  blk_ext [iblk, idx t]

theorem iblk2 (c : Dev nD) (t : Fin cfg0.N) (j : Fin 4) (d : Fin 1024) : iblk m c 2 t (ix2 j d)
    = m ((c : Thread nD τ).loc main_arg2) (ix2 j d) := by
  have e : iblk m c 2 t (ix2 j d) = V m c main_arg2 (ix2 j d) := by blk_ext [iblk, idx t]
  rw [e]
  unfold V
  after_reads_at

/-- The projection's weights, with 56 columns of zeros appended. -/
theorem iblk3 (c : Dev nD) (t : Fin cfg0.N) (d : Fin 1024) (n : Fin 640) : iblk m c 3 t (ix2 d n)
    = (if h : n.val < 584 then m ((c : Thread nD τ).loc main_arg3) (ix2 d ⟨n.val, h⟩) else 0 : EReal) := by
  refine Eq.trans ?_ (V1 m c d n)
  blk_ext [iblk, idx t]

theorem iblk4 (c : Dev nD) (t : Fin cfg0.N) (n : Fin 256) : iblk m c 4 t (ix2 0 n)
    = m ((c : Thread nD τ).loc main_arg4) (ix1 n) := by
  refine Eq.trans ?_ (V3 m c n)
  blk_ext [iblk, idx t]

theorem iblk5 (c : Dev nD) (t : Fin cfg0.N) (n : Fin 256) : iblk m c 5 t (ix2 0 n)
    = m ((c : Thread nD τ).loc main_arg5) (ix1 n) := by
  refine Eq.trans ?_ (V4 m c n)
  blk_ext [iblk, idx t]

theorem iblk6 (c : Dev nD) (t : Fin cfg0.N) (n : Fin 64) : iblk m c 6 t (ix2 0 ⟨n.val, by omega⟩)
    = m ((c : Thread nD τ).loc main_arg8) (ix1 n) := by
  refine Eq.trans ?_ (V6 m c n)
  blk_ext [iblk, idx t]

theorem iblk7 (c : Dev nD) (t : Fin cfg0.N) (n : Fin 64) : iblk m c 7 t (ix2 0 ⟨n.val, by omega⟩)
    = m ((c : Thread nD τ).loc main_arg9) (ix1 n) := by
  refine Eq.trans ?_ (V8 m c n)
  blk_ext [iblk, idx t]

theorem iblk8 (c : Dev nD) (t : Fin cfg0.N) (d : Fin 256) (n : Fin 1024) : iblk m c 8 t (ix2 d n)
    = m ((c : Thread nD τ).loc main_arg6) (ix2 d n) := by
  refine Eq.trans ?_ (V9 m c d n)
  blk_ext [iblk, idx t]

theorem iblk9 (c : Dev nD) (t : Fin cfg0.N) (d : Fin 256) (n : Fin 512) : iblk m c 9 t (ix2 d n)
    = m ((c : Thread nD τ).loc main_arg7) (ix2 d n) := by
  refine Eq.trans ?_ (V10 m c d n)
  blk_ext [iblk, idx t]

/-- A token's row as the projections read it: normalised, scaled and shifted by the sequence's modulation. -/
def token (x : FVec Ideal S8x4096x1024 .f32) (md : FVec Ideal S8x6144 .f32) (g : FVec Ideal S4x1024 .f32) (b : Fin 8) (s : Fin 4096) : Row :=
  inp (fun e => x (ix3 b s e)) (fun e => g (ix2 0 e)) (fun e => md (ix2 b ⟨1024 + e.val, by omega⟩)) (fun e => md (ix2 b ⟨e.val, by omega⟩))

/-- Column `n` of a token's projection. -/
def proj (x : FVec Ideal S8x4096x1024 .f32) (md : FVec Ideal S8x6144 .f32) (g : FVec Ideal S4x1024 .f32) (w : FVec Ideal S1024x584 .f32)
    (b : Fin 8) (s : Fin 4096) (n : Fin 584) : EReal := ∑ d, token x md g b s d * w (ix2 d n)

/-- A token's query latents: the first 256 columns of its projection, normalised. -/
def latent (x : FVec Ideal S8x4096x1024 .f32) (md : FVec Ideal S8x6144 .f32) (g : FVec Ideal S4x1024 .f32) (w : FVec Ideal S1024x584 .f32) (qg : FVec Ideal S256 .f32)
    (b : Fin 8) (s : Fin 4096) : Fin 256 → EReal := rms256 (fun k => proj x md g w b s ⟨k.val, by omega⟩) fun k => qg (ix1 k)

/-- The first result, the queries: every token's query latents times their weights. -/
def queries (x : FVec Ideal S8x4096x1024 .f32) (md : FVec Ideal S8x6144 .f32) (g : FVec Ideal S4x1024 .f32) (w : FVec Ideal S1024x584 .f32) (qg : FVec Ideal S256 .f32)
    (wq : FVec Ideal S256x1024 .f32) : FVec Ideal S8x4096x1024 .bf16 :=
  fun i => ∑ d : Fin 256, latent x md g w qg (i 0) (i 1) d * wq (ix2 d (i 2))

/-- The second result, the index queries: the same latents times weights of their own. -/
def indexQueries (x : FVec Ideal S8x4096x1024 .f32) (md : FVec Ideal S8x6144 .f32) (g : FVec Ideal S4x1024 .f32) (w : FVec Ideal S1024x584 .f32) (qg : FVec Ideal S256 .f32)
    (wi : FVec Ideal S256x512 .f32) : FVec Ideal S8x4096x512 .bf16 :=
  fun i => ∑ d : Fin 256, latent x md g w qg (i 0) (i 1) d * wi (ix2 d (i 2))

/-- The third result, the key latents: the next 256 columns, normalised. -/
def keyLatents (x : FVec Ideal S8x4096x1024 .f32) (md : FVec Ideal S8x6144 .f32) (g : FVec Ideal S4x1024 .f32) (w : FVec Ideal S1024x584 .f32) (kg : FVec Ideal S256 .f32) :
    FVec Ideal S8x4096x256 .bf16 :=
  fun i => rms256 (fun k => proj x md g w (i 0) (i 1) ⟨256 + k.val, by omega⟩) (fun k => kg (ix1 k)) (i 2)

/-- The fourth result: 64 index keys, the next 64 columns layer-normalised; then eight index weights, the last eight columns
scaled; then 56 zeros. -/
def aux (x : FVec Ideal S8x4096x1024 .f32) (md : FVec Ideal S8x6144 .f32) (g : FVec Ideal S4x1024 .f32) (w : FVec Ideal S1024x584 .f32) (lg lb : FVec Ideal S64 .f32) :
    FVec Ideal S8x4096x128 .f32 := fun i =>
  if h : (i 2).val < 64 then
    layer (fun k => proj x md g w (i 0) (i 1) ⟨512 + k.val, by omega⟩) (fun k => lg (ix1 k)) (fun k => lb (ix1 k)) ⟨(i 2).val, h⟩
  else if h : (i 2).val < 72 then proj x md g w (i 0) (i 1) ⟨512 + (i 2).val, by omega⟩ * Ideal.ofBits .f32 0x3D3504F3#32
  else 0

/-- The projections a grid point computes, the appended columns among them. -/
abbrev block (c : Dev nD) (t : Fin cfg0.N) : FVec Ideal S512x640 .f32 :=
  k0_pay1 (F := Ideal) (iblk m c 0 t) (iblk m c 1 t) (View.ld (iblk m c 2 t) (Rect.unit (s := S4x1024) ![0, 0] ![1, 1024] inb_S4x1024_S1x1024_0_0))
    (iblk m c 3 t)

theorem block_sum (c : Dev nD) (t : Fin cfg0.N) (r : Fin 512) (n : Fin 640) : block m c t (ix2 r n)
    = ∑ d : Fin 1024, token (m ((c : Thread nD τ).loc main_arg0)) (m ((c : Thread nD τ).loc main_arg1)) (m ((c : Thread nD τ).loc main_arg2))
        ⟨t.val / 8, by have := lt64 t; omega⟩ ⟨t.val % 8 * 512 + r.val, by omega⟩ d * iblk m c 3 t (ix2 d n) := by
  refine (pay1_at _ _ _ _ r n).trans ?_
  have e : ∀ k : Fin 1024, View.ld (iblk m c 2 t) (Rect.unit (s := S4x1024) ![0, 0] ![1, 1024] inb_S4x1024_S1x1024_0_0) (ix2 0 k)
      = iblk m c 2 t (ix2 0 k) := fun k => View.ld_unit_apply_of _ _ _ _ _ _ fun a => by
    fin_cases a
    · rfl
    · exact (Nat.zero_add _).symm
  simp only [iblk0, iblk1, iblk2, e, Fin.val_zero, Nat.zero_mul, Nat.zero_add, Fin.val_one, Nat.one_mul]
  rfl

/-- A column of the weights gives that column of the tokens' projections. -/
theorem block_at (c : Dev nD) (t : Fin cfg0.N) (r : Fin 512) (n : Fin 640) (h : n.val < 584) : block m c t (ix2 r n)
    = proj (m ((c : Thread nD τ).loc main_arg0)) (m ((c : Thread nD τ).loc main_arg1)) (m ((c : Thread nD τ).loc main_arg2))
        (m ((c : Thread nD τ).loc main_arg3)) ⟨t.val / 8, by have := lt64 t; omega⟩ ⟨t.val % 8 * 512 + r.val, by omega⟩ ⟨n.val, h⟩ :=
  (block_sum m c t r n).trans (Finset.sum_congr rfl fun d _ => congrArg (_ * ·) ((iblk3 m c t d n).trans (dif_pos h)))

/-- An appended column gives zero. -/
theorem block_zero (c : Dev nD) (t : Fin cfg0.N) (r : Fin 512) (n : Fin 640) (h : ¬ n.val < 584) : block m c t (ix2 r n) = (0 : EReal) :=
  (block_sum m c t r n).trans (Finset.sum_eq_zero fun d _ => (congrArg (_ * ·) ((iblk3 m c t d n).trans (dif_neg h))).trans (mul_zero _))

/-- The query latents a grid point computes. -/
theorem latent_at (c : Dev nD) (t : Fin cfg0.N) (r : Fin 512) (d : Fin 256) :
    k0_pay6 (F := Ideal) (k0_pay2 (iblk m c 0 t) (iblk m c 1 t)
        (View.ld (iblk m c 2 t) (Rect.unit (s := S4x1024) ![0, 0] ![1, 1024] inb_S4x1024_S1x1024_0_0)) (iblk m c 3 t)) (k0_pay3 (iblk m c 4 t))
      (k0_pay4 (iblk m c 0 t) (iblk m c 1 t)
        (View.ld (iblk m c 2 t) (Rect.unit (s := S4x1024) ![0, 0] ![1, 1024] inb_S4x1024_S1x1024_0_0)) (iblk m c 3 t)) k0_pay5 (ix2 r d)
      = latent (m ((c : Thread nD τ).loc main_arg0)) (m ((c : Thread nD τ).loc main_arg1)) (m ((c : Thread nD τ).loc main_arg2))
        (m ((c : Thread nD τ).loc main_arg3)) (m ((c : Thread nD τ).loc main_arg4)) ⟨t.val / 8, by have := lt64 t; omega⟩ ⟨t.val % 8 * 512 + r.val, by omega⟩ d := by
  refine (pay6_at _ _ _ _ _ r d).trans ?_
  refine congrArg₂ (fun y g => rms256 y g d) (funext fun k => ?_) (funext fun k => iblk4 m c t k)
  exact block_at m c t r ⟨k.val, by omega⟩ (show k.val < 584 by omega)

/-- The kernel's first result array after the run. -/
theorem final10 (c : Dev nD) : (dats m 0 c).arrAt 10 (cfgs 0).N
    = queries (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6)) := by
  refine (dats m 0 c).arrAt_eq_of_covers 10 _ (by decide +kernel) fun t _ y => ?_
  blk_simp
  rw [after0_10]
  unfold_out out0_10
  frame_out
  idx_vars y
  obtain rfl : y0 = 0 := Subsingleton.elim _ _
  have he : ((View.whole main_v11_0).slice (win0_10.rect t)).emb (ix3 0 y1 y2)
      = ix3 ⟨t.val / 8, by have := lt64 t; omega⟩ ⟨t.val % 8 * 512 + y1.val, by omega⟩ y2 := by blk_ext [idx t]
  rw [he]
  refine (pay8_at _ _ _ _ _ _ _).trans ?_
  exact Finset.sum_congr rfl fun d _ => congrArg₂ (· * ·) (latent_at m c t y1 d) (iblk8 m c t d y2)

/-- The kernel's second result array after the run. -/
theorem final11 (c : Dev nD) : (dats m 0 c).arrAt 11 (cfgs 0).N
    = indexQueries (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg7)) := by
  refine (dats m 0 c).arrAt_eq_of_covers 11 _ (by decide +kernel) fun t _ y => ?_
  blk_simp
  rw [after0_11]
  unfold_out out0_11
  frame_out
  idx_vars y
  obtain rfl : y0 = 0 := Subsingleton.elim _ _
  have he : ((View.whole main_v11_1).slice (win0_11.rect t)).emb (ix3 0 y1 y2)
      = ix3 ⟨t.val / 8, by have := lt64 t; omega⟩ ⟨t.val % 8 * 512 + y1.val, by omega⟩ y2 := by blk_ext [idx t]
  rw [he]
  refine (pay9_at _ _ _ _ _ _ _).trans ?_
  exact Finset.sum_congr rfl fun d _ => congrArg₂ (· * ·) (latent_at m c t y1 d) (iblk9 m c t d y2)

/-- The kernel's third result array after the run. -/
theorem final12 (c : Dev nD) : (dats m 0 c).arrAt 12 (cfgs 0).N
    = keyLatents (m ((c : Thread nD τ).loc main_arg0)) (m ((c : Thread nD τ).loc main_arg1)) (m ((c : Thread nD τ).loc main_arg2))
        (m ((c : Thread nD τ).loc main_arg3)) (m ((c : Thread nD τ).loc main_arg5)) := by
  refine (dats m 0 c).arrAt_eq_of_covers 12 _ (by decide +kernel) fun t _ y => ?_
  blk_simp
  rw [after0_12]
  unfold_out out0_12
  frame_out
  idx_vars y
  obtain rfl : y0 = 0 := Subsingleton.elim _ _
  have he : ((View.whole main_v11_2).slice (win0_12.rect t)).emb (ix3 0 y1 y2)
      = ix3 ⟨t.val / 8, by have := lt64 t; omega⟩ ⟨t.val % 8 * 512 + y1.val, by omega⟩ y2 := by blk_ext [idx t]
  rw [he]
  refine (pay7_at _ _ _ _).trans ?_
  refine congrArg₂ (fun y g => rms256 y g y2) (funext fun k => ?_) (funext fun k => iblk5 m c t k)
  exact block_at m c t y1 ⟨256 + k.val, by omega⟩ (show 256 + k.val < 584 by omega)

/-- The kernel's fourth result array after the run. -/
theorem final13 (c : Dev nD) : (dats m 0 c).arrAt 13 (cfgs 0).N
    = aux (m ((c : Thread nD τ).loc main_arg0)) (m ((c : Thread nD τ).loc main_arg1)) (m ((c : Thread nD τ).loc main_arg2))
        (m ((c : Thread nD τ).loc main_arg3)) (m ((c : Thread nD τ).loc main_arg8)) (m ((c : Thread nD τ).loc main_arg9)) := by
  refine (dats m 0 c).arrAt_eq_of_covers 13 _ (by decide +kernel) fun t _ y => ?_
  blk_simp
  rw [after0_13]
  unfold_out out0_13
  frame_out
  idx_vars y
  obtain rfl : y0 = 0 := Subsingleton.elim _ _
  have he : ((View.whole main_v11_3).slice (win0_13.rect t)).emb (ix3 0 y1 y2)
      = ix3 ⟨t.val / 8, by have := lt64 t; omega⟩ ⟨t.val % 8 * 512 + y1.val, by omega⟩ y2 := by blk_ext [idx t]
  rw [he]
  refine (pay11_at _ _ _ _ _).trans ?_
  have hy := y2.isLt
  by_cases h : y2.val < 64
  · refine ((dif_pos h).trans ?_).trans (dif_pos h).symm
    have e1 : (fun k : Fin 64 => block m c t (ix2 y1 ⟨512 + k.val, by omega⟩)) = fun k => proj (m ((c : Thread nD τ).loc main_arg0)) (m ((c : Thread nD τ).loc main_arg1)) (m ((c : Thread nD τ).loc main_arg2))
        (m ((c : Thread nD τ).loc main_arg3))
        ⟨t.val / 8, by have := lt64 t; omega⟩ ⟨t.val % 8 * 512 + y1.val, by omega⟩ ⟨512 + k.val, by omega⟩ :=
      funext fun k => block_at m c t y1 ⟨512 + k.val, by omega⟩ (show 512 + k.val < 584 by omega)
    exact congr (congr (congr (congrArg layer e1) (funext fun k => iblk6 m c t k)) (funext fun k => iblk7 m c t k)) rfl
  · refine ((dif_neg h).trans ?_).trans (dif_neg h).symm
    by_cases h2 : y2.val < 72
    · refine Eq.trans ?_ (dif_pos h2).symm
      exact congrArg (· * _) (block_at m c t y1 ⟨512 + y2.val, by omega⟩ (show 512 + y2.val < 584 by omega))
    · refine Eq.trans ?_ (dif_neg h2).symm
      exact (congrArg (· * _) (block_zero m c t y1 ⟨512 + y2.val, by omega⟩ (show ¬ 512 + y2.val < 584 by omega))).trans (zero_mul _)

end Cert.Kernel4Ideal.Value

end
-- ==== Proof.DsaInReference.lean ====
module

public import proofs.«01_k».proof.Proof.DsaInValue
public import proofs.«01_k».proof.Proof.Gen.Reference4Ideal.Run

@[expose] public section

set_option maxRecDepth 16384

noncomputable section

/-! # The reference's latents, queries and index keys, token by token -/

namespace Cert.Reference4Ideal.Value

open Cert.Reference4Ideal Cert.Reference4Ideal.Gen Idealize.ShloMosaic Idealize.ShloMosaic.TcCoe Idealize.SL.Sem
open Idealize.ShloMosaic.StableHlo
open Cert.Mix Cert.DsaIn
open Cert.Kernel4Ideal.Value (token proj latent queries indexQueries keyLatents aux)

/-! The parts of the composed terms, each over whole arrays. -/

/-- Root-mean-square normalisation of every token's row, with the first of the gains. -/
def rmsA (Y : FVec Ideal S8x4096x1024 .f32) (g : FVec Ideal S4x1024 .f32) : FVec Ideal S8x4096x1024 .f32 :=
  mulf (mulf Y (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf Y Y) (constant S_ .f32 0x00000000#32)
      reducesTo_S8x4096x1024_S8x4096_d2 h_S_)) (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 (shapeCast _ (extractStridedSlice S1x1024 ![0, 0] g slices_S4x1024_S1x1024_0_0)
        shapeCasts_S1x1024_S1024)))

/-- The scale row plus one, for every token. -/
def scaleA (md : FVec Ideal S8x6144 .f32) : FVec Ideal S8x4096x1024 .f32 :=
  broadcastInDim S8x4096x1024 ![0, 1, 2] bcast_S8x1x1024_S8x4096x1024_0_1_2 (addf (broadcastInDim S8x1x1024 ![] bcast_S_S8x1x1024
    (constant S_ .f32 0x3F800000#32)) (broadcastInDim S8x1x1024 ![0, 2] bcast_S8x1024_S8x1x1024_0_2
      (extractStridedSlice S8x1024 ![0, 1024] md slices_S8x6144_S8x1024_0_1024)))

/-- All the projections of every token. -/
def projA (x : FVec Ideal S8x4096x1024 .f32) (md : FVec Ideal S8x6144 .f32) (g : FVec Ideal S4x1024 .f32) (w : FVec Ideal S1024x584 .f32) :
    FVec Ideal S8x4096x584 .f32 :=
  Host.dotGeneral dot_S8x4096x1024_S1024x584_S8x4096x584_2_0_01_1_n_n none
    (addf (mulf (rmsA x g) (scaleA md)) (broadcastInDim S8x4096x1024 ![0, 1, 2] bcast_S8x1x1024_S8x4096x1024_0_1_2
      (broadcastInDim S8x1x1024 ![0, 2] bcast_S8x1024_S8x1x1024_0_2 (extractStridedSlice S8x1024 ![0, 0] md slices_S8x6144_S8x1024_0_0)))) w

/-- Root-mean-square normalisation of rows of 256. -/
def rmsB (Y : FVec Ideal S8x4096x256 .f32) (g : FVec Ideal S256 .f32) : FVec Ideal S8x4096x256 .f32 :=
  mulf (mulf Y (broadcastInDim S8x4096x256 ![0, 1, 2] bcast_S8x4096x1_S8x4096x256_0_1_2 (Host.rsqrt (addf (Host.divf
    (broadcastInDim S8x4096x1 ![0, 1] bcast_S8x4096_S8x4096x1_0_1 (Host.reduceAdd (mulf Y Y) (constant S_ .f32 0x00000000#32)
      reducesTo_S8x4096x256_S8x4096_d2 h_S_)) (broadcastInDim S8x4096x1 ![] bcast_S_S8x4096x1 (constant S_ .f32 0x43800000#32)))
    (broadcastInDim S8x4096x1 ![] bcast_S_S8x4096x1 (constant S_ .f32 0x358637BD#32))))))
    (broadcastInDim S8x4096x256 ![0, 1, 2] bcast_S1x1x256_S8x4096x256_0_1_2 (broadcastInDim S1x1x256 ![2] bcast_S256_S1x1x256_2 g))

/-- The query latents. -/
def latentA (P : FVec Ideal S8x4096x584 .f32) (g : FVec Ideal S256 .f32) : FVec Ideal S8x4096x256 .f32 :=
  rmsB (extractStridedSlice S8x4096x256 ![0, 0, 0] P slices_S8x4096x584_S8x4096x256_0_0_0) g

/-- The key latents. -/
def keyA (P : FVec Ideal S8x4096x584 .f32) (g : FVec Ideal S256 .f32) : FVec Ideal S8x4096x256 .f32 :=
  rmsB (extractStridedSlice S8x4096x256 ![0, 0, 256] P slices_S8x4096x584_S8x4096x256_0_0_256) g

/-- The index keys before their normalisation. -/
def rawA (P : FVec Ideal S8x4096x584 .f32) : FVec Ideal S8x4096x64 .f32 :=
  extractStridedSlice S8x4096x64 ![0, 0, 512] P slices_S8x4096x584_S8x4096x64_0_0_512

/-- The mean of every row of 64. -/
def meanA (Y : FVec Ideal S8x4096x64 .f32) : FVec Ideal S8x4096x1 .f32 :=
  Host.divf (broadcastInDim S8x4096x1 ![0, 1] bcast_S8x4096_S8x4096x1_0_1 (Host.reduceAdd Y (constant S_ .f32 0x00000000#32)
    reducesTo_S8x4096x64_S8x4096_d2 h_S_)) (broadcastInDim S8x4096x1 ![] bcast_S_S8x4096x1 (constant S_ .f32 0x42800000#32))

/-- Every row of 64 less its mean. -/
def devA (Y : FVec Ideal S8x4096x64 .f32) : FVec Ideal S8x4096x64 .f32 :=
  subf Y (broadcastInDim S8x4096x64 ![0, 1, 2] bcast_S8x4096x1_S8x4096x64_0_1_2 (meanA Y))

/-- Layer normalisation of rows of 64. -/
def layerA (Y : FVec Ideal S8x4096x64 .f32) (lg lb : FVec Ideal S64 .f32) : FVec Ideal S8x4096x64 .f32 :=
  addf (mulf (mulf (devA Y) (broadcastInDim S8x4096x64 ![0, 1, 2] bcast_S8x4096x1_S8x4096x64_0_1_2 (Host.rsqrt (addf
    (meanA (mulf (devA Y) (devA Y))) (broadcastInDim S8x4096x1 ![] bcast_S_S8x4096x1 (constant S_ .f32 0x358637BD#32))))))
    (broadcastInDim S8x4096x64 ![0, 1, 2] bcast_S1x1x64_S8x4096x64_0_1_2 (broadcastInDim S1x1x64 ![2] bcast_S64_S1x1x64_2 lg)))
    (broadcastInDim S8x4096x64 ![0, 1, 2] bcast_S1x1x64_S8x4096x64_0_1_2 (broadcastInDim S1x1x64 ![2] bcast_S64_S1x1x64_2 lb))

/-- The scaled index weights. -/
def weightA (P : FVec Ideal S8x4096x584 .f32) : FVec Ideal S8x4096x8 .f32 :=
  mulf (extractStridedSlice S8x4096x8 ![0, 0, 576] P slices_S8x4096x584_S8x4096x8_0_0_576)
    (broadcastInDim S8x4096x8 ![] bcast_S_S8x4096x8 (constant S_ .f32 0x3D3504F3#32))

/-- The zeros after them. -/
def restA : FVec Ideal S8x4096x56 .f32 := broadcastInDim S8x4096x56 ![] bcast_S_S8x4096x56 (constant S_ .f32 0x00000000#32)

/-- The index keys, the index weights and the zeros, side by side. -/
def auxA (P : FVec Ideal S8x4096x584 .f32) (lg lb : FVec Ideal S64 .f32) : FVec Ideal S8x4096x128 .f32 :=
  concatenate S8x4096x128 2 [⟨S8x4096x64, layerA (rawA P) lg lb⟩, ⟨S8x4096x8, weightA P⟩, ⟨S8x4096x56, restA⟩]
    concatenates_S8x4096x64_S8x4096x8_S8x4096x56_S8x4096x128_d2

/-- The queries. -/
def queriesA (P : FVec Ideal S8x4096x584 .f32) (qg : FVec Ideal S256 .f32) (wq : FVec Ideal S256x1024 .f32) : FVec Ideal S8x4096x1024 .f32 :=
  Host.dotGeneral dot_S8x4096x256_S256x1024_S8x4096x1024_2_0_01_1_n_n none (latentA P qg) wq

/-- The index queries. -/
def indexA (P : FVec Ideal S8x4096x584 .f32) (qg : FVec Ideal S256 .f32) (wi : FVec Ideal S256x512 .f32) : FVec Ideal S8x4096x512 .f32 :=
  Host.dotGeneral dot_S8x4096x256_S256x512_S8x4096x512_2_0_01_1_n_n none (latentA P qg) wi

section Reads
variable (b : Fin 8) (s : Fin 4096)

theorem rmsA_at (Y : FVec Ideal S8x4096x1024 .f32) (g : FVec Ideal S4x1024 .f32) (d : Fin 1024) :
    rmsA Y g (ix3 b s d) = rms (fun e => Y (ix3 b s e)) (fun e => g (ix2 0 e)) d := by
  pointwise [rmsA]
  rfl

theorem scaleA_at (md : FVec Ideal S8x6144 .f32) (d : Fin 1024) : scaleA md (ix3 b s d) = 1 + md (ix2 b ⟨1024 + d.val, by omega⟩) := by
  pointwise [scaleA]

theorem projA_at (x : FVec Ideal S8x4096x1024 .f32) (md : FVec Ideal S8x6144 .f32) (g : FVec Ideal S4x1024 .f32) (w : FVec Ideal S1024x584 .f32)
    (n : Fin 584) : projA x md g w (ix3 b s n) = proj x md g w b s n := by
  pointwise [projA]
  simp only [rmsA_at, scaleA_at]
  rfl

theorem rmsB_at (Y : FVec Ideal S8x4096x256 .f32) (g : FVec Ideal S256 .f32) (d : Fin 256) :
    rmsB Y g (ix3 b s d) = rms256 (fun k => Y (ix3 b s k)) (fun k => g (ix1 k)) d := by
  pointwise [rmsB]
  rfl

theorem latentA_at (P : FVec Ideal S8x4096x584 .f32) (g : FVec Ideal S256 .f32) (d : Fin 256) :
    latentA P g (ix3 b s d) = rms256 (fun k => P (ix3 b s ⟨k.val, by omega⟩)) (fun k => g (ix1 k)) d := by
  refine (rmsB_at b s _ g d).trans (congrArg (fun y => rms256 y _ d) (funext fun k => ?_))
  pointwise

theorem keyA_at (P : FVec Ideal S8x4096x584 .f32) (g : FVec Ideal S256 .f32) (d : Fin 256) :
    keyA P g (ix3 b s d) = rms256 (fun k => P (ix3 b s ⟨256 + k.val, by omega⟩)) (fun k => g (ix1 k)) d := by
  refine (rmsB_at b s _ g d).trans (congrArg (fun y => rms256 y _ d) (funext fun k => ?_))
  pointwise

theorem rawA_at (P : FVec Ideal S8x4096x584 .f32) (d : Fin 64) : rawA P (ix3 b s d) = P (ix3 b s ⟨512 + d.val, by omega⟩) := by
  pointwise [rawA]

theorem meanA_at (Y : FVec Ideal S8x4096x64 .f32) : meanA Y (ix3 b s 0) = mean fun k => Y (ix3 b s k) := by
  pointwise [meanA]
  rfl

theorem devA_at (Y : FVec Ideal S8x4096x64 .f32) (d : Fin 64) : devA Y (ix3 b s d) = Y (ix3 b s d) - mean fun k => Y (ix3 b s k) := by
  pointwise [devA]
  rw [meanA_at]

theorem layerA_at (Y : FVec Ideal S8x4096x64 .f32) (lg lb : FVec Ideal S64 .f32) (d : Fin 64) :
    layerA Y lg lb (ix3 b s d) = layer (fun k => Y (ix3 b s k)) (fun k => lg (ix1 k)) (fun k => lb (ix1 k)) d := by
  have e : meanA (mulf (devA Y) (devA Y)) (ix3 b s 0)
      = mean fun k => (Y (ix3 b s k) - mean fun k => Y (ix3 b s k)) * (Y (ix3 b s k) - mean fun k => Y (ix3 b s k)) := by
    refine (meanA_at b s _).trans (congrArg mean (funext fun k => ?_))
    exact congrArg₂ (· * ·) (devA_at b s Y k) (devA_at b s Y k)
  pointwise [layerA]
  rw [e, devA_at]
  rfl

theorem weightA_at (P : FVec Ideal S8x4096x584 .f32) (n : Fin 8) :
    weightA P (ix3 b s n) = P (ix3 b s ⟨576 + n.val, by omega⟩) * Ideal.ofBits .f32 0x3D3504F3#32 := by
  pointwise [weightA]

theorem restA_at (n : Fin 56) : restA (ix3 b s n) = (0 : EReal) := by
  pointwise [restA]

theorem auxA_at (P : FVec Ideal S8x4096x584 .f32) (lg lb : FVec Ideal S64 .f32) (n : Fin 128) : auxA P lg lb (ix3 b s n)
    = if h : n.val < 64 then layerA (rawA P) lg lb (ix3 b s ⟨n.val, h⟩)
      else if h : n.val < 72 then weightA P (ix3 b s ⟨n.val - 64, by omega⟩) else (0 : EReal) := by
  have hn := n.isLt
  pointwise [auxA]
  by_cases h : n.val < 64
  · rw [dif_pos h, dif_pos h]
  · rw [dif_neg h, dif_neg h]
    by_cases h2 : n.val < 72
    · rw [dif_pos h2, dif_pos (show n.val - 64 < 8 by omega)]
    · rw [dif_neg h2, dif_neg (show ¬ n.val - 64 < 8 by omega), restA_at]

theorem queriesA_at (P : FVec Ideal S8x4096x584 .f32) (qg : FVec Ideal S256 .f32) (wq : FVec Ideal S256x1024 .f32) (n : Fin 1024) :
    queriesA P qg wq (ix3 b s n) = ∑ d : Fin 256, latentA P qg (ix3 b s d) * wq (ix2 d n) := by
  pointwise [queriesA]

theorem indexA_at (P : FVec Ideal S8x4096x584 .f32) (qg : FVec Ideal S256 .f32) (wi : FVec Ideal S256x512 .f32) (n : Fin 512) :
    indexA P qg wi (ix3 b s n) = ∑ d : Fin 256, latentA P qg (ix3 b s d) * wi (ix2 d n) := by
  pointwise [indexA]

end Reads

section Arrays
variable (x : FVec Ideal S8x4096x1024 .f32) (md : FVec Ideal S8x6144 .f32) (g : FVec Ideal S4x1024 .f32) (w : FVec Ideal S1024x584 .f32)

/-- The reference's first result is the token-by-token queries. -/
theorem queries_eq (qg : FVec Ideal S256 .f32) (wq : FVec Ideal S256x1024 .f32) :
    (truncf .bf16 (queriesA (projA x md g w) qg wq) bitsLt_bf16_f32 : FVec Ideal S8x4096x1024 .bf16) = queries x md g w qg wq := by
  funext y
  idx_vars y
  refine (queriesA_at y0 y1 _ _ _ y2).trans ?_
  simp only [latentA_at, projA_at]
  rfl

/-- The reference's second result is the token-by-token index queries. -/
theorem index_eq (qg : FVec Ideal S256 .f32) (wi : FVec Ideal S256x512 .f32) :
    (truncf .bf16 (indexA (projA x md g w) qg wi) bitsLt_bf16_f32 : FVec Ideal S8x4096x512 .bf16) = indexQueries x md g w qg wi := by
  funext y
  idx_vars y
  refine (indexA_at y0 y1 _ _ _ y2).trans ?_
  simp only [latentA_at, projA_at]
  rfl

/-- The reference's third result is the token-by-token key latents. -/
theorem key_eq (kg : FVec Ideal S256 .f32) :
    (truncf .bf16 (keyA (projA x md g w) kg) bitsLt_bf16_f32 : FVec Ideal S8x4096x256 .bf16) = keyLatents x md g w kg := by
  funext y
  idx_vars y
  refine (keyA_at y0 y1 _ _ y2).trans ?_
  simp only [projA_at]
  rfl

/-- The reference's fourth result is the token-by-token index keys and weights. -/
theorem aux_eq (lg lb : FVec Ideal S64 .f32) : auxA (projA x md g w) lg lb = aux x md g w lg lb := by
  funext y
  idx_vars y
  rw [auxA_at]
  simp only [layerA_at, rawA_at, weightA_at, projA_at]
  show _ = dite (y2.val < 64) _ _
  by_cases h : y2.val < 64
  · rw [dif_pos h]
    refine Eq.trans ?_ (dif_pos h).symm
    rfl
  · rw [dif_neg h]
    refine Eq.trans ?_ (dif_neg h).symm
    by_cases h2 : y2.val < 72
    · rw [dif_pos h2]
      refine Eq.trans ?_ (dif_pos h2).symm
      refine congrArg (fun n => proj x md g w y0 y1 n * _) (Fin.ext ?_)
      show 576 + (y2.val - 64) = 512 + y2.val
      omega
    · rw [dif_neg h2]
      refine Eq.trans ?_ (dif_neg h2).symm
      rfl

end Arrays

variable (m : (ℓ : Loc nD τ sig) → Buf (Elt Ideal) ℓ)

/-! The composed terms by their parts. -/

theorem res_parts0 (c : Dev nD) : res_out0 m c
    = truncf .bf16 (queriesA (projA (m (c.tc.loc main_arg0)) (m (c.tc.loc main_arg1)) (m (c.tc.loc main_arg2)) (m (c.tc.loc main_arg3))) (m (c.tc.loc main_arg4)) (m (c.tc.loc main_arg6))) bitsLt_bf16_f32 := rfl

theorem res_parts1 (c : Dev nD) : res_out1 m c
    = truncf .bf16 (indexA (projA (m (c.tc.loc main_arg0)) (m (c.tc.loc main_arg1)) (m (c.tc.loc main_arg2)) (m (c.tc.loc main_arg3))) (m (c.tc.loc main_arg4)) (m (c.tc.loc main_arg7))) bitsLt_bf16_f32 := rfl

theorem res_parts2 (c : Dev nD) : res_out2 m c
    = truncf .bf16 (keyA (projA (m (c.tc.loc main_arg0)) (m (c.tc.loc main_arg1)) (m (c.tc.loc main_arg2)) (m (c.tc.loc main_arg3))) (m (c.tc.loc main_arg5))) bitsLt_bf16_f32 := rfl

theorem res_parts3 (c : Dev nD) : res_out3 m c = auxA (projA (m (c.tc.loc main_arg0)) (m (c.tc.loc main_arg1)) (m (c.tc.loc main_arg2)) (m (c.tc.loc main_arg3))) (m (c.tc.loc main_arg8)) (m (c.tc.loc main_arg9)) := rfl

end Cert.Reference4Ideal.Value

end
-- ==== Proof.ModValue.lean ====
module

public import proofs.«01_k».proof.Proof.Gen.Kernel5Ideal.Value
public import proofs.«01_k».proof.Proof.Gen.Reference5Ideal.Run
public import Idealize.ShloMosaic.Lib.Pointwise
public import Idealize.ShloMosaic.Lib.Pipeline.ValueKit
public import proofs.«01_k».proof.Proof.MixMath

@[expose] public section

set_option maxRecDepth 16384

noncomputable section

/-! # The modulation of every layer: `silu c` times the layer's weights, plus its bias -/

namespace Cert.Kernel5Ideal.Value

open Cert.Kernel5Ideal Cert.Kernel5Ideal.Gen Idealize.ShloMosaic Idealize.ShloMosaic.TcCoe Idealize.SL.Sem
open Idealize.ShloMosaic.Pipeline (Dat)
open Cert.Mix

variable (m : (ℓ : Loc nD τ sig) → Buf (Elt Ideal) ℓ)

/-- One stored block, element by element. -/
theorem pay1_at (x : Vec Ideal S8x1024 .f32) (w : Vec Ideal S1x1024x1536 .f32) (z : Vec Ideal S1x1x1536 .f32) (b : Fin 8) (n : Fin 1536) :
    k0_pay1 (F := Ideal) x w z (ix3 0 b n) = (∑ d : Fin 1024, silu (x (ix2 b d)) * w (ix3 0 d n)) + z (ix3 0 0 n) := by
  pointwise [k0_pay1]
  rfl

/-- Which block of its array each window holds at grid point `t`. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- The grid has 16 points. -/
theorem lt16 : ∀ t : Fin cfg0.N, t.val < 16 := (by decide +kernel : ∀ t : Fin grid0.N, t.val < 16)

/-! The blocks a grid point reads, as parts of the argument arrays. -/

theorem iblk0 (c : Dev nD) (t : Fin cfg0.N) (b : Fin 8) (d : Fin 1024) : iblk m c 0 t (ix2 b d)
    = m ((c : Thread nD τ).loc main_arg0) (ix2 b d) := by
  blk_ext [iblk, V, idx t]

theorem iblk1 (c : Dev nD) (t : Fin cfg0.N) (d : Fin 1024) (n : Fin 1536) : iblk m c 1 t (ix3 0 d n)
    = m ((c : Thread nD τ).loc main_arg1) (ix3 ⟨t.val / 4, by have := lt16 t; omega⟩ d ⟨t.val % 4 * 1536 + n.val, by omega⟩) := by
  blk_ext [iblk, V, idx t]

theorem iblk2 (c : Dev nD) (t : Fin cfg0.N) (n : Fin 1536) : iblk m c 2 t (ix3 0 0 n)
    = m ((c : Thread nD τ).loc main_arg2) (ix2 ⟨t.val / 4, by have := lt16 t; omega⟩ ⟨t.val % 4 * 1536 + n.val, by omega⟩) := by
  blk_point [iblk, idx t]

/-- The whole result: for layer `i 0` and sequence `i 1`, entry `i 2` of the modulation. -/
def result (x : FVec Ideal S8x1024 .f32) (w : FVec Ideal S4x1024x6144 .f32) (z : FVec Ideal S4x6144 .f32) : FVec Ideal S4x8x6144 .f32 :=
  fun i => (∑ d : Fin 1024, silu (x (ix2 (i 1) d)) * w (ix3 (i 0) d (i 2))) + z (ix2 (i 0) (i 2))

/-- The kernel's result array after the run. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  frame_out
  idx_vars y
  obtain rfl : y0 = 0 := Subsingleton.elim _ _
  refine (pay1_at _ _ _ _ _).trans ?_
  simp only [iblk0, iblk1, iblk2]
  have he : ((View.whole main_v1).slice (win0_3.rect t)).emb (ix3 0 y1 y2)
      = ix3 ⟨t.val / 4, by have := lt16 t; omega⟩ y1 ⟨t.val % 4 * 1536 + y2.val, by omega⟩ := by blk_ext [idx t]
  rw [he]
  rfl

end Cert.Kernel5Ideal.Value

namespace Cert.Reference5Ideal.Value

open Cert.Reference5Ideal Cert.Reference5Ideal.Gen Idealize.ShloMosaic Idealize.ShloMosaic.TcCoe Idealize.SL.Sem
open Idealize.ShloMosaic.StableHlo
open Cert.Mix

/-- The reference's composed term over whole arrays. -/
def modA (x : FVec Ideal S8x1024 .f32) (w : FVec Ideal S4x1024x6144 .f32) (z : FVec Ideal S4x6144 .f32) : FVec Ideal S4x8x6144 .f32 :=
  addf (transpose S4x8x6144 [0, 2, 1] (Host.dotGeneral dot_S4x1024x6144_S8x1024_S4x6144x8_1_1_02_0_n_n none w
    (mulf x (Host.divf (broadcastInDim S8x1024 ![] bcast_S_S8x1024 (constant S_ .f32 0x3F800000#32))
      (addf (broadcastInDim S8x1024 ![] bcast_S_S8x1024 (constant S_ .f32 0x3F800000#32)) (Host.exp (Host.negf x))))))
    transposes_S4x6144x8_S4x8x6144_0_2_1)
    (broadcastInDim S4x8x6144 ![0, 1, 2] bcast_S4x1x6144_S4x8x6144_0_1_2 (broadcastInDim S4x1x6144 ![0, 2] bcast_S4x6144_S4x1x6144_0_2 z))

/-- Element by element, the reference's term is the modulation. -/
theorem modA_eq (x : FVec Ideal S8x1024 .f32) (w : FVec Ideal S4x1024x6144 .f32) (z : FVec Ideal S4x6144 .f32) :
    modA x w z = Cert.Kernel5Ideal.Value.result x w z := by
  funext y
  idx_vars y
  have e : modA x w z (ix3 y0 y1 y2) = (∑ d : Fin 1024, w (ix3 y0 d y2) * silu (x (ix2 y1 d))) + z (ix2 y0 y2) := by
    pointwise [modA]
    rfl
  rw [e]
  exact congrArg (· + _) (Finset.sum_congr rfl fun d _ => mul_comm _ _)

end Cert.Reference5Ideal.Value

end
-- ==== Proof.AttnLoop.lean ====
module

public import proofs.«01_k».proof.Proof.AttnPayload
public import Idealize.ShloMosaic.Lib.WritesUnit

@[expose] public section

set_option maxRecDepth 16384

noncomputable section

namespace Cert.KernelIdeal.Value

open Cert.KernelIdeal Cert.KernelIdeal.Gen Idealize.ShloMosaic Idealize.ShloMosaic.TcCoe Idealize.SL.Sem
open Cert.Attn

/-- The eight groups of 256 rows lie in the buffer. -/
theorem inRows (g : Fin 8) : InRows (256 * g) := by
  intro a; have hg := g.isLt; fin_cases a
  · show 256 * g.val + 256 ≤ 2048; omega
  · show 0 + 128 ≤ 128; omega

/-- Row `x` of group `g`. -/
abbrev row (g : Fin 8) (x : Fin 256) : Fin 2048 := ⟨256 * g + x, by omega⟩

section
variable {sp : Space}

/-- A buffer of rows of 128 after eight stores, one for each group, reads in each group what was stored there. -/
theorem stack128_read (v : View sig .tc sp S2048x128 .f32) (f : v.ty.Contents (Elt Ideal)) (P : (o : ℕ) → InRows o → FVec Ideal S256x128 .f32)
    (L : List (View.Piece (Elt Ideal) S2048x128 .f32)) (g : Fin 8) (x : Fin 256) (l : Fin 128) :
    v.read (Elt Ideal) (v.writes (Elt Ideal) f (stack128 P ++ L)) (ix2 (row g x) l) = P (256 * g) (inRows g) (ix2 x l) := by
  have hx := x.isLt
  unfold stack128
  dsimp only [List.cons_append, List.nil_append]
  fin_cases g
  · refine (View.read_writes_cons_rows_of_not_mem v f (o := 1792) (W := 256) _ _ _ (ix2 (row 0 x) l) rfl rfl (Or.inl (show 256 * 0 + x.val < 1792 by omega))).trans ?_
    refine (View.read_writes_cons_rows_of_not_mem v f (o := 1536) (W := 256) _ _ _ (ix2 (row 0 x) l) rfl rfl (Or.inl (show 256 * 0 + x.val < 1536 by omega))).trans ?_
    refine (View.read_writes_cons_rows_of_not_mem v f (o := 1280) (W := 256) _ _ _ (ix2 (row 0 x) l) rfl rfl (Or.inl (show 256 * 0 + x.val < 1280 by omega))).trans ?_
    refine (View.read_writes_cons_rows_of_not_mem v f (o := 1024) (W := 256) _ _ _ (ix2 (row 0 x) l) rfl rfl (Or.inl (show 256 * 0 + x.val < 1024 by omega))).trans ?_
    refine (View.read_writes_cons_rows_of_not_mem v f (o := 768) (W := 256) _ _ _ (ix2 (row 0 x) l) rfl rfl (Or.inl (show 256 * 0 + x.val < 768 by omega))).trans ?_
    refine (View.read_writes_cons_rows_of_not_mem v f (o := 512) (W := 256) _ _ _ (ix2 (row 0 x) l) rfl rfl (Or.inl (show 256 * 0 + x.val < 512 by omega))).trans ?_
    refine (View.read_writes_cons_rows_of_not_mem v f (o := 256) (W := 256) _ _ _ (ix2 (row 0 x) l) rfl rfl (Or.inl (show 256 * 0 + x.val < 256 by omega))).trans ?_
    exact View.read_writes_cons_rows_of_mem v f (o := 0) _ _ _ (ix2 (row 0 x) l) (ix2 x l) rfl rfl rfl
  · refine (View.read_writes_cons_rows_of_not_mem v f (o := 1792) (W := 256) _ _ _ (ix2 (row 1 x) l) rfl rfl (Or.inl (show 256 * 1 + x.val < 1792 by omega))).trans ?_
    refine (View.read_writes_cons_rows_of_not_mem v f (o := 1536) (W := 256) _ _ _ (ix2 (row 1 x) l) rfl rfl (Or.inl (show 256 * 1 + x.val < 1536 by omega))).trans ?_
    refine (View.read_writes_cons_rows_of_not_mem v f (o := 1280) (W := 256) _ _ _ (ix2 (row 1 x) l) rfl rfl (Or.inl (show 256 * 1 + x.val < 1280 by omega))).trans ?_
    refine (View.read_writes_cons_rows_of_not_mem v f (o := 1024) (W := 256) _ _ _ (ix2 (row 1 x) l) rfl rfl (Or.inl (show 256 * 1 + x.val < 1024 by omega))).trans ?_
    refine (View.read_writes_cons_rows_of_not_mem v f (o := 768) (W := 256) _ _ _ (ix2 (row 1 x) l) rfl rfl (Or.inl (show 256 * 1 + x.val < 768 by omega))).trans ?_
    refine (View.read_writes_cons_rows_of_not_mem v f (o := 512) (W := 256) _ _ _ (ix2 (row 1 x) l) rfl rfl (Or.inl (show 256 * 1 + x.val < 512 by omega))).trans ?_
    exact View.read_writes_cons_rows_of_mem v f (o := 256) _ _ _ (ix2 (row 1 x) l) (ix2 x l) rfl rfl rfl
  · refine (View.read_writes_cons_rows_of_not_mem v f (o := 1792) (W := 256) _ _ _ (ix2 (row 2 x) l) rfl rfl (Or.inl (show 256 * 2 + x.val < 1792 by omega))).trans ?_
    refine (View.read_writes_cons_rows_of_not_mem v f (o := 1536) (W := 256) _ _ _ (ix2 (row 2 x) l) rfl rfl (Or.inl (show 256 * 2 + x.val < 1536 by omega))).trans ?_
    refine (View.read_writes_cons_rows_of_not_mem v f (o := 1280) (W := 256) _ _ _ (ix2 (row 2 x) l) rfl rfl (Or.inl (show 256 * 2 + x.val < 1280 by omega))).trans ?_
    refine (View.read_writes_cons_rows_of_not_mem v f (o := 1024) (W := 256) _ _ _ (ix2 (row 2 x) l) rfl rfl (Or.inl (show 256 * 2 + x.val < 1024 by omega))).trans ?_
    refine (View.read_writes_cons_rows_of_not_mem v f (o := 768) (W := 256) _ _ _ (ix2 (row 2 x) l) rfl rfl (Or.inl (show 256 * 2 + x.val < 768 by omega))).trans ?_
    exact View.read_writes_cons_rows_of_mem v f (o := 512) _ _ _ (ix2 (row 2 x) l) (ix2 x l) rfl rfl rfl
  · refine (View.read_writes_cons_rows_of_not_mem v f (o := 1792) (W := 256) _ _ _ (ix2 (row 3 x) l) rfl rfl (Or.inl (show 256 * 3 + x.val < 1792 by omega))).trans ?_
    refine (View.read_writes_cons_rows_of_not_mem v f (o := 1536) (W := 256) _ _ _ (ix2 (row 3 x) l) rfl rfl (Or.inl (show 256 * 3 + x.val < 1536 by omega))).trans ?_
    refine (View.read_writes_cons_rows_of_not_mem v f (o := 1280) (W := 256) _ _ _ (ix2 (row 3 x) l) rfl rfl (Or.inl (show 256 * 3 + x.val < 1280 by omega))).trans ?_
    refine (View.read_writes_cons_rows_of_not_mem v f (o := 1024) (W := 256) _ _ _ (ix2 (row 3 x) l) rfl rfl (Or.inl (show 256 * 3 + x.val < 1024 by omega))).trans ?_
    exact View.read_writes_cons_rows_of_mem v f (o := 768) _ _ _ (ix2 (row 3 x) l) (ix2 x l) rfl rfl rfl
  · refine (View.read_writes_cons_rows_of_not_mem v f (o := 1792) (W := 256) _ _ _ (ix2 (row 4 x) l) rfl rfl (Or.inl (show 256 * 4 + x.val < 1792 by omega))).trans ?_
    refine (View.read_writes_cons_rows_of_not_mem v f (o := 1536) (W := 256) _ _ _ (ix2 (row 4 x) l) rfl rfl (Or.inl (show 256 * 4 + x.val < 1536 by omega))).trans ?_
    refine (View.read_writes_cons_rows_of_not_mem v f (o := 1280) (W := 256) _ _ _ (ix2 (row 4 x) l) rfl rfl (Or.inl (show 256 * 4 + x.val < 1280 by omega))).trans ?_
    exact View.read_writes_cons_rows_of_mem v f (o := 1024) _ _ _ (ix2 (row 4 x) l) (ix2 x l) rfl rfl rfl
  · refine (View.read_writes_cons_rows_of_not_mem v f (o := 1792) (W := 256) _ _ _ (ix2 (row 5 x) l) rfl rfl (Or.inl (show 256 * 5 + x.val < 1792 by omega))).trans ?_
    refine (View.read_writes_cons_rows_of_not_mem v f (o := 1536) (W := 256) _ _ _ (ix2 (row 5 x) l) rfl rfl (Or.inl (show 256 * 5 + x.val < 1536 by omega))).trans ?_
    exact View.read_writes_cons_rows_of_mem v f (o := 1280) _ _ _ (ix2 (row 5 x) l) (ix2 x l) rfl rfl rfl
  · refine (View.read_writes_cons_rows_of_not_mem v f (o := 1792) (W := 256) _ _ _ (ix2 (row 6 x) l) rfl rfl (Or.inl (show 256 * 6 + x.val < 1792 by omega))).trans ?_
    exact View.read_writes_cons_rows_of_mem v f (o := 1536) _ _ _ (ix2 (row 6 x) l) (ix2 x l) rfl rfl rfl
  · exact View.read_writes_cons_rows_of_mem v f (o := 1792) _ _ _ (ix2 (row 7 x) l) (ix2 x l) rfl rfl rfl

/-- A buffer of rows of 256 after eight stores, one for each group, reads in each group what was stored there. -/
theorem stack256_read (v : View sig .tc sp S2048x256 .f32) (f : v.ty.Contents (Elt Ideal)) (P : (o : ℕ) → InRows o → FVec Ideal S256x256 .f32)
    (L : List (View.Piece (Elt Ideal) S2048x256 .f32)) (g : Fin 8) (x : Fin 256) (l : Fin 256) :
    v.read (Elt Ideal) (v.writes (Elt Ideal) f (stack256 P ++ L)) (ix2 (row g x) l) = P (256 * g) (inRows g) (ix2 x l) := by
  have hx := x.isLt
  unfold stack256
  dsimp only [List.cons_append, List.nil_append]
  fin_cases g
  · refine (View.read_writes_cons_rows_of_not_mem v f (o := 1792) (W := 256) _ _ _ (ix2 (row 0 x) l) rfl rfl (Or.inl (show 256 * 0 + x.val < 1792 by omega))).trans ?_
    refine (View.read_writes_cons_rows_of_not_mem v f (o := 1536) (W := 256) _ _ _ (ix2 (row 0 x) l) rfl rfl (Or.inl (show 256 * 0 + x.val < 1536 by omega))).trans ?_
    refine (View.read_writes_cons_rows_of_not_mem v f (o := 1280) (W := 256) _ _ _ (ix2 (row 0 x) l) rfl rfl (Or.inl (show 256 * 0 + x.val < 1280 by omega))).trans ?_
    refine (View.read_writes_cons_rows_of_not_mem v f (o := 1024) (W := 256) _ _ _ (ix2 (row 0 x) l) rfl rfl (Or.inl (show 256 * 0 + x.val < 1024 by omega))).trans ?_
    refine (View.read_writes_cons_rows_of_not_mem v f (o := 768) (W := 256) _ _ _ (ix2 (row 0 x) l) rfl rfl (Or.inl (show 256 * 0 + x.val < 768 by omega))).trans ?_
    refine (View.read_writes_cons_rows_of_not_mem v f (o := 512) (W := 256) _ _ _ (ix2 (row 0 x) l) rfl rfl (Or.inl (show 256 * 0 + x.val < 512 by omega))).trans ?_
    refine (View.read_writes_cons_rows_of_not_mem v f (o := 256) (W := 256) _ _ _ (ix2 (row 0 x) l) rfl rfl (Or.inl (show 256 * 0 + x.val < 256 by omega))).trans ?_
    exact View.read_writes_cons_rows_of_mem v f (o := 0) _ _ _ (ix2 (row 0 x) l) (ix2 x l) rfl rfl rfl
  · refine (View.read_writes_cons_rows_of_not_mem v f (o := 1792) (W := 256) _ _ _ (ix2 (row 1 x) l) rfl rfl (Or.inl (show 256 * 1 + x.val < 1792 by omega))).trans ?_
    refine (View.read_writes_cons_rows_of_not_mem v f (o := 1536) (W := 256) _ _ _ (ix2 (row 1 x) l) rfl rfl (Or.inl (show 256 * 1 + x.val < 1536 by omega))).trans ?_
    refine (View.read_writes_cons_rows_of_not_mem v f (o := 1280) (W := 256) _ _ _ (ix2 (row 1 x) l) rfl rfl (Or.inl (show 256 * 1 + x.val < 1280 by omega))).trans ?_
    refine (View.read_writes_cons_rows_of_not_mem v f (o := 1024) (W := 256) _ _ _ (ix2 (row 1 x) l) rfl rfl (Or.inl (show 256 * 1 + x.val < 1024 by omega))).trans ?_
    refine (View.read_writes_cons_rows_of_not_mem v f (o := 768) (W := 256) _ _ _ (ix2 (row 1 x) l) rfl rfl (Or.inl (show 256 * 1 + x.val < 768 by omega))).trans ?_
    refine (View.read_writes_cons_rows_of_not_mem v f (o := 512) (W := 256) _ _ _ (ix2 (row 1 x) l) rfl rfl (Or.inl (show 256 * 1 + x.val < 512 by omega))).trans ?_
    exact View.read_writes_cons_rows_of_mem v f (o := 256) _ _ _ (ix2 (row 1 x) l) (ix2 x l) rfl rfl rfl
  · refine (View.read_writes_cons_rows_of_not_mem v f (o := 1792) (W := 256) _ _ _ (ix2 (row 2 x) l) rfl rfl (Or.inl (show 256 * 2 + x.val < 1792 by omega))).trans ?_
    refine (View.read_writes_cons_rows_of_not_mem v f (o := 1536) (W := 256) _ _ _ (ix2 (row 2 x) l) rfl rfl (Or.inl (show 256 * 2 + x.val < 1536 by omega))).trans ?_
    refine (View.read_writes_cons_rows_of_not_mem v f (o := 1280) (W := 256) _ _ _ (ix2 (row 2 x) l) rfl rfl (Or.inl (show 256 * 2 + x.val < 1280 by omega))).trans ?_
    refine (View.read_writes_cons_rows_of_not_mem v f (o := 1024) (W := 256) _ _ _ (ix2 (row 2 x) l) rfl rfl (Or.inl (show 256 * 2 + x.val < 1024 by omega))).trans ?_
    refine (View.read_writes_cons_rows_of_not_mem v f (o := 768) (W := 256) _ _ _ (ix2 (row 2 x) l) rfl rfl (Or.inl (show 256 * 2 + x.val < 768 by omega))).trans ?_
    exact View.read_writes_cons_rows_of_mem v f (o := 512) _ _ _ (ix2 (row 2 x) l) (ix2 x l) rfl rfl rfl
  · refine (View.read_writes_cons_rows_of_not_mem v f (o := 1792) (W := 256) _ _ _ (ix2 (row 3 x) l) rfl rfl (Or.inl (show 256 * 3 + x.val < 1792 by omega))).trans ?_
    refine (View.read_writes_cons_rows_of_not_mem v f (o := 1536) (W := 256) _ _ _ (ix2 (row 3 x) l) rfl rfl (Or.inl (show 256 * 3 + x.val < 1536 by omega))).trans ?_
    refine (View.read_writes_cons_rows_of_not_mem v f (o := 1280) (W := 256) _ _ _ (ix2 (row 3 x) l) rfl rfl (Or.inl (show 256 * 3 + x.val < 1280 by omega))).trans ?_
    refine (View.read_writes_cons_rows_of_not_mem v f (o := 1024) (W := 256) _ _ _ (ix2 (row 3 x) l) rfl rfl (Or.inl (show 256 * 3 + x.val < 1024 by omega))).trans ?_
    exact View.read_writes_cons_rows_of_mem v f (o := 768) _ _ _ (ix2 (row 3 x) l) (ix2 x l) rfl rfl rfl
  · refine (View.read_writes_cons_rows_of_not_mem v f (o := 1792) (W := 256) _ _ _ (ix2 (row 4 x) l) rfl rfl (Or.inl (show 256 * 4 + x.val < 1792 by omega))).trans ?_
    refine (View.read_writes_cons_rows_of_not_mem v f (o := 1536) (W := 256) _ _ _ (ix2 (row 4 x) l) rfl rfl (Or.inl (show 256 * 4 + x.val < 1536 by omega))).trans ?_
    refine (View.read_writes_cons_rows_of_not_mem v f (o := 1280) (W := 256) _ _ _ (ix2 (row 4 x) l) rfl rfl (Or.inl (show 256 * 4 + x.val < 1280 by omega))).trans ?_
    exact View.read_writes_cons_rows_of_mem v f (o := 1024) _ _ _ (ix2 (row 4 x) l) (ix2 x l) rfl rfl rfl
  · refine (View.read_writes_cons_rows_of_not_mem v f (o := 1792) (W := 256) _ _ _ (ix2 (row 5 x) l) rfl rfl (Or.inl (show 256 * 5 + x.val < 1792 by omega))).trans ?_
    refine (View.read_writes_cons_rows_of_not_mem v f (o := 1536) (W := 256) _ _ _ (ix2 (row 5 x) l) rfl rfl (Or.inl (show 256 * 5 + x.val < 1536 by omega))).trans ?_
    exact View.read_writes_cons_rows_of_mem v f (o := 1280) _ _ _ (ix2 (row 5 x) l) (ix2 x l) rfl rfl rfl
  · refine (View.read_writes_cons_rows_of_not_mem v f (o := 1792) (W := 256) _ _ _ (ix2 (row 6 x) l) rfl rfl (Or.inl (show 256 * 6 + x.val < 1792 by omega))).trans ?_
    exact View.read_writes_cons_rows_of_mem v f (o := 1536) _ _ _ (ix2 (row 6 x) l) (ix2 x l) rfl rfl rfl
  · exact View.read_writes_cons_rows_of_mem v f (o := 1792) _ _ _ (ix2 (row 7 x) l) (ix2 x l) rfl rfl rfl

end

section
variable (Q : Vec Ideal S2048x256 .bf16) (KV : Vec Ideal S1x4096x256 .bf16) (MK : Vec Ideal S1x128x4096 .i8)
  (g : Fin 8) (x : Fin 256) (S : ℕ → EReal) (K : ℕ → Fin 256 → ℝ)

/-- `S` lists a row's scores against all keys, and `K` the keys' latent vectors. -/
structure Scores : Prop where
  ne : ∀ n, S n ≠ ⊤
  score : ∀ n : Fin 4096, (∑ c, Q (ix2 (row g x) c) * KV (ix3 0 n c))
    + (FloatOps.sitofp (F := Ideal) FTy.f32 (MK (ix3 0 ⟨x.val % 128, Nat.mod_lt _ (by norm_num)⟩ n)) - 1) * ⊤ = S n
  key : ∀ (n : Fin 4096) c, KV (ix3 0 n c) = (K n c : EReal)

variable {Q KV MK g x S K}

/-- A row's state after one more block of 512 keys: block `j` of the keys and of the mask loaded at their offsets. -/
theorem Scores.block (s : Scores Q KV MK g x S K) {M L : Vec Ideal S256x128 .f32} {A : Vec Ideal S256x256 .f32} {j : ℕ} (hj : j < 8)
    {o1 o2 : Fin 3 → ℕ} (h1 : ∀ a, o1 a + S1x512x256.size a ≤ S1x4096x256.size a) (h2 : ∀ a, o2 a + S1x128x512.size a ≤ S1x128x4096.size a)
    (e1 : o1 = ![0, 512 * j, 0]) (e2 : o2 = ![0, 0, 512 * j])
    (h : Row S K j (fun l => M (ix2 x l)) (fun l => L (ix2 x l)) (fun c => A (ix2 x c))) :
    Row S K (j + 1)
      (fun l => newM (View.ld KV (Rect.unit (s := S1x4096x256) o1 S1x512x256.size h1)) (View.ld MK (Rect.unit (s := S1x128x4096) o2 S1x128x512.size h2))
        (View.ld Q (rows256 (256 * g) (wide (inRows g)))) M (ix2 x l))
      (fun l => newL (View.ld KV (Rect.unit (s := S1x4096x256) o1 S1x512x256.size h1)) (View.ld MK (Rect.unit (s := S1x128x4096) o2 S1x128x512.size h2))
        (View.ld Q (rows256 (256 * g) (wide (inRows g)))) M L (ix2 x l))
      (fun c => newA (View.ld KV (Rect.unit (s := S1x4096x256) o1 S1x512x256.size h1)) (View.ld MK (Rect.unit (s := S1x128x4096) o2 S1x128x512.size h2))
        (View.ld Q (rows256 (256 * g) (wide (inRows g)))) M A (ix2 x c)) := by
  subst e1 e2
  have ekv : ∀ (k : Fin 512) (c : Fin 256), View.ld KV (Rect.unit (s := S1x4096x256) ![0, 512 * j, 0] S1x512x256.size h1) (ix3 0 k c)
      = KV (ix3 0 ⟨512 * j + k, by omega⟩ c) := fun k c => View.ld_unit_apply_of _ _ _ _ _ _ fun a => by
    fin_cases a
    · rfl
    · rfl
    · exact (Nat.zero_add _).symm
  have emk : ∀ (y : Fin 128) (k : Fin 512), View.ld MK (Rect.unit (s := S1x128x4096) ![0, 0, 512 * j] S1x128x512.size h2) (ix3 0 y k)
      = MK (ix3 0 y ⟨512 * j + k, by omega⟩) := fun y k => View.ld_unit_apply_of _ _ _ _ _ _ fun a => by
    fin_cases a
    · rfl
    · exact (Nat.zero_add _).symm
    · rfl
  have eq' : ∀ c : Fin 256, View.ld Q (rows256 (256 * g) (wide (inRows g))) (ix2 x c) = Q (ix2 (row g x) c) :=
    fun c => View.ld_unit_apply_of _ _ _ _ _ _ fun a => by
      fin_cases a
      · rfl
      · exact (Nat.zero_add _).symm
  refine row_block _ _ _ M L A x s.ne h (fun k => ?_) fun k c => (ekv k c).trans (s.key ⟨512 * j + k, by omega⟩ c)
  rw [score_at, emk]
  refine Eq.trans (congrArg (· + _) (Finset.sum_congr rfl fun c _ => ?_)) (s.score ⟨512 * j + k, by omega⟩)
  rw [ekv, eq']

end

variable (𝒱 : Variants) (c : Dev nD) (bd : Option 𝒱.V) (i : grid0.Coords) (arg2 : Memref sig .tc .vmem S1x128x1024 .bf16) (harg2 : arg2.IsWhole) (arg3 : Memref sig .tc .vmem S1x4096x256 .bf16) (harg3 : arg3.IsWhole) (arg4 : Memref sig .tc .vmem S1x128x4096 .i8) (harg4 : arg4.IsWhole) (arg5 : Memref sig .tc .vmem S16x64x256 .bf16) (harg5 : arg5.IsWhole) (arg6 : Memref sig .tc .vmem S16x256x64 .bf16) (harg6 : arg6.IsWhole) (arg7 : Memref sig .tc .vmem S1x128x1024 .bf16) (harg7 : arg7.IsWhole) (arg8 : Memref sig .tc .vmem S2048x256 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x256 .f32) (harg11 : arg11.IsWhole) (v20 : BitVec 32) (c2_i32 : BitVec 32) (v195 : BitVec 32) (v200 : BitVec 32) (X_arg3 : BufTy.Contents (Elt Ideal) arg3.view.ty) (X_arg4 : BufTy.Contents (Elt Ideal) arg4.view.ty) (X_arg8 : BufTy.Contents (Elt Ideal) arg8.view.ty)
  {g : Fin 8} {x : Fin 256} {S : ℕ → EReal} {K : ℕ → Fin 256 → ℝ}

section
variable (k : Fin (k0_t1_loop i).trips) (f_arg9 : BufTy.Contents (Elt Ideal) arg9.view.ty) (f_arg10 : BufTy.Contents (Elt Ideal) arg10.view.ty) (f_arg11 : BufTy.Contents (Elt Ideal) arg11.view.ty)

/-- A load of a group of 256 rows reads the rows of the group. -/
theorem ld_group {W : ℕ} (X : Vec Ideal ⟨2, ![2048, W]⟩ .f32) (h : ∀ a, (![256 * g.val, 0] : Fin 2 → ℕ) a + (![256, W] : Fin 2 → ℕ) a ≤ (![2048, W] : Fin 2 → ℕ) a) (l : Fin W) :
    View.ld X (Rect.unit (s := ⟨2, ![2048, W]⟩) ![256 * g.val, 0] ![256, W] h) (ix2 x l) = X (ix2 (row g x) l) :=
  View.ld_unit_apply_of _ _ _ _ _ _ fun a => by
    fin_cases a
    · rfl
    · exact (Nat.zero_add _).symm

/-- One trip of the loop takes a row's state two blocks further. -/
theorem trip_row (s : Scores (View.read (Elt Ideal) arg8.view X_arg8) (View.read (Elt Ideal) arg3.view X_arg3) (View.read (Elt Ideal) arg4.view X_arg4) g x S K)
    (L9 L10 : List (View.Piece (Elt Ideal) S2048x128 .f32)) (L11 : List (View.Piece (Elt Ideal) S2048x256 .f32))
    (G_arg9 : BufTy.Contents (Elt Ideal) arg9.view.ty) (G_arg10 : BufTy.Contents (Elt Ideal) arg10.view.ty) (G_arg11 : BufTy.Contents (Elt Ideal) arg11.view.ty)
    (h : Row S K (2 * k.val) (fun l => View.read (Elt Ideal) arg9.view f_arg9 (ix2 (row g x) l)) (fun l => View.read (Elt Ideal) arg10.view f_arg10 (ix2 (row g x) l))
      (fun l => View.read (Elt Ideal) arg11.view f_arg11 (ix2 (row g x) l))) :
    Row S K (2 * (k.val + 1)) (fun l => View.read (Elt Ideal) arg9.view (arg9.view.writes (Elt Ideal) G_arg9 ((trip_k0_t1 (F := Ideal) 𝒱 c bd i arg2 harg2 arg3 harg3 arg4 harg4 arg5 harg5 arg6 harg6 arg7 harg7 arg8 harg8 arg9 harg9 arg10 harg10 arg11 harg11 v20 c2_i32 v195 v200 X_arg3 X_arg4 X_arg8 k).1 f_arg9 f_arg10 f_arg11 ++ L9)) (ix2 (row g x) l)) (fun l => View.read (Elt Ideal) arg10.view (arg10.view.writes (Elt Ideal) G_arg10 ((trip_k0_t1 (F := Ideal) 𝒱 c bd i arg2 harg2 arg3 harg3 arg4 harg4 arg5 harg5 arg6 harg6 arg7 harg7 arg8 harg8 arg9 harg9 arg10 harg10 arg11 harg11 v20 c2_i32 v195 v200 X_arg3 X_arg4 X_arg8 k).2.1 f_arg9 f_arg10 f_arg11 ++ L10)) (ix2 (row g x) l))
      (fun l => View.read (Elt Ideal) arg11.view (arg11.view.writes (Elt Ideal) G_arg11 ((trip_k0_t1 (F := Ideal) 𝒱 c bd i arg2 harg2 arg3 harg3 arg4 harg4 arg5 harg5 arg6 harg6 arg7 harg7 arg8 harg8 arg9 harg9 arg10 harg10 arg11 harg11 v20 c2_i32 v195 v200 X_arg3 X_arg4 X_arg8 k).2.2.1 f_arg9 f_arg10 f_arg11 ++ L11)) (ix2 (row g x) l)) := by
  have hk : k.val < 4 := k.isLt.trans_le (k0_t1_abs i).2.1
  rw [trip_m, trip_l, trip_a]
  rw [List.append_assoc, List.append_assoc, List.append_assoc]
  have hh : Row S K (2 * k.val) (fun l => View.ld (View.read (Elt Ideal) arg9.view f_arg9) (rows128 (256 * g) (inRows g)) (ix2 x l))
      (fun l => View.ld (View.read (Elt Ideal) arg10.view f_arg10) (rows128 (256 * g) (inRows g)) (ix2 x l))
      (fun c => View.ld (View.read (Elt Ideal) arg11.view f_arg11) (rows256 (256 * g) (wide (inRows g))) (ix2 x c)) := by
    refine cast ?_ h
    congr 1 <;> funext l
    · exact (ld_group _ _ l).symm
    · exact (ld_group _ _ l).symm
    · exact (ld_group _ _ l).symm
  have h2 := s.block (j := 2 * k.val + 1) (by omega) (k0_off3_inb i k) (k0_off4_inb i k)
    (by rw [k0_off3_eq]; congr 2; omega) (by rw [k0_off4_eq]; congr 3; omega)
    (s.block (j := 2 * k.val) (by omega) (k0_off1_inb i k) (k0_off2_inb i k)
      (by rw [k0_off1_eq]; congr 2; omega) (by rw [k0_off2_eq]; congr 3; omega) hh)
  refine cast ?_ h2
  congr 1 <;> funext l
  · symm; exact stack128_read _ _ _ _ g x l
  · symm; exact stack128_read _ _ _ _ g x l
  · symm; exact stack256_read _ _ _ _ g x l

end

/-- After `k` trips of the loop a row has seen `2 * k` blocks. -/
theorem loop_row (s : Scores (View.read (Elt Ideal) arg8.view X_arg8) (View.read (Elt Ideal) arg3.view X_arg3) (View.read (Elt Ideal) arg4.view X_arg4) g x S K)
    (G_arg9 : BufTy.Contents (Elt Ideal) arg9.view.ty) (G_arg10 : BufTy.Contents (Elt Ideal) arg10.view.ty) (G_arg11 : BufTy.Contents (Elt Ideal) arg11.view.ty)
    (h : Row S K (0) (fun l => View.read (Elt Ideal) arg9.view G_arg9 (ix2 (row g x) l)) (fun l => View.read (Elt Ideal) arg10.view G_arg10 (ix2 (row g x) l))
      (fun l => View.read (Elt Ideal) arg11.view G_arg11 (ix2 (row g x) l))) :
    ∀ k : ℕ, k ≤ (k0_t1_loop i).trips → Row S K (2 * k) (fun l => View.read (Elt Ideal) arg9.view (arg9.view.writes (Elt Ideal) G_arg9 (pb_k0_t1 (F := Ideal) 𝒱 c bd i arg2 harg2 arg3 harg3 arg4 harg4 arg5 harg5 arg6 harg6 arg7 harg7 arg8 harg8 arg9 harg9 arg10 harg10 arg11 harg11 v20 c2_i32 v195 v200 X_arg3 X_arg4 X_arg8 G_arg9 G_arg10 G_arg11 k).1) (ix2 (row g x) l)) (fun l => View.read (Elt Ideal) arg10.view (arg10.view.writes (Elt Ideal) G_arg10 (pb_k0_t1 (F := Ideal) 𝒱 c bd i arg2 harg2 arg3 harg3 arg4 harg4 arg5 harg5 arg6 harg6 arg7 harg7 arg8 harg8 arg9 harg9 arg10 harg10 arg11 harg11 v20 c2_i32 v195 v200 X_arg3 X_arg4 X_arg8 G_arg9 G_arg10 G_arg11 k).2.1) (ix2 (row g x) l))
      (fun l => View.read (Elt Ideal) arg11.view (arg11.view.writes (Elt Ideal) G_arg11 (pb_k0_t1 (F := Ideal) 𝒱 c bd i arg2 harg2 arg3 harg3 arg4 harg4 arg5 harg5 arg6 harg6 arg7 harg7 arg8 harg8 arg9 harg9 arg10 harg10 arg11 harg11 v20 c2_i32 v195 v200 X_arg3 X_arg4 X_arg8 G_arg9 G_arg10 G_arg11 k).2.2) (ix2 (row g x) l))
  | 0, _ => h
  | k + 1, hk => by
    have ih := loop_row s G_arg9 G_arg10 G_arg11 h k (by omega)
    have e := pb_k0_t1_succ (F := Ideal) 𝒱 c bd i arg2 harg2 arg3 harg3 arg4 harg4 arg5 harg5 arg6 harg6 arg7 harg7 arg8 harg8 arg9 harg9 arg10 harg10 arg11 harg11 v20 c2_i32 v195 v200 X_arg3 X_arg4 X_arg8 G_arg9 G_arg10 G_arg11 ⟨k, by omega⟩
    dsimp only at e
    rw [e]
    exact trip_row 𝒱 c bd i arg2 harg2 arg3 harg3 arg4 harg4 arg5 harg5 arg6 harg6 arg7 harg7 arg8 harg8 arg9 harg9 arg10 harg10 arg11 harg11 v20 c2_i32 v195 v200 X_arg3 X_arg4 X_arg8 ⟨k, by omega⟩ _ _ _ s _ _ _ _ _ _ ih

end Cert.KernelIdeal.Value
end
-- ==== Proof.AttnRun.lean ====
module

public import proofs.«01_k».proof.Proof.AttnLoop

@[expose] public section

set_option maxRecDepth 16384

noncomputable section

namespace Cert.KernelIdeal.Value

open Cert.KernelIdeal Cert.KernelIdeal.Gen Idealize.ShloMosaic Idealize.ShloMosaic.TcCoe Idealize.SL.Sem
open Cert.Attn

/-- One head's latent queries: the head's columns of the queries times its key weights, scaled. -/
def qHead (x0 : Vec Ideal S1x128x1024 .bf16) (w : Vec Ideal S1x64x256 .bf16) (o : ℕ) (hs : S128x1024.Slices ![0, o] S128x64) :
    FVec Ideal S128x256 .bf16 :=
  shapeCast S128x256 (truncf .bf16 (mulf
    (matmul (φ₂ := .bf16) dot_S128x64_S64x256_S128x256_1_0_0_1_n_n none (extractStridedSlice S128x64 ![0, o] (k0_pay371 x0) hs)
      (shapeCast S64x256 w shapeCasts_S1x64x256_S64x256) (constant S128x256 .f32 0x00000000#32))
    (broadcast S128x256 (Named.named (F := Ideal) κ "scale" 0x3E38AA3B#32))) bitsLt_bf16_f32) shapeCasts_S128x256_S128x256

/-- One head's result: its rows of the weighted latent sums times its value weights, over the rows' denominators. -/
def outHead (d : FVec Ideal S2048x1 .f32) (a : Vec Ideal S128x256 .f32) (w : Vec Ideal S1x256x64 .bf16) (o : ℕ)
    (hs : S2048x1.Slices ![o, 0] S128x1) : FVec Ideal S1x128x64 .bf16 :=
  shapeCast S1x128x64 (truncf .bf16 (mulf
    (matmul (φ₂ := .bf16) dot_S128x256_S256x64_S128x64_1_0_0_1_n_n none (truncf .bf16 a bitsLt_bf16_f32)
      (shapeCast S256x64 w shapeCasts_S1x256x64_S256x64) (constant S128x64 .f32 0x00000000#32))
    (broadcastTo S128x64 (extractStridedSlice S128x1 ![o, 0] d hs) broadcasts_S128x1_S128x64)) bitsLt_bf16_f32) shapeCasts_S128x64_S1x128x64

theorem q_rows (h : Fin 16) : ∀ a, (![128 * h.val, 0] : Fin 2 → ℕ) a + S128x256.size a ≤ S2048x256.size a := by
  intro a; have := h.isLt; fin_cases a
  · show 128 * h.val + 128 ≤ 2048; omega
  · show 0 + 256 ≤ 256; omega

theorem q_cols (h : Fin 16) : S128x1024.Slices ![0, 64 * h.val] S128x64 := by
  fin_cases h <;> decide

theorem q_head (h : Fin 16) : ∀ a, (![h.val, 0, 0] : Fin 3 → ℕ) a + S1x64x256.size a ≤ S16x64x256.size a := by
  fin_cases h <;> decide

theorem o_head (h : Fin 16) : ∀ a, (![h.val, 0, 0] : Fin 3 → ℕ) a + S1x256x64.size a ≤ S16x256x64.size a := by
  fin_cases h <;> decide

theorem o_rows (h : Fin 16) : S2048x1.Slices ![128 * h.val, 0] S128x1 := by
  fin_cases h <;> decide

theorem o_cols (h : Fin 16) : ∀ a, (![0, 0, 64 * h.val] : Fin 3 → ℕ) a + S1x128x64.size a ≤ S1x128x1024.size a := by
  fin_cases h <;> decide

/-- Head `h`'s store of latent queries, 128 rows. -/
def qPiece (x0 : Vec Ideal S1x128x1024 .bf16) (x3 : Vec Ideal S16x64x256 .bf16) (h : Fin 16) : View.Piece (Elt Ideal) S2048x256 .bf16 :=
  ⟨Rect.unit (s := S2048x256) ![128 * h.val, 0] S128x256.size (q_rows h),
    qHead x0 (View.ld x3 (Rect.unit (s := S16x64x256) ![h.val, 0, 0] S1x64x256.size (q_head h))) (64 * h.val) (q_cols h)⟩

/-- The sixteen heads' stores of latent queries, the last first. -/
def qStores (x0 : Vec Ideal S1x128x1024 .bf16) (x3 : Vec Ideal S16x64x256 .bf16) : List (View.Piece (Elt Ideal) S2048x256 .bf16) :=
  List.ofFn fun k : Fin 16 => qPiece x0 x3 k.rev

section
variable {sp : Space} (va : View sig .tc sp S2048x256 .f32) (L : List (View.Piece (Elt Ideal) S2048x256 .f32))
  (d : FVec Ideal S2048x1 .f32) (x4 : Vec Ideal S16x256x64 .bf16)

/-- Head `h`'s store of results, 64 columns. -/
def outPiece (h : Fin 16) : View.Piece (Elt Ideal) S1x128x1024 .bf16 :=
  ⟨Rect.unit (s := S1x128x1024) ![0, 0, 64 * h.val] S1x128x64.size (o_cols h),
    outHead d (va.readCov L (Rect.unit (s := S2048x256) ![128 * h.val, 0] S128x256.size (q_rows h)).toLoadRect)
      (View.ld x4 (Rect.unit (s := S16x256x64) ![h.val, 0, 0] S1x256x64.size (o_head h))) (128 * h.val) (o_rows h)⟩

/-- The sixteen heads' stores of results, the last first. -/
def outStores : List (View.Piece (Elt Ideal) S1x128x1024 .bf16) :=
  List.ofFn fun k : Fin 16 => outPiece va L d x4 k.rev

theorem outStores_eq : outStores va L d x4 = [outPiece va L d x4 15, outPiece va L d x4 14, outPiece va L d x4 13, outPiece va L d x4 12, outPiece va L d x4 11, outPiece va L d x4 10, outPiece va L d x4 9, outPiece va L d x4 8, outPiece va L d x4 7, outPiece va L d x4 6, outPiece va L d x4 5, outPiece va L d x4 4, outPiece va L d x4 3, outPiece va L d x4 2, outPiece va L d x4 1, outPiece va L d x4 0] := rfl

end

/-- The running maxima's first store. -/
abbrev firstM : List (View.Piece (Elt Ideal) S2048x128 .f32) :=
  [⟨Rect.unit (s := S2048x128) ![0, 0] S2048x128.size inb_S2048x128_S2048x128_0_0, k0_pay393 (F := Ideal)⟩]

/-- The running denominators' first store. -/
abbrev firstL : List (View.Piece (Elt Ideal) S2048x128 .f32) :=
  [⟨Rect.unit (s := S2048x128) ![0, 0] S2048x128.size inb_S2048x128_S2048x128_0_0, k0_pay394 (F := Ideal)⟩]

/-- The running numerators' first store. -/
abbrev firstA : List (View.Piece (Elt Ideal) S2048x256 .f32) :=
  [⟨Rect.unit (s := S2048x256) ![0, 0] S2048x256.size inb_S2048x256_S2048x256_0_0, k0_pay395 (F := Ideal)⟩]

section
variable (c : Dev nD) (i : grid0.Coords) (arg2 : Memref sig .tc .vmem S1x128x1024 .bf16) (harg2 : arg2.IsWhole) (arg3 : Memref sig .tc .vmem S1x4096x256 .bf16) (harg3 : arg3.IsWhole) (arg4 : Memref sig .tc .vmem S1x128x4096 .i8) (harg4 : arg4.IsWhole) (arg5 : Memref sig .tc .vmem S16x64x256 .bf16) (harg5 : arg5.IsWhole) (arg6 : Memref sig .tc .vmem S16x256x64 .bf16) (harg6 : arg6.IsWhole) (arg7 : Memref sig .tc .vmem S1x128x1024 .bf16) (harg7 : arg7.IsWhole) (arg8 : Memref sig .tc .vmem S2048x256 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x256 .f32) (harg11 : arg11.IsWhole)  (x0 : Vec Ideal S1x128x1024 .bf16) (x1 : Vec Ideal S1x4096x256 .bf16) (x2 : Vec Ideal S1x128x4096 .i8) (x3 : Vec Ideal S16x64x256 .bf16) (x4 : Vec Ideal S16x256x64 .bf16)

/-- The stores of the loop over pairs of blocks. -/
abbrev loopStores (qs : List (View.Piece (Elt Ideal) S2048x256 .bf16)) (v20 c2 v195 v200 : BitVec 32) :
    List (View.Piece (Elt Ideal) S2048x128 .f32) × List (View.Piece (Elt Ideal) S2048x128 .f32) × List (View.Piece (Elt Ideal) S2048x256 .f32) :=
  pb_k0_t1 (F := Ideal) Variants.none c none i arg2 harg2 arg3 harg3 arg4 harg4 arg5 harg5 arg6 harg6 arg7 harg7 arg8 harg8 arg9 harg9 arg10 harg10 arg11 harg11 v20 c2 v195 v200 (harg3.unread x1) (harg4.unread x2) (arg8.view.writes (Elt Ideal) arg8.view.junk qs) (arg9.view.writes (Elt Ideal) arg9.view.junk firstM) (arg10.view.writes (Elt Ideal) arg10.view.junk firstL) (arg11.view.writes (Elt Ideal) arg11.view.junk firstA) (k0_t1_loop i).trips

/-- The second loop makes no trip. -/
theorem no_trip : (k0_t2_loop i).trips = 0 := Nat.le_zero.mp (k0_t2_abs i).2.1

set_option maxHeartbeats 4000000 in
/-- What a launch's step stores where the blocks are even in number, with the second loop's stores. -/
theorem run_even_loops (hc0 : ¬cond0_0 i) : ∃ (v20 c2 v195 v200 u20 d2 u195 u200 u216 : BitVec 32)
    (G9 : BufTy.Contents (Elt Ideal) arg9.view.ty) (G10 : BufTy.Contents (Elt Ideal) arg10.view.ty) (G11 : BufTy.Contents (Elt Ideal) arg11.view.ty), (kernelRun0_B (F := Ideal) c i arg2 harg2 arg3 harg3 arg4 harg4 arg5 harg5 arg6 harg6 arg7 harg7 arg8 harg8 arg9 harg9 arg10 harg10 arg11 harg11 hc0 x0 x1 x2 x3 x4).1
    = outStores arg11.view ((pb_k0_t2 (F := Ideal) Variants.none c none i arg2 harg2 arg3 harg3 arg4 harg4 arg5 harg5 arg6 harg6 arg7 harg7 arg8 harg8 arg9 harg9 arg10 harg10 arg11 harg11 u20 d2 u195 u200 u216 (harg3.unread x1) (harg4.unread x2) (arg8.view.writes (Elt Ideal) arg8.view.junk (qStores x0 x3)) G9 G10 G11 (k0_t2_loop i).trips).2.2 ++ ((loopStores c i arg2 harg2 arg3 harg3 arg4 harg4 arg5 harg5 arg6 harg6 arg7 harg7 arg8 harg8 arg9 harg9 arg10 harg10 arg11 harg11 x1 x2 (qStores x0 x3) v20 c2 v195 v200).2.2 ++ firstA))
        (k0_pay398 (arg10.view.readCov ((pb_k0_t2 (F := Ideal) Variants.none c none i arg2 harg2 arg3 harg3 arg4 harg4 arg5 harg5 arg6 harg6 arg7 harg7 arg8 harg8 arg9 harg9 arg10 harg10 arg11 harg11 u20 d2 u195 u200 u216 (harg3.unread x1) (harg4.unread x2) (arg8.view.writes (Elt Ideal) arg8.view.junk (qStores x0 x3)) G9 G10 G11 (k0_t2_loop i).trips).2.1 ++ ((loopStores c i arg2 harg2 arg3 harg3 arg4 harg4 arg5 harg5 arg6 harg6 arg7 harg7 arg8 harg8 arg9 harg9 arg10 harg10 arg11 harg11 x1 x2 (qStores x0 x3) v20 c2 v195 v200).2.1 ++ firstL)) (Rect.unit (s := S2048x128) ![0, 0] S2048x128.size inb_S2048x128_S2048x128_0_0).toLoadRect)) x4 := by
  iterate 12 apply Exists.intro
  unfold kernelRun0_B
  dsimp only
  frame_out
  rfl

/-- What a launch's step stores where the blocks are even in number: the heads' results after the loop. -/
theorem run_even (hc0 : ¬cond0_0 i) : ∃ v20 c2 v195 v200 : BitVec 32, (kernelRun0_B (F := Ideal) c i arg2 harg2 arg3 harg3 arg4 harg4 arg5 harg5 arg6 harg6 arg7 harg7 arg8 harg8 arg9 harg9 arg10 harg10 arg11 harg11 hc0 x0 x1 x2 x3 x4).1
    = outStores arg11.view ((loopStores c i arg2 harg2 arg3 harg3 arg4 harg4 arg5 harg5 arg6 harg6 arg7 harg7 arg8 harg8 arg9 harg9 arg10 harg10 arg11 harg11 x1 x2 (qStores x0 x3) v20 c2 v195 v200).2.2 ++ firstA)
        (k0_pay398 (arg10.view.readCov ((loopStores c i arg2 harg2 arg3 harg3 arg4 harg4 arg5 harg5 arg6 harg6 arg7 harg7 arg8 harg8 arg9 harg9 arg10 harg10 arg11 harg11 x1 x2 (qStores x0 x3) v20 c2 v195 v200).2.1 ++ firstL) (Rect.unit (s := S2048x128) ![0, 0] S2048x128.size inb_S2048x128_S2048x128_0_0).toLoadRect)) x4 := by
  obtain ⟨v20, c2, v195, v200, u20, d2, u195, u200, u216, G9, G10, G11, h⟩ := run_even_loops c i arg2 harg2 arg3 harg3 arg4 harg4 arg5 harg5 arg6 harg6 arg7 harg7 arg8 harg8 arg9 harg9 arg10 harg10 arg11 harg11 x0 x1 x2 x3 x4 hc0
  rw [no_trip i] at h
  exact ⟨v20, c2, v195, v200, h⟩

set_option maxHeartbeats 4000000 in
/-- What a launch's step stores where the blocks are odd in number, with the second loop's stores: one more block is
    done between the loops and the heads' results. -/
theorem run_odd_loops (hc0 : cond0_0 i) : ∃ (v20 c2 v195 v200 u20 d2 u195 u200 u216 : BitVec 32)
    (G9 : BufTy.Contents (Elt Ideal) arg9.view.ty) (G10 : BufTy.Contents (Elt Ideal) arg10.view.ty) (G11 : BufTy.Contents (Elt Ideal) arg11.view.ty)
    (qs : List (View.Piece (Elt Ideal) S2048x256 .bf16)) (LA : List (View.Piece (Elt Ideal) S2048x256 .f32)) (LL : List (View.Piece (Elt Ideal) S2048x128 .f32)), (kernelRun0_A (F := Ideal) c i arg2 harg2 arg3 harg3 arg4 harg4 arg5 harg5 arg6 harg6 arg7 harg7 arg8 harg8 arg9 harg9 arg10 harg10 arg11 harg11 hc0 x0 x1 x2 x3 x4).1
    = outStores arg11.view LA
        (k0_pay398 (arg10.view.readCov LL (Rect.unit (s := S2048x128) ![0, 0] S2048x128.size inb_S2048x128_S2048x128_0_0).toLoadRect)) (View.read (Elt Ideal) arg6.view (harg6.unread x4))
    ∧ LA = chainA arg9.view arg11.view
          (fun o h M => newM (View.ld (View.read (Elt Ideal) arg3.view (harg3.unread x1)) (Rect.unit (s := S1x4096x256) (k0_off9 i) S1x512x256.size (k0_off9_inb i hc0))) (View.ld (View.read (Elt Ideal) arg4.view (harg4.unread x2)) (Rect.unit (s := S1x128x4096) (k0_off10 i) S1x128x512.size (k0_off10_inb i hc0)))
            (arg8.view.readCov qs (rows256 o (wide h)).toLoadRect) M)
          (fun o h M A => newA (View.ld (View.read (Elt Ideal) arg3.view (harg3.unread x1)) (Rect.unit (s := S1x4096x256) (k0_off9 i) S1x512x256.size (k0_off9_inb i hc0))) (View.ld (View.read (Elt Ideal) arg4.view (harg4.unread x2)) (Rect.unit (s := S1x128x4096) (k0_off10 i) S1x128x512.size (k0_off10_inb i hc0)))
            (arg8.view.readCov qs (rows256 o (wide h)).toLoadRect) M A)
          ((pb_k0_t2 (F := Ideal) Variants.none c none i arg2 harg2 arg3 harg3 arg4 harg4 arg5 harg5 arg6 harg6 arg7 harg7 arg8 harg8 arg9 harg9 arg10 harg10 arg11 harg11 u20 d2 u195 u200 u216 (harg3.unread x1) (harg4.unread x2) (arg8.view.writes (Elt Ideal) arg8.view.junk qs) G9 G10 G11 (k0_t2_loop i).trips).1 ++ ((loopStores c i arg2 harg2 arg3 harg3 arg4 harg4 arg5 harg5 arg6 harg6 arg7 harg7 arg8 harg8 arg9 harg9 arg10 harg10 arg11 harg11 x1 x2 qs v20 c2 v195 v200).1 ++ firstM)) ((pb_k0_t2 (F := Ideal) Variants.none c none i arg2 harg2 arg3 harg3 arg4 harg4 arg5 harg5 arg6 harg6 arg7 harg7 arg8 harg8 arg9 harg9 arg10 harg10 arg11 harg11 u20 d2 u195 u200 u216 (harg3.unread x1) (harg4.unread x2) (arg8.view.writes (Elt Ideal) arg8.view.junk qs) G9 G10 G11 (k0_t2_loop i).trips).2.2 ++ ((loopStores c i arg2 harg2 arg3 harg3 arg4 harg4 arg5 harg5 arg6 harg6 arg7 harg7 arg8 harg8 arg9 harg9 arg10 harg10 arg11 harg11 x1 x2 qs v20 c2 v195 v200).2.2 ++ firstA))
    ∧ LL = chainL arg9.view arg10.view
          (fun o h M => newM (View.ld (View.read (Elt Ideal) arg3.view (harg3.unread x1)) (Rect.unit (s := S1x4096x256) (k0_off9 i) S1x512x256.size (k0_off9_inb i hc0))) (View.ld (View.read (Elt Ideal) arg4.view (harg4.unread x2)) (Rect.unit (s := S1x128x4096) (k0_off10 i) S1x128x512.size (k0_off10_inb i hc0)))
            (arg8.view.readCov qs (rows256 o (wide h)).toLoadRect) M)
          (fun o h M L => newL (View.ld (View.read (Elt Ideal) arg3.view (harg3.unread x1)) (Rect.unit (s := S1x4096x256) (k0_off9 i) S1x512x256.size (k0_off9_inb i hc0))) (View.ld (View.read (Elt Ideal) arg4.view (harg4.unread x2)) (Rect.unit (s := S1x128x4096) (k0_off10 i) S1x128x512.size (k0_off10_inb i hc0)))
            (arg8.view.readCov qs (rows256 o (wide h)).toLoadRect) M L)
          ((pb_k0_t2 (F := Ideal) Variants.none c none i arg2 harg2 arg3 harg3 arg4 harg4 arg5 harg5 arg6 harg6 arg7 harg7 arg8 harg8 arg9 harg9 arg10 harg10 arg11 harg11 u20 d2 u195 u200 u216 (harg3.unread x1) (harg4.unread x2) (arg8.view.writes (Elt Ideal) arg8.view.junk qs) G9 G10 G11 (k0_t2_loop i).trips).1 ++ ((loopStores c i arg2 harg2 arg3 harg3 arg4 harg4 arg5 harg5 arg6 harg6 arg7 harg7 arg8 harg8 arg9 harg9 arg10 harg10 arg11 harg11 x1 x2 qs v20 c2 v195 v200).1 ++ firstM)) ((pb_k0_t2 (F := Ideal) Variants.none c none i arg2 harg2 arg3 harg3 arg4 harg4 arg5 harg5 arg6 harg6 arg7 harg7 arg8 harg8 arg9 harg9 arg10 harg10 arg11 harg11 u20 d2 u195 u200 u216 (harg3.unread x1) (harg4.unread x2) (arg8.view.writes (Elt Ideal) arg8.view.junk qs) G9 G10 G11 (k0_t2_loop i).trips).2.1 ++ ((loopStores c i arg2 harg2 arg3 harg3 arg4 harg4 arg5 harg5 arg6 harg6 arg7 harg7 arg8 harg8 arg9 harg9 arg10 harg10 arg11 harg11 x1 x2 qs v20 c2 v195 v200).2.1 ++ firstL))
    ∧ qs = qStores (View.ld (View.read (Elt Ideal) arg2.view (harg2.unread x0)) (Rect.unit (s := S1x128x1024) ![0, 0, 0] S1x128x1024.size inb_S1x128x1024_S1x128x1024_0_0_0)) (View.read (Elt Ideal) arg5.view (harg5.unread x3)) := by
  iterate 15 apply Exists.intro
  refine ⟨?run, ?A, ?L, ?qs⟩
  case run =>
    unfold kernelRun0_A
    dsimp only
    frame_open
    exact rfl
  case A => exact rfl
  case L => exact rfl
  case qs => exact rfl

/-- The rows of keys and values of the last block, where the blocks are odd in number. -/
abbrev lastKV (hc0 : cond0_0 i) : Vec Ideal S1x512x256 .bf16 :=
  View.ld x1 (Rect.unit (s := S1x4096x256) (k0_off9 i) S1x512x256.size (k0_off9_inb i hc0))

/-- The columns of the selection of the last block. -/
abbrev lastMask (hc0 : cond0_0 i) : Vec Ideal S1x128x512 .i8 :=
  View.ld x2 (Rect.unit (s := S1x128x4096) (k0_off10 i) S1x128x512.size (k0_off10_inb i hc0))

set_option maxHeartbeats 4000000 in
/-- What a launch's step stores where the blocks are odd in number: the heads' results after the loop and one block
    more. -/
theorem run_odd (hc0 : cond0_0 i) : ∃ v20 c2 v195 v200 : BitVec 32, (kernelRun0_A (F := Ideal) c i arg2 harg2 arg3 harg3 arg4 harg4 arg5 harg5 arg6 harg6 arg7 harg7 arg8 harg8 arg9 harg9 arg10 harg10 arg11 harg11 hc0 x0 x1 x2 x3 x4).1
    = outStores arg11.view
        (chainA arg9.view arg11.view
          (fun o h M => newM (lastKV i x1 hc0) (lastMask i x2 hc0) (arg8.view.readCov (qStores x0 x3) (rows256 o (wide h)).toLoadRect) M)
          (fun o h M A => newA (lastKV i x1 hc0) (lastMask i x2 hc0) (arg8.view.readCov (qStores x0 x3) (rows256 o (wide h)).toLoadRect) M A)
          ((loopStores c i arg2 harg2 arg3 harg3 arg4 harg4 arg5 harg5 arg6 harg6 arg7 harg7 arg8 harg8 arg9 harg9 arg10 harg10 arg11 harg11 x1 x2 (qStores x0 x3) v20 c2 v195 v200).1 ++ firstM) ((loopStores c i arg2 harg2 arg3 harg3 arg4 harg4 arg5 harg5 arg6 harg6 arg7 harg7 arg8 harg8 arg9 harg9 arg10 harg10 arg11 harg11 x1 x2 (qStores x0 x3) v20 c2 v195 v200).2.2 ++ firstA))
        (k0_pay398 (arg10.view.readCov (chainL arg9.view arg10.view
          (fun o h M => newM (lastKV i x1 hc0) (lastMask i x2 hc0) (arg8.view.readCov (qStores x0 x3) (rows256 o (wide h)).toLoadRect) M)
          (fun o h M L => newL (lastKV i x1 hc0) (lastMask i x2 hc0) (arg8.view.readCov (qStores x0 x3) (rows256 o (wide h)).toLoadRect) M L)
          ((loopStores c i arg2 harg2 arg3 harg3 arg4 harg4 arg5 harg5 arg6 harg6 arg7 harg7 arg8 harg8 arg9 harg9 arg10 harg10 arg11 harg11 x1 x2 (qStores x0 x3) v20 c2 v195 v200).1 ++ firstM) ((loopStores c i arg2 harg2 arg3 harg3 arg4 harg4 arg5 harg5 arg6 harg6 arg7 harg7 arg8 harg8 arg9 harg9 arg10 harg10 arg11 harg11 x1 x2 (qStores x0 x3) v20 c2 v195 v200).2.1 ++ firstL))
          (Rect.unit (s := S2048x128) ![0, 0] S2048x128.size inb_S2048x128_S2048x128_0_0).toLoadRect)) x4 := by
  obtain ⟨v20, c2, v195, v200, u20, d2, u195, u200, u216, G9, G10, G11, qs, LA, LL, h, hA, hL, hq⟩ := run_odd_loops c i arg2 harg2 arg3 harg3 arg4 harg4 arg5 harg5 arg6 harg6 arg7 harg7 arg8 harg8 arg9 harg9 arg10 harg10 arg11 harg11 x0 x1 x2 x3 x4 hc0
  rw [no_trip i] at hA hL
  simp only [harg2.read_unread, harg3.read_unread, harg4.read_unread, harg5.read_unread, harg6.read_unread] at h hA hL hq
  have hx : View.ld x0 (Rect.unit (s := S1x128x1024) ![0, 0, 0] S1x128x1024.size inb_S1x128x1024_S1x128x1024_0_0_0) = x0 := by
    simp (disch := decide) only [View.ld_unit_lit']
  rw [hx] at hq
  refine ⟨v20, c2, v195, v200, h.trans ?_⟩
  subst hq hA hL
  rfl

end

end Cert.KernelIdeal.Value
end
-- ==== Proof.AttnState.lean ====
module

public import proofs.«01_k».proof.Proof.AttnRun

@[expose] public section

set_option maxRecDepth 16384

noncomputable section

namespace Cert.KernelIdeal.Value

open Cert.KernelIdeal Cert.KernelIdeal.Gen Idealize.ShloMosaic Idealize.ShloMosaic.TcCoe Idealize.SL.Sem
open Cert.Attn

section
variable {sp sp' : Space} (va : View sig .tc sp S2048x128 .f32)

set_option maxHeartbeats 4000000 in
/-- A block's stores, one for each group, each of what the buffers held before the block. -/
theorem chainL_stores (vb : View sig .tc sp' S2048x128 .f32) (F : (o : ℕ) → InRows o → Vec Ideal S256x128 .f32 → FVec Ideal S256x128 .f32)
    (G : (o : ℕ) → InRows o → Vec Ideal S256x128 .f32 → Vec Ideal S256x128 .f32 → FVec Ideal S256x128 .f32)
    (L0 : List (View.Piece (Elt Ideal) S2048x128 .f32)) (N0 : List (View.Piece (Elt Ideal) S2048x128 .f32)) :
    chainL va vb F G L0 N0
      = stack128 (fun o h => G o h (va.readCov L0 (rows128 o h).toLoadRect) (vb.readCov N0 (rows128 o h).toLoadRect)) ++ N0 := by
  unfold chainL stack128
  dsimp only [List.cons_append, List.nil_append]
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
  all_goals
    repeat rw [View.readCov_skip va _ _ _ _ rfl]
    repeat rw [View.readCov_skip vb _ _ _ _ rfl]
  rfl

set_option maxHeartbeats 4000000 in
/-- A block's stores, one for each group, each of what the buffers held before the block. -/
theorem chainA_stores (vb : View sig .tc sp' S2048x256 .f32) (F : (o : ℕ) → InRows o → Vec Ideal S256x128 .f32 → FVec Ideal S256x128 .f32)
    (G : (o : ℕ) → InRows o → Vec Ideal S256x128 .f32 → Vec Ideal S256x256 .f32 → FVec Ideal S256x256 .f32)
    (L0 : List (View.Piece (Elt Ideal) S2048x128 .f32)) (N0 : List (View.Piece (Elt Ideal) S2048x256 .f32)) :
    chainA va vb F G L0 N0
      = stack256 (fun o h => G o h (va.readCov L0 (rows128 o h).toLoadRect) (vb.readCov N0 (rows256 o (wide h)).toLoadRect)) ++ N0 := by
  unfold chainA stack256
  dsimp only [List.cons_append, List.nil_append]
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
  all_goals
    repeat rw [View.readCov_skip va _ _ _ _ rfl]
    repeat rw [View.readCov_skip vb _ _ _ _ rfl]
  rfl

end

/-- A load of a buffer that holds stores reads what they leave. -/
theorem readCov_ld {sp : Space} {s : Shape} {e : EltTy} (v : View sig .tc sp s e) (L : List (View.Piece (Elt Ideal) s e)) (r : Rect s) :
    v.readCov L r.toLoadRect = View.ld (View.canon L) r := by
  rw [View.readCov_eq_canon']

/-- The loop makes half as many trips as there are blocks up to the step's queries. -/
theorem trips_eq (i : grid0.Coords) : (k0_t1_loop i).trips = ((i 1).val / 4 + 1) / 2 := by
  unfold k0_t1_loop
  generalize i 1 = z
  revert z
  decide +kernel

/-- Before the loop every running maximum is minus infinity. -/
theorem firstM_at (y : S2048x128.Idx) : View.canon firstM y = (⊥ : EReal) := by
  simp (disch := decide) only [View.canon_cons_unit_lit']
  idx_vars y
  pointwise [k0_pay393]
  exact negInf

/-- Before the loop every running denominator is zero. -/
theorem firstL_at (y : S2048x128.Idx) : View.canon firstL y = (0 : EReal) := by
  simp (disch := decide) only [View.canon_cons_unit_lit']
  idx_vars y
  pointwise [k0_pay394]

/-- Before the loop every running numerator is zero. -/
theorem firstA_at (y : S2048x256.Idx) : View.canon firstA y = (0 : EReal) := by
  simp (disch := decide) only [View.canon_cons_unit_lit']
  idx_vars y
  pointwise [k0_pay395]

section
variable (c : Dev nD) (i : grid0.Coords) (arg2 : Memref sig .tc .vmem S1x128x1024 .bf16) (harg2 : arg2.IsWhole) (arg3 : Memref sig .tc .vmem S1x4096x256 .bf16) (harg3 : arg3.IsWhole) (arg4 : Memref sig .tc .vmem S1x128x4096 .i8) (harg4 : arg4.IsWhole) (arg5 : Memref sig .tc .vmem S16x64x256 .bf16) (harg5 : arg5.IsWhole) (arg6 : Memref sig .tc .vmem S16x256x64 .bf16) (harg6 : arg6.IsWhole) (arg7 : Memref sig .tc .vmem S1x128x1024 .bf16) (harg7 : arg7.IsWhole) (arg8 : Memref sig .tc .vmem S2048x256 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x256 .f32) (harg11 : arg11.IsWhole)  (x0 : Vec Ideal S1x128x1024 .bf16) (x1 : Vec Ideal S1x4096x256 .bf16) (x2 : Vec Ideal S1x128x4096 .i8) (x3 : Vec Ideal S16x64x256 .bf16) (x4 : Vec Ideal S16x256x64 .bf16)

/-- The rows after the loop. -/
theorem loop_rows (v20 c2 v195 v200 : BitVec 32) {g : Fin 8} {x : Fin 256} {S : ℕ → EReal} {K : ℕ → Fin 256 → ℝ}
    (s : Scores (View.canon (qStores x0 x3)) x1 x2 g x S K) :
    Row S K (2 * (((i 1).val / 4 + 1) / 2)) (fun l => View.canon ((loopStores c i arg2 harg2 arg3 harg3 arg4 harg4 arg5 harg5 arg6 harg6 arg7 harg7 arg8 harg8 arg9 harg9 arg10 harg10 arg11 harg11 x1 x2 (qStores x0 x3) v20 c2 v195 v200).1 ++ firstM) (ix2 (row g x) l))
      (fun l => View.canon ((loopStores c i arg2 harg2 arg3 harg3 arg4 harg4 arg5 harg5 arg6 harg6 arg7 harg7 arg8 harg8 arg9 harg9 arg10 harg10 arg11 harg11 x1 x2 (qStores x0 x3) v20 c2 v195 v200).2.1 ++ firstL) (ix2 (row g x) l))
      (fun l => View.canon ((loopStores c i arg2 harg2 arg3 harg3 arg4 harg4 arg5 harg5 arg6 harg6 arg7 harg7 arg8 harg8 arg9 harg9 arg10 harg10 arg11 harg11 x1 x2 (qStores x0 x3) v20 c2 v195 v200).2.2 ++ firstA) (ix2 (row g x) l)) := by
  have s' : Scores (View.read (Elt Ideal) arg8.view (arg8.view.writes (Elt Ideal) arg8.view.junk (qStores x0 x3)))
      (View.read (Elt Ideal) arg3.view (harg3.unread x1)) (View.read (Elt Ideal) arg4.view (harg4.unread x2)) g x S K := by
    rw [View.read_writes_junk_eq_canon, harg3.read_unread, harg4.read_unread]; exact s
  have h0 : Row S K 0 (fun l => View.read (Elt Ideal) arg9.view (arg9.view.writes (Elt Ideal) arg9.view.junk firstM) (ix2 (row g x) l))
      (fun l => View.read (Elt Ideal) arg10.view (arg10.view.writes (Elt Ideal) arg10.view.junk firstL) (ix2 (row g x) l))
      (fun l => View.read (Elt Ideal) arg11.view (arg11.view.writes (Elt Ideal) arg11.view.junk firstA) (ix2 (row g x) l)) := by
    simp only [View.read_writes_junk_eq_canon, firstM_at, firstL_at, firstA_at]
    exact Row.zero S K
  have h := loop_row Variants.none c none i arg2 harg2 arg3 harg3 arg4 harg4 arg5 harg5 arg6 harg6 arg7 harg7 arg8 harg8 arg9 harg9 arg10 harg10 arg11 harg11 v20 c2 v195 v200 _ _ _ s' _ _ _ h0 _ le_rfl
  rw [trips_eq i] at h
  simp only [← View.writes_append, View.read_writes_junk_eq_canon] at h
  unfold loopStores
  rw [trips_eq i]
  exact h

/-- Where the blocks are even in number: what is stored, and the rows' final state. -/
theorem rows_even (hc0 : ¬cond0_0 i) (hi : 4 ≤ (i 1).val % 8) : ∃ (LA : List (View.Piece (Elt Ideal) S2048x256 .f32)) (LL : List (View.Piece (Elt Ideal) S2048x128 .f32)),
    (kernelRun0_B (F := Ideal) c i arg2 harg2 arg3 harg3 arg4 harg4 arg5 harg5 arg6 harg6 arg7 harg7 arg8 harg8 arg9 harg9 arg10 harg10 arg11 harg11 hc0 x0 x1 x2 x3 x4).1
      = outStores arg11.view LA
          (k0_pay398 (arg10.view.readCov LL (Rect.unit (s := S2048x128) ![0, 0] S2048x128.size inb_S2048x128_S2048x128_0_0).toLoadRect)) x4
    ∧ ∀ (g : Fin 8) (x : Fin 256) (S : ℕ → EReal) (K : ℕ → Fin 256 → ℝ), Scores (View.canon (qStores x0 x3)) x1 x2 g x S K →
        ∃ M, Row S K ((i 1).val / 4 + 1) M (fun l => View.canon LL (ix2 (row g x) l)) (fun l => View.canon LA (ix2 (row g x) l)) := by
  obtain ⟨v20, c2, v195, v200, h⟩ := run_even c i arg2 harg2 arg3 harg3 arg4 harg4 arg5 harg5 arg6 harg6 arg7 harg7 arg8 harg8 arg9 harg9 arg10 harg10 arg11 harg11 x0 x1 x2 x3 x4 hc0
  refine ⟨_, _, h, fun g x S K s => ?_⟩
  have hl := loop_rows c i arg2 harg2 arg3 harg3 arg4 harg4 arg5 harg5 arg6 harg6 arg7 harg7 arg8 harg8 arg9 harg9 arg10 harg10 arg11 harg11 x0 x1 x2 x3 v20 c2 v195 v200 s
  rw [show 2 * (((i 1).val / 4 + 1) / 2) = (i 1).val / 4 + 1 by omega] at hl
  exact ⟨_, hl⟩

/-- Where the blocks are odd in number: what is stored, and the rows' final state. -/
theorem rows_odd (hc0 : cond0_0 i) (hi : (i 1).val % 8 < 4) : ∃ (LA : List (View.Piece (Elt Ideal) S2048x256 .f32)) (LL : List (View.Piece (Elt Ideal) S2048x128 .f32)),
    (kernelRun0_A (F := Ideal) c i arg2 harg2 arg3 harg3 arg4 harg4 arg5 harg5 arg6 harg6 arg7 harg7 arg8 harg8 arg9 harg9 arg10 harg10 arg11 harg11 hc0 x0 x1 x2 x3 x4).1
      = outStores arg11.view LA
          (k0_pay398 (arg10.view.readCov LL (Rect.unit (s := S2048x128) ![0, 0] S2048x128.size inb_S2048x128_S2048x128_0_0).toLoadRect)) x4
    ∧ ∀ (g : Fin 8) (x : Fin 256) (S : ℕ → EReal) (K : ℕ → Fin 256 → ℝ), Scores (View.canon (qStores x0 x3)) x1 x2 g x S K →
        ∃ M, Row S K ((i 1).val / 4 + 1) M (fun l => View.canon LL (ix2 (row g x) l)) (fun l => View.canon LA (ix2 (row g x) l)) := by
  obtain ⟨v20, c2, v195, v200, h⟩ := run_odd c i arg2 harg2 arg3 harg3 arg4 harg4 arg5 harg5 arg6 harg6 arg7 harg7 arg8 harg8 arg9 harg9 arg10 harg10 arg11 harg11 x0 x1 x2 x3 x4 hc0
  have hr : (i 1).val < 32 := (i 1).isLt
  rw [chainA_stores, chainL_stores] at h
  refine ⟨_, _, h, fun g x S K s => ?_⟩
  have hl := loop_rows c i arg2 harg2 arg3 harg3 arg4 harg4 arg5 harg5 arg6 harg6 arg7 harg7 arg8 harg8 arg9 harg9 arg10 harg10 arg11 harg11 x0 x1 x2 x3 v20 c2 v195 v200 s
  have hh : Row S K (2 * (((i 1).val / 4 + 1) / 2)) (fun l => View.ld (View.canon ((loopStores c i arg2 harg2 arg3 harg3 arg4 harg4 arg5 harg5 arg6 harg6 arg7 harg7 arg8 harg8 arg9 harg9 arg10 harg10 arg11 harg11 x1 x2 (qStores x0 x3) v20 c2 v195 v200).1 ++ firstM)) (rows128 (256 * g) (inRows g)) (ix2 x l))
      (fun l => View.ld (View.canon ((loopStores c i arg2 harg2 arg3 harg3 arg4 harg4 arg5 harg5 arg6 harg6 arg7 harg7 arg8 harg8 arg9 harg9 arg10 harg10 arg11 harg11 x1 x2 (qStores x0 x3) v20 c2 v195 v200).2.1 ++ firstL)) (rows128 (256 * g) (inRows g)) (ix2 x l))
      (fun l => View.ld (View.canon ((loopStores c i arg2 harg2 arg3 harg3 arg4 harg4 arg5 harg5 arg6 harg6 arg7 harg7 arg8 harg8 arg9 harg9 arg10 harg10 arg11 harg11 x1 x2 (qStores x0 x3) v20 c2 v195 v200).2.2 ++ firstA)) (rows256 (256 * g) (wide (inRows g))) (ix2 x l)) := by
    refine cast ?_ hl
    congr 1 <;> funext l
    · exact (ld_group _ _ l).symm
    · exact (ld_group _ _ l).symm
    · exact (ld_group _ _ l).symm
  have h2 := s.block (j := 2 * (((i 1).val / 4 + 1) / 2)) (by omega) (k0_off9_inb i hc0) (k0_off10_inb i hc0)
    (by rw [k0_off9_eq]; congr 2; omega) (by rw [k0_off10_eq]; congr 3; omega) hh
  rw [show 2 * (((i 1).val / 4 + 1) / 2) + 1 = (i 1).val / 4 + 1 by omega] at h2
  refine ⟨_, h2.m, fun l => Eq.trans ?_ (h2.l l), fun l => Eq.trans ?_ (h2.a l)⟩
  · rw [← View.read_writes_junk_eq_canon arg10.view]
    refine (stack128_read _ _ _ _ g x l).trans ?_
    rw [readCov_ld, readCov_ld, readCov_ld]
  · rw [← View.read_writes_junk_eq_canon arg11.view]
    refine (stack256_read _ _ _ _ g x l).trans ?_
    rw [readCov_ld, readCov_ld, readCov_ld]

end

end Cert.KernelIdeal.Value
end
-- ==== Proof.AttnBlock.lean ====
module

public import proofs.«01_k».proof.Proof.AttnState

@[expose] public section

set_option maxRecDepth 16384

noncomputable section

namespace Cert.KernelIdeal.Value

open Cert.KernelIdeal Cert.KernelIdeal.Gen Idealize.ShloMosaic Idealize.ShloMosaic.TcCoe Idealize.SL.Sem
open Cert.Attn

/-- Row of head `h` and query `q` in the sixteen heads' rows. -/
abbrev hrow (h : Fin 16) (q : Fin 128) : Fin 2048 := ⟨128 * h + q, by omega⟩

/-- Column `d` of head `h`. -/
abbrev hcol (h : Fin 16) (d : Fin 64) : Fin 1024 := ⟨64 * h + d, by omega⟩

/-- One head's latent queries, element by element. -/
theorem qHead_at (x0 : Vec Ideal S1x128x1024 .bf16) (w : Vec Ideal S1x64x256 .bf16) (h : Fin 16) (q : Fin 128) (c : Fin 256) :
    qHead x0 w (64 * h) (q_cols h) (ix2 q c) = (∑ d, x0 (ix3 0 q (hcol h d)) * w (ix3 0 d c)) * (((8 * Real.log 2)⁻¹ : ℝ) : EReal) := by
  pointwise [qHead, k0_pay371]
  rfl

/-- The latent queries as stored. -/
theorem qStores_at (x0 : Vec Ideal S1x128x1024 .bf16) (x3 : Vec Ideal S16x64x256 .bf16) (h : Fin 16) (q : Fin 128) (c : Fin 256) :
    View.canon (qStores x0 x3) (ix2 (hrow h q) c)
      = (∑ d, x0 (ix3 0 q (hcol h d)) * x3 (ix3 h d c)) * (((8 * Real.log 2)⁻¹ : ℝ) : EReal) := by
  have hq := q.isLt
  refine View.canon_ofFn_unit_eq_of_forall (Val := Elt Ideal) (S := S2048x256) (e := .bf16) (fun k : Fin 16 => ![128 * k.rev.val, 0]) S128x256.size (fun k => q_rows k.rev)
    (fun k => qHead x0 (View.ld x3 (Rect.unit (s := S16x64x256) ![k.rev.val, 0, 0] S1x64x256.size (q_head k.rev))) (64 * k.rev.val) (q_cols k.rev))
    _ _ ⟨h.rev, fun a => ?_⟩ fun k y hy => ?_
  · rw [Fin.rev_rev]
    fin_cases a
    · exact ⟨Nat.le_add_right _ _, show 128 * h.val + q.val < 128 * h.val + 128 by omega⟩
    · exact ⟨Nat.zero_le _, show c.val < 0 + 256 by omega⟩
  · generalize k.rev = k' at hy ⊢
    idx_vars y
    have e0 : 128 * h.val + q.val = 128 * k'.val + y0.val := hy 0
    have e1 : c.val = 0 + y1.val := hy 1
    have l0 : y0.val < 128 := y0.isLt
    obtain rfl : k' = h := Fin.ext (by omega)
    obtain rfl : y0 = q := Fin.ext (by omega)
    obtain rfl : y1 = c := Fin.ext (by omega)
    refine (qHead_at x0 _ k' y0 y1).trans ?_
    refine congrArg (· * _) (Finset.sum_congr rfl fun d _ => congrArg (_ * ·) ?_)
    refine View.ld_unit_apply_of _ _ _ _ _ _ fun a => ?_
    fin_cases a
    · exact (Nat.add_zero _).symm
    · exact (Nat.zero_add _).symm
    · exact (Nat.zero_add _).symm

/-- The rows' reciprocal denominators. -/
theorem recip_at (X : Vec Ideal S2048x128 .f32) (r : Fin 2048) :
    k0_pay398 X (ix2 r 0) = Ideal.div 1 (∑ l, X (ix2 r l)) := by
  pointwise [k0_pay398]

/-- One head's result, element by element. -/
theorem outHead_at (d : FVec Ideal S2048x1 .f32) (a : Vec Ideal S128x256 .f32) (w : Vec Ideal S1x256x64 .bf16) (h : Fin 16) (q : Fin 128) (v : Fin 64) :
    outHead d a w (128 * h) (o_rows h) (ix3 0 q v) = (∑ c, a (ix2 q c) * w (ix3 0 c v)) * d (ix2 (hrow h q) 0) := by
  pointwise [outHead]

/-- The results as stored. -/
theorem outStores_at {sp : Space} (va : View sig .tc sp S2048x256 .f32) (L : List (View.Piece (Elt Ideal) S2048x256 .f32))
    (d : FVec Ideal S2048x1 .f32) (x4 : Vec Ideal S16x256x64 .bf16) (h : Fin 16) (q : Fin 128) (v : Fin 64) :
    View.canon (outStores va L d x4) (ix3 0 q (hcol h v))
      = (∑ c, View.canon L (ix2 (hrow h q) c) * x4 (ix3 h c v)) * d (ix2 (hrow h q) 0) := by
  have hv := v.isLt
  refine View.canon_ofFn_unit_eq_of_forall (Val := Elt Ideal) (S := S1x128x1024) (e := .bf16) (fun k : Fin 16 => ![0, 0, 64 * k.rev.val]) S1x128x64.size (fun k => o_cols k.rev)
    (fun k => outHead d (va.readCov L (Rect.unit (s := S2048x256) ![128 * k.rev.val, 0] S128x256.size (q_rows k.rev)).toLoadRect)
      (View.ld x4 (Rect.unit (s := S16x256x64) ![k.rev.val, 0, 0] S1x256x64.size (o_head k.rev))) (128 * k.rev.val) (o_rows k.rev))
    _ _ ⟨h.rev, fun a => ?_⟩ fun k y hy => ?_
  · rw [Fin.rev_rev]
    fin_cases a
    · exact ⟨Nat.le_refl _, Nat.one_pos⟩
    · exact ⟨Nat.zero_le _, show q.val < 0 + 128 by omega⟩
    · exact ⟨Nat.le_add_right _ _, show 64 * h.val + v.val < 64 * h.val + 64 by omega⟩
  · generalize k.rev = k' at hy ⊢
    idx_vars y
    have e1 : q.val = 0 + y1.val := hy 1
    have e2 : 64 * h.val + v.val = 64 * k'.val + y2.val := hy 2
    have l2 : y2.val < 64 := y2.isLt
    obtain rfl : k' = h := Fin.ext (by omega)
    obtain rfl : y1 = q := Fin.ext (by omega)
    obtain rfl : y2 = v := Fin.ext (by omega)
    obtain rfl : y0 = 0 := Subsingleton.elim _ _
    refine (outHead_at d _ _ k' y1 y2).trans ?_
    refine congrArg (· * _) (Finset.sum_congr rfl fun c _ => congrArg₂ (· * ·) ?_ ?_)
    · rw [readCov_ld]
      refine View.ld_unit_apply_of _ _ _ _ _ _ fun a => ?_
      fin_cases a
      · rfl
      · exact (Nat.zero_add _).symm
    · refine View.ld_unit_apply_of _ _ _ _ _ _ fun a => ?_
      fin_cases a
      · exact (Nat.add_zero _).symm
      · exact (Nat.zero_add _).symm
      · exact (Nat.zero_add _).symm

section
variable (x0 : Vec Ideal S1x128x1024 .bf16) (x1 : Vec Ideal S1x4096x256 .bf16) (x2 : Vec Ideal S1x128x4096 .i8) (x3 : Vec Ideal S16x64x256 .bf16)
  (h : Fin 16) (q : Fin 128) (Qr : Fin 64 → ℝ) (Wk : Fin 64 → Fin 256 → ℝ) (K : ℕ → Fin 256 → ℝ) (sel : ℕ → Prop) [DecidablePred sel]

/-- A query's score against key `n`: the latent query times the key's latent vector, scaled by an eighth. -/
def logit (n : ℕ) : ℝ := (∑ c, (∑ d, Wk d c * Qr d) * K n c) * (1 / 8)

variable {x0 x1 x2 x3 h q Qr Wk K sel}

/-- The scores a row sees, in base two. -/
theorem scores_of (hQ : ∀ d, x0 (ix3 0 q (hcol h d)) = (Qr d : EReal)) (hW : ∀ d c, x3 (ix3 h d c) = (Wk d c : EReal))
    (hK : ∀ (n : Fin 4096) c, x1 (ix3 0 n c) = (K n c : EReal))
    (hM : ∀ n : Fin 4096, FloatOps.sitofp (F := Ideal) FTy.f32 (x2 (ix3 0 q n)) = if sel n then (1 : EReal) else 0)
    {g : Fin 8} {x : Fin 256} (hr : row g x = hrow h q) (hx : x.val % 128 = q.val) :
    Scores (View.canon (qStores x0 x3)) x1 x2 g x (masked (fun n => logit Qr Wk K n / Real.log 2) sel) K where
  ne n := by unfold masked; split <;> simp
  key := hK
  score n := by
    have e : (⟨x.val % 128, Nat.mod_lt _ (by norm_num)⟩ : Fin 128) = q := Fin.ext hx
    have hs : (∑ c, View.canon (qStores x0 x3) (ix2 (row g x) c) * x1 (ix3 0 n c)) = ((logit Qr Wk K n / Real.log 2 : ℝ) : EReal) := by
      rw [hr]
      have : ∀ c, View.canon (qStores x0 x3) (ix2 (hrow h q) c) * x1 (ix3 0 n c)
          = (((∑ d, Qr d * Wk d c) * (8 * Real.log 2)⁻¹ * K n c : ℝ) : EReal) := fun c => by
        rw [qStores_at, hK, EReal.coe_mul, EReal.coe_mul, coe_sum]
        refine congrArg (· * _) (congrArg (· * _) (Finset.sum_congr rfl fun d _ => ?_))
        rw [hQ, hW, EReal.coe_mul]
      rw [Finset.sum_congr rfl fun c _ => this c, ← coe_sum]
      congr 1
      unfold logit
      rw [Finset.sum_mul, Finset.sum_div]
      refine Finset.sum_congr rfl fun c _ => ?_
      rw [Finset.sum_congr rfl fun d _ => mul_comm (Qr d) (Wk d c)]
      have := (Real.log_pos one_lt_two).ne'
      field_simp
    rw [hs, e, hM]
    unfold masked
    by_cases hn : sel n
    · rw [if_pos hn, if_pos hn]
      have : ((1 : EReal) - 1) = 0 := by rw [← EReal.coe_one, ← EReal.coe_sub, sub_self, EReal.coe_zero]
      rw [this, zero_mul, add_zero]
    · rw [if_neg hn, if_neg hn, zero_sub, EReal.neg_mul, one_mul, EReal.neg_top, EReal.add_bot]

end

/-- What a step's stores leave, element by element, is the masked softmax attention of the query. -/
theorem block_at {x0 : Vec Ideal S1x128x1024 .bf16} {x1 : Vec Ideal S1x4096x256 .bf16} {x2 : Vec Ideal S1x128x4096 .i8} {x3 : Vec Ideal S16x64x256 .bf16}
    (x4 : Vec Ideal S16x256x64 .bf16) {sp sp' : Space} (va : View sig .tc sp S2048x256 .f32) (vb : View sig .tc sp' S2048x128 .f32) {J : ℕ} (hJ : 512 * J ≤ 4096)
    {LA : List (View.Piece (Elt Ideal) S2048x256 .f32)} {LL : List (View.Piece (Elt Ideal) S2048x128 .f32)}
    (hst : ∀ (g : Fin 8) (x : Fin 256) (S : ℕ → EReal) (K : ℕ → Fin 256 → ℝ), Scores (View.canon (qStores x0 x3)) x1 x2 g x S K →
        ∃ M, Row S K J M (fun l => View.canon LL (ix2 (row g x) l)) (fun l => View.canon LA (ix2 (row g x) l)))
    {h : Fin 16} {q : Fin 128} {Qr : Fin 64 → ℝ} {Wk : Fin 64 → Fin 256 → ℝ} {K : ℕ → Fin 256 → ℝ} {sel : ℕ → Prop} [DecidablePred sel]
    (hQ : ∀ d, x0 (ix3 0 q (hcol h d)) = (Qr d : EReal)) (hW : ∀ d c, x3 (ix3 h d c) = (Wk d c : EReal))
    (hK : ∀ (n : Fin 4096) c, x1 (ix3 0 n c) = (K n c : EReal))
    (hM : ∀ n : Fin 4096, FloatOps.sitofp (F := Ideal) FTy.f32 (x2 (ix3 0 q n)) = if sel n then (1 : EReal) else 0)
    (hsel : ∀ n, sel n → n < 512 * J) (hex : ∃ n, sel n) (v : Fin 64) :
    View.canon (outStores va LA (k0_pay398 (vb.readCov LL (Rect.unit (s := S2048x128) ![0, 0] S2048x128.size inb_S2048x128_S2048x128_0_0).toLoadRect)) x4) (ix3 0 q (hcol h v))
      = ∑ c, x4 (ix3 h c v) * ∑ k : Fin 4096,
          Ideal.div (Ideal.exp (masked (logit Qr Wk K) sel k - Finset.univ.sup fun k : Fin 4096 => masked (logit Qr Wk K) sel k))
            (∑ k : Fin 4096, Ideal.exp (masked (logit Qr Wk K) sel k - Finset.univ.sup fun k : Fin 4096 => masked (logit Qr Wk K) sel k)) * (K k c : EReal) := by
  have hq := q.isLt
  have hh := h.isLt
  have hr : row ⟨h.val / 2, by omega⟩ ⟨128 * (h.val % 2) + q.val, by omega⟩ = hrow h q := Fin.ext (by
    show 256 * (h.val / 2) + (128 * (h.val % 2) + q.val) = 128 * h.val + q.val; omega)
  obtain ⟨M, hrow'⟩ := hst ⟨h.val / 2, by omega⟩ ⟨128 * (h.val % 2) + q.val, by omega⟩ _ _
    (scores_of hQ hW hK hM hr (show (128 * (h.val % 2) + q.val) % 128 = q.val by omega))
  rw [hr] at hrow'
  rw [outStores_at, recip_at, readCov_ld]
  rw [← attend (logit Qr Wk K) sel K (fun c => x4 (ix3 h c v)) J hJ hsel hex hrow']
  refine congrArg (_ * ·) (congrArg (Ideal.div 1) (Finset.sum_congr rfl fun l _ => ?_))
  refine View.ld_unit_apply_of _ _ _ _ _ _ fun a => ?_
  fin_cases a
  · exact (Nat.zero_add _).symm
  · exact (Nat.zero_add _).symm

end Cert.KernelIdeal.Value
end
-- ==== Proof.AttnSpec.lean ====
module

public import proofs.«01_k».proof.Proof.AttnBlock

@[expose] public section

set_option maxRecDepth 16384

noncomputable section

/-! # The attention, query by query

What one query's head attends to, as a function of the whole arrays, and what the precondition says of their elements. -/

namespace Cert.KernelIdeal.Value

open Cert.KernelIdeal Cert.KernelIdeal.Gen Idealize.ShloMosaic Idealize.ShloMosaic.TcCoe Idealize.SL.Sem
open Cert.Attn

/-- The score of query `s` of sequence `b` against key `k` in head `h`: minus infinity where the mask is zero. -/
def score (q : FVec Ideal S8x4096x1024 .bf16) (kv : FVec Ideal S8x4096x256 .bf16) (mk : IVec S8x4096x4096 8)
    (wk : FVec Ideal S16x64x256 .f32) (b : Fin 8) (s : Fin 4096) (h : Fin 16) (k : Fin 4096) : EReal :=
  if mk (ix3 b s k) = 0#8 then ⊥
  else (∑ c : Fin 256, (∑ d : Fin 64, wk (ix3 h d c) * q (ix3 b s (hcol h d))) * kv (ix3 b k c)) * ((1 / 8 : ℝ) : EReal)

/-- One element of one head's output: the softmax of the scores, the weighted sum of the keys, projected by `wv`. -/
def headOut (S : Fin 4096 → EReal) (K : Fin 4096 → Fin 256 → EReal) (wv : Fin 256 → EReal) : EReal :=
  ∑ c : Fin 256, wv c * ∑ k : Fin 4096, Ideal.div (Ideal.exp (S k - Finset.univ.sup S)) (∑ k : Fin 4096, Ideal.exp (S k - Finset.univ.sup S)) * K k c

/-- The whole result. -/
def result (q : FVec Ideal S8x4096x1024 .bf16) (kv : FVec Ideal S8x4096x256 .bf16) (mk : IVec S8x4096x4096 8)
    (wk : FVec Ideal S16x64x256 .f32) (wv : FVec Ideal S16x256x64 .f32) : FVec Ideal S8x4096x1024 .bf16 := fun i =>
  headOut (score q kv mk wk (i 0) (i 1) ⟨(i 2).val / 64, Nat.div_lt_of_lt_mul (i 2).isLt⟩) (fun k c => kv (ix3 (i 0) k c))
    (fun c => wv (ix3 ⟨(i 2).val / 64, Nat.div_lt_of_lt_mul (i 2).isLt⟩ c ⟨(i 2).val % 64, Nat.mod_lt _ (by norm_num)⟩))

/-- The precondition, element by element: the queries, the keys and the key weights are real, the mask is zero or one and
    one only for keys not after the query, and every query attends to some key. -/
structure Good (q : FVec Ideal S8x4096x1024 .bf16) (kv : FVec Ideal S8x4096x256 .bf16) (mk : IVec S8x4096x4096 8)
    (wk : FVec Ideal S16x64x256 .f32) : Prop where
  q_real : ∀ i, q i ≠ ⊥ ∧ q i ≠ ⊤
  kv_real : ∀ i, kv i ≠ ⊥ ∧ kv i ≠ ⊤
  wk_real : ∀ i, wk i ≠ ⊥ ∧ wk i ≠ ⊤
  mask : ∀ (b : Fin 8) (s k : Fin 4096), mk (ix3 b s k) = 0#8 ∨ mk (ix3 b s k) = 1#8 ∧ k.val ≤ s.val
  some : ∀ (b : Fin 8) (s : Fin 4096), ∃ k : Fin 4096, mk (ix3 b s k) = 1#8

end Cert.KernelIdeal.Value

end
-- ==== Proof.AttnValue.lean ====
module

public import proofs.«01_k».proof.Proof.AttnSpec
public import proofs.«01_k».proof.Proof.Gen.KernelIdeal.Value

@[expose] public section

set_option maxRecDepth 16384

noncomputable section

/-! # The attention kernel's result array -/

namespace Cert.KernelIdeal.Value

open Cert.KernelIdeal Cert.KernelIdeal.Gen Idealize.ShloMosaic Idealize.ShloMosaic.TcCoe Idealize.SL.Sem
open Idealize.ShloMosaic.Pipeline (Dat)
open Cert.Attn

variable (m : (ℓ : Loc nD τ sig) → Buf (Elt Ideal) ℓ)

/-- Which block of its array each window holds at grid point `t`. -/
theorem idx : ∀ t : Fin cfg0.N, win0_0.index t = ![t.val / 32, t.val % 32, 0] ∧ win0_1.index t = ![t.val / 32, 0, 0]
    ∧ win0_2.index t = ![t.val / 32, t.val % 32, 0] ∧ win0_3.index t = ![0, 0, 0] ∧ win0_4.index t = ![0, 0, 0]
    ∧ win0_5.index t = ![t.val / 32, t.val % 32, 0] :=
  (by decide +kernel : ∀ t : Fin grid0.N, _)

/-- The grid has 256 points. -/
theorem lt256 : ∀ t : Fin cfg0.N, t.val < 256 := (by decide +kernel : ∀ t : Fin grid0.N, t.val < 256)

/-- The second grid coordinate: the block of queries. -/
theorem coord1 : ∀ t : Fin cfg0.N, ((grid0.coords t) 1).val = t.val % 32 :=
  (by decide +kernel : ∀ t : Fin grid0.N, ((grid0.coords t) 1).val = t.val % 32)

/-- The sequence of grid point `t`. -/
abbrev seq (t : Fin cfg0.N) : Fin 8 := ⟨t.val / 32, by have := lt256 t; omega⟩

/-- Query `r` of the block of grid point `t`. -/
abbrev qry (t : Fin cfg0.N) (r : Fin 128) : Fin 4096 := ⟨t.val % 32 * 128 + r.val, by omega⟩

/-! The blocks a grid point reads, as parts of the argument arrays. -/

theorem iblk0 (c : Dev nD) (t : Fin cfg0.N) (r : Fin 128) (v : Fin 1024) : iblk m c 0 t (ix3 0 r v)
    = m ((c : Thread nD τ).loc main_arg0) (ix3 (seq t) (qry t r) v) := by
  blk_ext [iblk, V, idx t]

theorem iblk1 (c : Dev nD) (t : Fin cfg0.N) (n : Fin 4096) (v : Fin 256) : iblk m c 1 t (ix3 0 n v)
    = m ((c : Thread nD τ).loc main_arg1) (ix3 (seq t) n v) := by
  blk_ext [iblk, V, idx t]

theorem iblk2 (c : Dev nD) (t : Fin cfg0.N) (r : Fin 128) (n : Fin 4096) : iblk m c 2 t (ix3 0 r n)
    = m ((c : Thread nD τ).loc main_arg2) (ix3 (seq t) (qry t r) n) := by
  blk_ext [iblk, V, idx t]

theorem iblk3 (c : Dev nD) (t : Fin cfg0.N) (h : Fin 16) (d : Fin 64) (v : Fin 256) : iblk m c 3 t (ix3 h d v)
    = m ((c : Thread nD τ).loc main_arg3) (ix3 h d v) := by
  blk_point [iblk, idx t]

theorem iblk4 (c : Dev nD) (t : Fin cfg0.N) (h : Fin 16) (v : Fin 256) (d : Fin 64) : iblk m c 4 t (ix3 h v d)
    = m ((c : Thread nD τ).loc main_arg4) (ix3 h v d) := by
  blk_point [iblk, idx t]

/-- A real element is the real it holds. -/
theorem real_of {x : EReal} (h : x ≠ ⊥ ∧ x ≠ ⊤) : x = (x.toReal : EReal) := (EReal.coe_toReal h.2 h.1).symm

/-- The mask as a number. -/
theorem mask_num {x : BitVec 8} (h : x = 0#8 ∨ x = 1#8) [Decidable (x = 1#8)] :
    FloatOps.sitofp (F := Ideal) FTy.f32 x = if x = 1#8 then (1 : EReal) else 0 := by
  rcases h with rfl | rfl
  · simp [FloatOps.sitofp]
  · simp [FloatOps.sitofp]

section Reals

variable (q : FVec Ideal S8x4096x1024 .bf16) (kv : FVec Ideal S8x4096x256 .bf16) (mk : IVec S8x4096x4096 8)
    (wk : FVec Ideal S16x64x256 .f32) (b : Fin 8) (s : Fin 4096) (h : Fin 16)

/-- One head's query as reals. -/
def qR : Fin 64 → ℝ := fun d => (q (ix3 b s (hcol h d))).toReal

/-- One head's key weights as reals. -/
def wR : Fin 64 → Fin 256 → ℝ := fun d c => (wk (ix3 h d c)).toReal

/-- A sequence's keys as reals, zero past the last. -/
def kR : ℕ → Fin 256 → ℝ := fun n c => if hn : n < 4096 then (kv (ix3 b ⟨n, hn⟩ c)).toReal else 0

/-- The keys a query attends to. -/
def Sel (n : ℕ) : Prop := ∃ hn : n < 4096, mk (ix3 b s ⟨n, hn⟩) = 1#8

instance : DecidablePred (Sel mk b s) := fun _ => Classical.propDecidable _

variable {q kv mk wk}

theorem kR_at (G : Good q kv mk wk) (n : Fin 4096) (c : Fin 256) : kv (ix3 b n c) = (kR kv b n c : EReal) := by
  unfold kR
  rw [dif_pos n.isLt]
  exact real_of (G.kv_real _)

theorem sel_at (n : Fin 4096) : Sel mk b s n ↔ mk (ix3 b s n) = 1#8 := ⟨fun ⟨_, h⟩ => h, fun h => ⟨n.isLt, h⟩⟩

/-- The mask as a number, by the keys attended to. -/
theorem mask_at (G : Good q kv mk wk) (n : Fin 4096) :
    FloatOps.sitofp (F := Ideal) FTy.f32 (mk (ix3 b s n)) = if Sel mk b s n then (1 : EReal) else 0 := by
  classical
  refine (mask_num ((G.mask b s n).imp id And.left)).trans ?_
  exact if_congr (sel_at b s n).symm rfl rfl

/-- The scores of a query are its masked real logits. -/
theorem score_masked (G : Good q kv mk wk) (k : Fin 4096) :
    score q kv mk wk b s h k = masked (logit (qR q b s h) (wR wk h) (kR kv b)) (Sel mk b s) k := by
  unfold score masked
  rcases G.mask b s k with hz | ⟨ho, -⟩
  · rw [if_pos hz, if_neg]
    rw [sel_at, hz]; decide
  · rw [if_neg (by rw [ho]; decide), if_pos ((sel_at b s k).2 ho)]
    unfold logit
    rw [EReal.coe_mul, coe_sum]
    congr 1
    refine Finset.sum_congr rfl fun c _ => ?_
    rw [EReal.coe_mul, coe_sum, kR_at b G]
    congr 1
    refine Finset.sum_congr rfl fun d _ => ?_
    rw [EReal.coe_mul, real_of (G.wk_real (ix3 h d c)), real_of (G.q_real (ix3 b s (hcol h d)))]
    rfl

end Reals

/-- The arrays of the launch. -/
abbrev argQ (c : Dev nD) : FVec Ideal S8x4096x1024 .bf16 := m ((c : Thread nD τ).loc main_arg0)
abbrev argK (c : Dev nD) : FVec Ideal S8x4096x256 .bf16 := m ((c : Thread nD τ).loc main_arg1)
abbrev argM (c : Dev nD) : IVec S8x4096x4096 8 := m ((c : Thread nD τ).loc main_arg2)
abbrev argWk (c : Dev nD) : FVec Ideal S16x64x256 .f32 := m ((c : Thread nD τ).loc main_arg3)
abbrev argWv (c : Dev nD) : FVec Ideal S16x256x64 .f32 := m ((c : Thread nD τ).loc main_arg4)

/-- The block a grid point leaves, as one list of stores, and what the rows behind it hold. -/
theorem block_stores (c : Dev nD) (t : Fin cfg0.N) : ∃ (LA : List (View.Piece (Elt Ideal) S2048x256 .f32)) (LL : List (View.Piece (Elt Ideal) S2048x128 .f32)),
    outsAt0 m c t.val t.isLt = View.canon (outStores scM0_3.view LA
      (k0_pay398 (scM0_2.view.readCov LL (Rect.unit (s := S2048x128) ![0, 0] S2048x128.size inb_S2048x128_S2048x128_0_0).toLoadRect)) (iblk m c 4 t))
    ∧ ∀ (g : Fin 8) (x : Fin 256) (S : ℕ → EReal) (K : ℕ → Fin 256 → ℝ), Scores (View.canon (qStores (iblk m c 0 t) (iblk m c 3 t))) (iblk m c 1 t) (iblk m c 2 t) g x S K →
        ∃ M, Row S K (t.val % 32 / 4 + 1) M (fun l => View.canon LL (ix2 (row g x) l)) (fun l => View.canon LA (ix2 (row g x) l)) := by
  have hc := coord1 t
  by_cases h0 : t.val % 8 = 0 ∨ t.val % 8 = 1 ∨ t.val % 8 = 2 ∨ t.val % 8 = 3
  · obtain ⟨LA, LL, hr, hst⟩ := rows_odd c (grid0.coords t) (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) scM0_1 (Memref.isWhole_whole _) scM0_2 (Memref.isWhole_whole _) scM0_3 (Memref.isWhole_whole _)
      (iblk m c 0 t) (iblk m c 1 t) (iblk m c 2 t) (iblk m c 3 t) (iblk m c 4 t) ((hcond0_0 t).mpr h0) (by rw [hc]; omega)
    refine ⟨LA, LL, ?_, ?_⟩
    · rw [outsAt0_A m c t h0]
      unfold out0_A_5
      rw [hr, View.read_writes_junk_eq_canon]
    · rw [hc] at hst
      exact hst
  · obtain ⟨LA, LL, hr, hst⟩ := rows_even c (grid0.coords t) (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) scM0_1 (Memref.isWhole_whole _) scM0_2 (Memref.isWhole_whole _) scM0_3 (Memref.isWhole_whole _)
      (iblk m c 0 t) (iblk m c 1 t) (iblk m c 2 t) (iblk m c 3 t) (iblk m c 4 t) (fun h => h0 ((hcond0_0 t).mp h)) (by rw [hc]; omega)
    refine ⟨LA, LL, ?_, ?_⟩
    · rw [outsAt0_B m c t h0]
      unfold out0_B_5
      rw [hr, View.read_writes_junk_eq_canon]
    · rw [hc] at hst
      exact hst

/-- One element of the block a grid point leaves. -/
theorem point (c : Dev nD) (G : Good (argQ m c) (argK m c) (argM m c) (argWk m c)) (t : Fin cfg0.N) (r : Fin 128) (h : Fin 16) (v : Fin 64) :
    outsAt0 m c t.val t.isLt (ix3 0 r (hcol h v))
      = headOut (score (argQ m c) (argK m c) (argM m c) (argWk m c) (seq t) (qry t r) h) (fun k e => argK m c (ix3 (seq t) k e)) (fun e => argWv m c (ix3 h e v)) := by
  have ht := lt256 t
  have hrr := r.isLt
  obtain ⟨LA, LL, ho, hst⟩ := block_stores m c t
  rw [ho]
  refine (block_at (iblk m c 4 t) scM0_3.view scM0_2.view (J := t.val % 32 / 4 + 1) (by omega) hst (h := h) (q := r)
    (Qr := qR (argQ m c) (seq t) (qry t r) h) (Wk := wR (argWk m c) h) (K := kR (argK m c) (seq t)) (sel := Sel (argM m c) (seq t) (qry t r))
    (fun d => (iblk0 m c t r _).trans (real_of (G.q_real _))) (fun d e => (iblk3 m c t h d e).trans (real_of (G.wk_real _)))
    (fun n e => (iblk1 m c t n e).trans (kR_at (seq t) G n e))
    (fun n => (congrArg _ (iblk2 m c t r n)).trans (mask_at (seq t) (qry t r) G n)) ?_ ?_ v).trans ?_
  · rintro n ⟨hn, h1⟩
    rcases G.mask (seq t) (qry t r) ⟨n, hn⟩ with hz | ⟨-, hle⟩
    · exact absurd (hz.symm.trans h1) (by decide)
    · have : n ≤ t.val % 32 * 128 + r.val := hle
      omega
  · obtain ⟨k, hk⟩ := G.some (seq t) (qry t r)
    exact ⟨k.val, k.isLt, hk⟩
  · have hS : score (argQ m c) (argK m c) (argM m c) (argWk m c) (seq t) (qry t r) h
        = fun k : Fin 4096 => masked (logit (qR (argQ m c) (seq t) (qry t r) h) (wR (argWk m c) h) (kR (argK m c) (seq t))) (Sel (argM m c) (seq t) (qry t r)) k :=
      funext fun k => score_masked (seq t) (qry t r) h G k
    have hK : (fun (k : Fin 4096) (e : Fin 256) => argK m c (ix3 (seq t) k e)) = fun (k : Fin 4096) e => (kR (argK m c) (seq t) k.val e : EReal) :=
      funext fun k => funext fun e => kR_at (seq t) G k e
    rw [hS, hK]
    unfold headOut
    exact Finset.sum_congr rfl fun e _ => congrArg (· * _) (iblk4 m c t h e v)

/-- The kernel's result array after the run. -/
theorem final (c : Dev nD) (G : Good (argQ m c) (argK m c) (argM m c) (argWk m c)) :
    (dats m 0 c).arrAt 5 (cfgs 0).N = result (argQ m c) (argK m c) (argM m c) (argWk m c) (argWv m c) := by
  refine (dats m 0 c).arrAt_eq_of_covers 5 _ (by decide +kernel) fun t _ y => ?_
  blk_simp
  rw [after0_5]
  idx_vars y
  obtain rfl : y0 = 0 := Subsingleton.elim _ _
  have he : ((View.whole main_v2).slice (win0_5.rect t)).emb (ix3 0 y1 y2) = ix3 (seq t) (qry t y1) y2 := by blk_ext [idx t]
  rw [he]
  have hy := y2.isLt
  have h2 : y2 = hcol ⟨y2.val / 64, by omega⟩ ⟨y2.val % 64, by omega⟩ := Fin.ext (by
    show y2.val = 64 * (y2.val / 64) + y2.val % 64; omega)
  exact (congrArg (fun e => outsAt0 m c t.val t.isLt (ix3 0 y1 e)) h2).trans (point m c G t y1 ⟨y2.val / 64, by omega⟩ ⟨y2.val % 64, by omega⟩)

end Cert.KernelIdeal.Value

end
-- ==== Proof.AttnReference.lean ====
module

public import proofs.«01_k».proof.Proof.AttnSpec
public import proofs.«01_k».proof.Proof.Gen.ReferenceIdeal.Run

@[expose] public section

set_option maxRecDepth 16384

noncomputable section

/-! # The reference's result, query by query -/

namespace Cert.ReferenceIdeal.Value

open Cert.ReferenceIdeal Cert.ReferenceIdeal.Gen Idealize.ShloMosaic Idealize.ShloMosaic.TcCoe Idealize.SL.Sem
open Idealize.ShloMosaic.StableHlo
open Cert.Attn

/-! The parts of the composed term, each over whole arrays. -/

/-- The latent queries of every head. -/
def latA (q : FVec Ideal S8x4096x1024 .bf16) (wk : FVec Ideal S16x64x256 .f32) : FVec Ideal S8x4096x16x256 .f32 :=
  transpose S8x4096x16x256 [2, 3, 0, 1] (Host.dotGeneral dot_S16x64x256_S8x4096x16x64_S16x256x8x4096_1_3_2_01_0_2 none wk
    (shapeCast _ (extf .f32 q bitsLt_bf16_f32) shapeCasts_S8x4096x1024_S8x4096x16x64)) transposes_S16x256x8x4096_S8x4096x16x256_2_3_0_1

/-- The scores where the mask is not zero, minus infinity elsewhere. -/
def scoreA (L : FVec Ideal S8x4096x16x256 .f32) (kv : FVec Ideal S8x4096x256 .bf16) (mk : IVec S8x4096x4096 8) : FVec Ideal S8x4096x16x4096 .f32 :=
  select (broadcastInDim S8x4096x16x4096 ![0, 1, 2, 3] bcast_S8x4096x1x4096_S8x4096x16x4096_0_1_2_3
      (cmpi .ne (broadcastInDim S8x4096x1x4096 ![0, 1, 3] bcast_S8x4096x4096_S8x4096x1x4096_0_1_3 mk)
        (broadcastInDim S8x4096x1x4096 ![] bcast_S_S8x4096x1x4096 (constantI S_ 8 0#8))))
    (mulf (Host.dotGeneral dot_S8x4096x16x256_S8x4096x256_S8x4096x16x4096_3_2_12_1_0_0 none L (extf .f32 kv bitsLt_bf16_f32))
      (broadcastInDim S8x4096x16x4096 ![] bcast_S_S8x4096x16x4096 (constant S_ .f32 0x3E000000#32)))
    (broadcastInDim S8x4096x16x4096 ![] bcast_S_S8x4096x16x4096 (id (constant S_ .f32 0xFF800000#32)))

/-- The largest score of every row. -/
def rowMax (S : FVec Ideal S8x4096x16x4096 .f32) : FVec Ideal S8x4096x16 .f32 :=
  Host.reduce FloatOps.maximumf S (constant S_ .f32 0xFF800000#32) reducesTo_S8x4096x16x4096_S8x4096x16_d3 h_S_

/-- A value of every row, not below minus infinity. -/
def topA (M : FVec Ideal S8x4096x16 .f32) : FVec Ideal S8x4096x16 .f32 :=
  maximumf (broadcastInDim S8x4096x16 ![] bcast_S_S8x4096x16 (constant S_ .f32 0xFF800000#32)) M

/-- The scores less a value of their row. -/
def lessA (S : FVec Ideal S8x4096x16x4096 .f32) (M : FVec Ideal S8x4096x16 .f32) : FVec Ideal S8x4096x16x4096 .f32 :=
  subf S (broadcastInDim S8x4096x16x4096 ![0, 1, 2, 3] bcast_S8x4096x16x1_S8x4096x16x4096_0_1_2_3
    (broadcastInDim S8x4096x16x1 ![0, 1, 2] bcast_S8x4096x16_S8x4096x16x1_0_1_2 M))

/-- The exponentials of the scores less the largest of their row. -/
def expA (S : FVec Ideal S8x4096x16x4096 .f32) : FVec Ideal S8x4096x16x4096 .f32 :=
  Host.exp (lessA S (topA (rowMax S)))

/-- The softmax weights. -/
def probA (E : FVec Ideal S8x4096x16x4096 .f32) : FVec Ideal S8x4096x16x4096 .f32 :=
  Host.divf E (broadcastInDim S8x4096x16x4096 ![0, 1, 2, 3] bcast_S8x4096x16x1_S8x4096x16x4096_0_1_2_3
    (broadcastInDim S8x4096x16x1 ![0, 1, 2] bcast_S8x4096x16_S8x4096x16x1_0_1_2
      (Host.reduceAdd E (constant S_ .f32 0x00000000#32) reducesTo_S8x4096x16x4096_S8x4096x16_d3 h_S_)))

/-- The weighted sums of the keys, projected out of the latent space, heads side by side. -/
def outA (P : FVec Ideal S8x4096x16x4096 .f32) (kv : FVec Ideal S8x4096x256 .bf16) (wv : FVec Ideal S16x256x64 .f32) : FVec Ideal S8x4096x1024 .bf16 :=
  truncf .bf16 (shapeCast _ (transpose S8x4096x16x64 [2, 3, 0, 1]
    (Host.dotGeneral dot_S16x256x64_S8x4096x16x256_S16x64x8x4096_1_3_2_01_0_2 none wv
      (Host.dotGeneral dot_S8x4096x16x4096_S8x4096x256_S8x4096x16x256_3_1_12_2_0_0 none P (extf .f32 kv bitsLt_bf16_f32)))
    transposes_S16x64x8x4096_S8x4096x16x64_2_3_0_1) shapeCasts_S8x4096x16x64_S8x4096x1024) bitsLt_bf16_f32

/-- A running maximum from minus infinity is the largest value. -/
theorem fold_sup {ι : Type} (A : Finset ι) (f : ι → EReal) : A.fold max ⊥ f = A.sup f := rfl

section Reads

variable (b : Fin 8) (s : Fin 4096) (h : Fin 16)

theorem latA_at (q : FVec Ideal S8x4096x1024 .bf16) (wk : FVec Ideal S16x64x256 .f32) (c : Fin 256) :
    latA q wk (ix4 b s h c) = ∑ d : Fin 64, wk (ix3 h d c) * q (ix3 b s (Cert.KernelIdeal.Value.hcol h d)) := by
  pointwise [latA]
  exact Finset.sum_congr rfl fun d _ => congrArg (fun e => wk (ix3 h d c) * q (ix3 b s e)) (Fin.ext (by
    show h.val * 64 + d.val = 64 * h.val + d.val; omega))

theorem scoreA_at (L : FVec Ideal S8x4096x16x256 .f32) (kv : FVec Ideal S8x4096x256 .bf16) (mk : IVec S8x4096x4096 8) (k : Fin 4096) :
    scoreA L kv mk (ix4 b s h k) = if mk (ix3 b s k) = 0#8 then ⊥
      else (∑ c : Fin 256, L (ix4 b s h c) * kv (ix3 b k c)) * ((1 / 8 : ℝ) : EReal) := by
  pointwise [scoreA]
  rw [Cert.KernelIdeal.Value.eighth]
  show Scalar.select _ _ (Ideal.ofBits .f32 0xFF800000#32) = _
  rw [Cert.KernelIdeal.Value.negInf]
  by_cases hz : mk (ix3 b s k) = 0#8
  · rw [if_pos hz, hz]; rfl
  · rw [if_neg hz]
    have hw : IntOp.cmpi .ne (mk (ix3 b s k)) 0#8 = 1#1 := by
      show BitVec.ofBool (mk (ix3 b s k) != 0#8) = 1#1
      rw [bne_iff_ne.mpr hz]; rfl
    rw [hw]; rfl

/-- A row's index with the key put back. -/
theorem lift_key (hr : S8x4096x16x4096.Reduces [3] S8x4096x16) (k : Fin (S8x4096x16x4096.size 3)) :
    hr.lift (ix3 b s h) k = ix4 b s h k := by
  funext a
  apply Fin.ext
  fin_cases a <;> rfl

theorem rowMax_at (S : FVec Ideal S8x4096x16x4096 .f32) : rowMax S (ix3 b s h) = Finset.univ.sup fun k : Fin 4096 => S (ix4 b s h k) := by
  have hr : S8x4096x16x4096.Reduces [3] S8x4096x16 := by decide
  refine (Host.reduce_eq_fold_single (FloatOps.maximumf (F := Ideal) (φ := .f32)) S _ _ hr _ _).trans ?_
  have hf : (S ∘ hr.lift (ix3 b s h)) = fun k : Fin 4096 => S (ix4 b s h k) := funext fun k => congrArg S (lift_key b s h hr k)
  rw [hf]
  refine (congrArg (fun z => (Finset.univ : Finset (Fin 4096)).fold max z fun k => S (ix4 b s h k)) Cert.KernelIdeal.Value.negInf).trans ?_
  exact fold_sup _ _

theorem topA_at (M : FVec Ideal S8x4096x16 .f32) : topA M (ix3 b s h) = M (ix3 b s h) := by
  show max (Ideal.ofBits .f32 0xFF800000#32) (M (ix3 b s h)) = _
  rw [Cert.KernelIdeal.Value.negInf, max_bot_left]

theorem lessA_at (S : FVec Ideal S8x4096x16x4096 .f32) (M : FVec Ideal S8x4096x16 .f32) (k : Fin 4096) :
    lessA S M (ix4 b s h k) = S (ix4 b s h k) - M (ix3 b s h) := by
  pointwise [lessA]

theorem expA_at (S : FVec Ideal S8x4096x16x4096 .f32) (k : Fin 4096) :
    expA S (ix4 b s h k) = Ideal.exp (S (ix4 b s h k) - Finset.univ.sup fun k => S (ix4 b s h k)) := by
  show Ideal.exp (lessA S (topA (rowMax S)) (ix4 b s h k)) = _
  rw [lessA_at, topA_at, rowMax_at]

theorem probA_at (E : FVec Ideal S8x4096x16x4096 .f32) (k : Fin 4096) :
    probA E (ix4 b s h k) = Ideal.div (E (ix4 b s h k)) (∑ k : Fin 4096, E (ix4 b s h k)) := by
  pointwise [probA]

theorem outA_at (P : FVec Ideal S8x4096x16x4096 .f32) (kv : FVec Ideal S8x4096x256 .bf16) (wv : FVec Ideal S16x256x64 .f32) (e : Fin 1024) :
    outA P kv wv (ix3 b s e) = ∑ c : Fin 256, wv (ix3 ⟨e.val / 64, Nat.div_lt_of_lt_mul e.isLt⟩ c ⟨e.val % 64, Nat.mod_lt _ (by norm_num)⟩)
      * ∑ k : Fin 4096, P (ix4 b s ⟨e.val / 64, Nat.div_lt_of_lt_mul e.isLt⟩ k) * kv (ix3 b k c) := by
  pointwise [outA]

end Reads

variable (m : (ℓ : Loc nD τ sig) → Buf (Elt Ideal) ℓ)

/-- The composed term by its parts. -/
theorem res_parts (c : Dev nD) : res_out0 m c
    = outA (probA (expA (scoreA (latA (m (c.tc.loc main_arg0)) (m (c.tc.loc main_arg3))) (m (c.tc.loc main_arg1)) (m (c.tc.loc main_arg2)))))
        (m (c.tc.loc main_arg1)) (m (c.tc.loc main_arg4)) := rfl

/-- The reference's result is the query-by-query function of its arguments. -/
theorem res_eq (c : Dev nD) : res_out0 m c = Cert.KernelIdeal.Value.result (m (c.tc.loc main_arg0)) (m (c.tc.loc main_arg1))
    (m (c.tc.loc main_arg2)) (m (c.tc.loc main_arg3)) (m (c.tc.loc main_arg4)) := by
  rw [res_parts]
  funext y
  idx_vars y
  rw [outA_at]
  simp only [probA_at, expA_at, scoreA_at, latA_at]
  rfl

end Cert.ReferenceIdeal.Value

end
-- ==== Proof.AttnPre.lean ====
module

public import proofs.«01_k».proof.Proof.AttnSpec
public import proofs.«01_k».proof.Pre_selected
public import Idealize.ShloMosaic.Lib.ReduceAll

@[expose] public section

set_option maxRecDepth 16384

noncomputable section

/-! # The precondition, element by element -/

namespace Cert.Pre_selected

open Idealize.ShloMosaic
open Cert.KernelIdeal.Value (Good)
variable [Facts]
open Facts

/-- A conjunction of two truth values. -/
theorem and_one {x y : BitVec 1} (h : x &&& y = 1#1) : x = 1#1 ∧ y = 1#1 := by
  revert x y; decide

/-- A disjunction of two truth values. -/
theorem or_one {x y : BitVec 1} (h : x ||| y = 1#1) : x = 1#1 ∨ y = 1#1 := by
  revert x y; decide

/-- A word's comparison with zero after widening. -/
theorem wide_zero (x : BitVec 8) (h : IntOp.cmpi .eq (x.signExtend 32) 0#32 = 1#1) : x = 0#8 := by
  revert x; decide

/-- A word's comparison with one after widening. -/
theorem wide_one (x : BitVec 8) (h : IntOp.cmpi .eq (x.signExtend 32) 1#32 = 1#1) : x = 1#8 := by
  revert x; decide

/-- The comparison of two positions widened to words. -/
theorem pos_le {k s : Fin 4096} (h : IntOp.cmpi .sle (BitVec.ofNat 32 k.val) (BitVec.ofNat 32 s.val) = 1#1) : k.val ≤ s.val := by
  have hk := k.isLt
  have hs := s.isLt
  by_contra hlt
  have hf : IntOp.cmpi .sle (BitVec.ofNat 32 k.val) (BitVec.ofNat 32 s.val) = 0#1 := by
    show BitVec.ofBool (BitVec.sle (BitVec.ofNat 32 k.val) (BitVec.ofNat 32 s.val)) = 0#1
    rw [show BitVec.sle (BitVec.ofNat 32 k.val) (BitVec.ofNat 32 s.val) = false from ?_]
    · rfl
    · rw [BitVec.sle_eq_decide, decide_eq_false_iff_not]
      simp only [BitVec.toInt_eq_toNat_bmod, BitVec.toNat_ofNat, Int.bmod_def]
      omega
  rw [hf] at h
  exact absurd h (by decide)

/-- An element below plus infinity in absolute value is real. -/
theorem real_of_abs {x : EReal} (h : FloatOps.cmpf (F := Ideal) (φ := .f32) .olt (FloatOps.hostAbsf (F := Ideal) (φ := .f32) x) (Ideal.ofBits .f32 0x7F800000#32) = 1#1) :
    x ≠ ⊥ ∧ x ≠ ⊤ := by
  rw [Cert.KernelIdeal.Value.posInf] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    exact absurd (h0.symm.trans h) (by decide)
  constructor
  · rintro rfl
    exact absurd hlt (by rw [EReal.neg_bot]; simp)
  · rintro rfl
    exact absurd hlt (by simp)

/-- A disjunction over a list is one only where some member is. -/
theorem foldl_or {ι : Type} (f : ι → BitVec 1) : ∀ (l : List ι) (z : BitVec 1), l.foldl (fun r n => IntOp.ori r (f n)) z = 1#1 → z = 1#1 ∨ ∃ n ∈ l, f n = 1#1
  | [], z, h => Or.inl h
  | a :: l, z, h => by
    rcases foldl_or f l _ h with h1 | ⟨n, hn, h1⟩
    · rcases or_one h1 with h2 | h2
      · exact Or.inl h2
      · exact Or.inr ⟨a, List.mem_cons_self .., h2⟩
    · exact Or.inr ⟨n, List.mem_cons_of_mem _ hn, h1⟩

/-- A reduction by disjunction from zero is one only where some element of the row is. -/
theorem reduce_or {s t u : Shape} {axes : List (Fin s.rank)} (x : s.Idx → BitVec 1) (z : u.Idx → BitVec 1) (h : s.ReducesTo axes t) (hu : 0 < u.numel)
    (j : t.Idx) (hz : z (Shape.Idx.first hu) = 0#1) (e : Host.reduce IntOp.ori x z h hu j = 1#1) : ∃ i, h.drop i = j ∧ x i = 1#1 := by
  rw [Host.reduce_eq_foldl, hz] at e
  rcases foldl_or x _ _ e with h1 | ⟨n, hn, h1⟩
  · exact absurd h1 (by decide)
  · exact ⟨n, by simpa using (List.mem_filter.1 hn).2, h1⟩

/-- What the precondition says of the elements. -/
theorem good {q : FVec Ideal S8x4096x1024 .bf16} {kv : FVec Ideal S8x4096x256 .bf16} {mk : IVec S8x4096x4096 8} {wk : FVec Ideal S16x64x256 .f32}
    {wv : FVec Ideal S16x256x64 .f32} (hp : fn (F := Ideal) q kv mk wk wv = fun _ => 1#1) : Good q kv mk wk := by
  have h0 := congrFun hp ix0
  obtain ⟨h1, hw⟩ := and_one h0
  obtain ⟨h2, hk⟩ := and_one h1
  obtain ⟨h3, hq⟩ := and_one h2
  obtain ⟨hm, hs⟩ := and_one h3
  refine ⟨fun i => real_of_abs (Host.reduce_andi_all _ _ _ _ _ hq i), fun i => real_of_abs (Host.reduce_andi_all _ _ _ _ _ hk i),
    fun i => real_of_abs (Host.reduce_andi_all _ _ _ _ _ hw i), fun b s k => ?_, fun b s => ?_⟩
  · rcases or_one (Host.reduce_andi_all _ _ _ _ _ hm (ix3 b s k)) with h | h
    · exact Or.inl (wide_zero _ h)
    · obtain ⟨ha, hb⟩ := and_one h
      exact Or.inr ⟨wide_one _ ha, pos_le hb⟩
  · obtain ⟨i, hi, h⟩ := reduce_or _ _ _ _ _ rfl (Host.reduce_andi_all _ _ _ _ _ hs (ix2 b s))
    idx_vars i
    have hi0 := congrArg Fin.val (congrFun hi 0)
    have hi1 := congrArg Fin.val (congrFun hi 1)
    obtain rfl : i0 = b := Fin.ext hi0
    obtain rfl : i1 = s := Fin.ext hi1
    exact ⟨i2, wide_one _ h⟩

end Cert.Pre_selected

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_selected
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.MixReference
public import proofs.«01_k».proof.Proof.GdnReference
public import proofs.«01_k».proof.Proof.DsaInReference
public import proofs.«01_k».proof.Proof.ModValue
public import proofs.«01_k».proof.Proof.AttnValue
public import proofs.«01_k».proof.Proof.AttnReference
public import proofs.«01_k».proof.Proof.AttnPre
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The idealized kernel's three named constants stand for the values the table gives them. -/
theorem preserves : Cert.preserves_Kernel_KernelIdeal :=
  ⟨IdealRules.named_const.statement Cert.KernelIdeal.κ "scale" .f32 0x3E38AA3B#32 (((8 * (Real.log 2))⁻¹ : ℝ) : EReal) rfl,
    IdealRules.named_const.statement Cert.KernelIdeal.κ "masked" .f32 0xF1800000#32 ⊥ rfl,
    IdealRules.named_const.statement Cert.KernelIdeal.κ "unmask" .f32 0x71800000#32 ⊤ rfl⟩

set_option maxHeartbeats 1600000 in
/-- Where the mask selects, for every query, at least one key and none after it, and the queries, keys and key weights are
    finite, the attention kernel computes what its reference computes. -/
theorem algebraic : Cert.algebraic_KernelIdeal_ReferenceIdeal_pre_selected := by
  pair_intro
  · run_from Cert.KernelIdeal.Gen.run_main m g
  · run_from Cert.ReferenceIdeal.Value.run m' g'
    refine (Cert.ReferenceIdeal.Value.res_eq m' c).trans ?_
    obtain ⟨h0, h1, h2, h3, h4⟩ := hagree c
    rw [h0, h1, h2, h3, h4]
    exact (Cert.KernelIdeal.Value.final m c (Cert.Pre_selected.good (hpre c))).symm

set_option maxHeartbeats 1600000 in
/-- The projection and feed-forward kernel computes what its reference computes. -/
theorem algebraic2 : Cert.algebraic_Kernel2Ideal_Reference2Ideal := by
  pair_intro
  · run_from Cert.Kernel2Ideal.Gen.run_main m g
  · run_from Cert.Reference2Ideal.Value.run m' g'
    refine (Cert.Reference2Ideal.Value.res_eq m' c).trans ?_
    obtain ⟨h0, h1, h2, h3, h4, h5, h6⟩ := hagree c
    rw [h0, h1, h2, h3, h4, h5, h6]
    exact (Cert.Kernel2Ideal.Value.final m c).symm

set_option maxHeartbeats 1600000 in
/-- The kernel of the gated linear attention's input projections computes what its reference computes, in both results. -/
theorem algebraic3 : Cert.algebraic_Kernel3Ideal_Reference3Ideal := by
  pair_intro
  · run_from Cert.Kernel3Ideal.Gen.run_main m g
  · run_from Cert.Reference3Ideal.Value.run m' g'
    · exact (Cert.Reference3Ideal.Value.qkvz_eq _ _ _ _).trans (Cert.Kernel3Ideal.Value.final7 m c).symm
    · refine ((Cert.Reference3Ideal.Value.res_parts m' c).trans (Cert.Reference3Ideal.Value.gates_eq _ _ _ _ _ _)).trans ?_
      obtain ⟨h0, h1, h2, h3, h4, h5⟩ := hagree c
      rw [h0, h1, h2, h3, h4, h5]
      exact (Cert.Kernel3Ideal.Value.final8 m c).symm

set_option maxHeartbeats 1600000 in
/-- The kernel of the sparse attention's input projections computes what its reference computes, in all four results. -/
theorem algebraic4 : Cert.algebraic_Kernel4Ideal_Reference4Ideal := by
  pair_intro
  · run_from Cert.Kernel4Ideal.Gen.run_main m g
    all_goals first
      | exact Cert.Kernel4Ideal.Gen.V_main_arg1 m c
      | exact Cert.Kernel4Ideal.Gen.V_main_arg3 m c
      | exact Cert.Kernel4Ideal.Gen.V_main_arg4 m c
      | exact Cert.Kernel4Ideal.Gen.V_main_arg5 m c
      | exact Cert.Kernel4Ideal.Gen.V_main_arg6 m c
      | exact Cert.Kernel4Ideal.Gen.V_main_arg7 m c
      | exact Cert.Kernel4Ideal.Gen.V_main_arg8 m c
      | exact Cert.Kernel4Ideal.Gen.V_main_arg9 m c
  · run_from Cert.Reference4Ideal.Value.run m' g'
    · refine ((Cert.Reference4Ideal.Value.res_parts0 m' c).trans (Cert.Reference4Ideal.Value.queries_eq _ _ _ _ _ _)).trans ?_
      obtain ⟨h0, h1, h2, h3, h4, h5, h6, h7, h8, h9⟩ := hagree c
      rw [h0, h1, h2, h3, h4, h6]
      exact (Cert.Kernel4Ideal.Value.final10 m c).symm
    · refine ((Cert.Reference4Ideal.Value.res_parts1 m' c).trans (Cert.Reference4Ideal.Value.index_eq _ _ _ _ _ _)).trans ?_
      obtain ⟨h0, h1, h2, h3, h4, h5, h6, h7, h8, h9⟩ := hagree c
      rw [h0, h1, h2, h3, h4, h7]
      exact (Cert.Kernel4Ideal.Value.final11 m c).symm
    · refine ((Cert.Reference4Ideal.Value.res_parts2 m' c).trans (Cert.Reference4Ideal.Value.key_eq _ _ _ _ _)).trans ?_
      obtain ⟨h0, h1, h2, h3, h4, h5, h6, h7, h8, h9⟩ := hagree c
      rw [h0, h1, h2, h3, h5]
      exact (Cert.Kernel4Ideal.Value.final12 m c).symm
    · refine ((Cert.Reference4Ideal.Value.res_parts3 m' c).trans (Cert.Reference4Ideal.Value.aux_eq _ _ _ _ _ _)).trans ?_
      obtain ⟨h0, h1, h2, h3, h4, h5, h6, h7, h8, h9⟩ := hagree c
      rw [h0, h1, h2, h3, h8, h9]
      exact (Cert.Kernel4Ideal.Value.final13 m c).symm

set_option maxHeartbeats 1600000 in
/-- The modulation kernel computes what its reference computes. -/
theorem algebraic5 : Cert.algebraic_Kernel5Ideal_Reference5Ideal := by
  pair_intro
  · run_from Cert.Kernel5Ideal.Gen.run_main m g
  · run_from Cert.Reference5Ideal.Value.run m' g'
    exact (Cert.Reference5Ideal.Value.modA_eq _ _ _).trans (Cert.Kernel5Ideal.Value.final m c).symm

/-- The reference of the projection and feed-forward network leaves its arguments and the counters as they were. -/
theorem frame_reference2 : Cert.quiescent_Reference2Ideal := by
  intro m g _
  refine (θ_run Cert.Reference2Ideal.defs _ _).mono (fun r h => ⟨fun c => (h c).2, ?_⟩) (Cert.Reference2Ideal.Value.run (F := Ideal) m g)
  exact sem_eq_zero_of_no_sems (by decide) r.2

/-- The attention's reference leaves its arguments and the counters as they were. -/
theorem frame_reference : Cert.quiescent_ReferenceIdeal := by
  intro m g _
  refine (θ_run Cert.ReferenceIdeal.defs _ _).mono (fun r h => ⟨fun c => (h c).2, ?_⟩) (Cert.ReferenceIdeal.Value.run (F := Ideal) m g)
  exact sem_eq_zero_of_no_sems (by decide) r.2

/-- The reference of the gated linear attention's input projections leaves its arguments and the counters as they were. -/
theorem frame_reference3 : Cert.quiescent_Reference3Ideal := by
  intro m g _
  refine (θ_run Cert.Reference3Ideal.defs _ _).mono (fun r h => ⟨fun c => (h c).2.2, ?_⟩) (Cert.Reference3Ideal.Value.run (F := Ideal) m g)
  exact sem_eq_zero_of_no_sems (by decide) r.2

/-- The reference of the sparse attention's input projections leaves its arguments and the counters as they were. -/
theorem frame_reference4 : Cert.quiescent_Reference4Ideal := by
  intro m g _
  refine (θ_run Cert.Reference4Ideal.defs _ _).mono (fun r h => ⟨fun c => (h c).2.2.2.2, ?_⟩) (Cert.Reference4Ideal.Value.run (F := Ideal) m g)
  exact sem_eq_zero_of_no_sems (by decide) r.2

/-- The reference of the layers' modulation leaves its arguments and the counters as they were. -/
theorem frame_reference5 : Cert.quiescent_Reference5Ideal := by
  intro m g _
  refine (θ_run Cert.Reference5Ideal.defs _ _).mono (fun r h => ⟨fun c => (h c).2, ?_⟩) (Cert.Reference5Ideal.Value.run (F := Ideal) m g)
  exact sem_eq_zero_of_no_sems (by decide) r.2

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts, Cert.Reference5Ideal.Gen.facts,
  Cert.Pre_selected.Gen.facts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  preserves, algebraic, trivial, algebraic2, trivial, algebraic3, trivial, algebraic4, trivial, algebraic5⟩

end Cert.Proof

end
